-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_counts_in_range : Cert.Pre_counts_in_range.Facts),
    quiescent_Kernel (hKernel := hKernel) (hPre_counts_in_range := hPre_counts_in_range)
    ∧ quiescent_KernelIdeal (hKernelIdeal := hKernelIdeal) (hPre_counts_in_range := hPre_counts_in_range)
    ∧ quiescent_ReferenceIdeal (hReferenceIdeal := hReferenceIdeal) (hPre_counts_in_range := hPre_counts_in_range)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_counts_in_range := hPre_counts_in_range)
    ∧ preserves_Kernel2_Kernel2Ideal
    ∧ algebraic_Kernel2Ideal_Reference2Ideal (hKernel2Ideal := hKernel2Ideal) (hReference2Ideal := hReference2Ideal)
-- ==== Pre_counts_in_range.lean ====
abbrev S32 : Shape := ⟨1, ![32]⟩
abbrev S73728x1x1024 : Shape := ⟨3, ![73728, 1, 1024]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S73728x1x1024 .f32) (main_arg2 : FVec F S32x1024x1024 .f32) (main_arg3 : FVec F S32x1024 .f32) (main_arg4 : FVec F S32x1024x1024 .f32) (main_arg5 : FVec F S32x1024 .f32) (main_arg6 : FVec F S32x1024x1024 .f32) (main_arg7 : FVec F S32x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 65536#32
  let main_v6 : IVec S_ 1 := cmpi .eq main_v5 main_c_2
  let main_v7 : IVec S32 1 := broadcastInDim S32 ![] bcast_S_S32 main_v6
  let main_v8 : IVec S32 1 := andi main_v4 main_v7
  main_v8
-- ==== Kernel.lean ====
abbrev S32 : Shape := ⟨1, ![32]⟩
abbrev S73728x1x1024 : Shape := ⟨3, ![73728, 1, 1024]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1 : Shape := ⟨2, ![32, 1]⟩
abbrev S32x32 : Shape := ⟨2, ![32, 32]⟩
abbrev S2x256x1024 : Shape := ⟨3, ![2, 256, 1024]⟩
abbrev S2 : Shape := ⟨1, ![2]⟩
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩
abbrev S256x1x1024 : Shape := ⟨3, ![256, 1, 1024]⟩
abbrev S1x1024x1024 : Shape := ⟨3, ![1, 1024, 1024]⟩
abbrev S1x1024 : Shape := ⟨2, ![1, 1024]⟩

abbrev nBuf : Space → Nat
  | .hbm => 114
  | .vmem => 11
  | .smem => 4
  | _ => 0

abbrev bufTy : (tb : Table) → Fin (tcTables nBuf tb) → BufTy
  | .hbm, ⟨0, _⟩ => ⟨S32, .i32⟩
  | .hbm, ⟨1, _⟩ => ⟨S73728x1x1024, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S288, .i32⟩
  | .hbm, ⟨39, _⟩ => ⟨S_, .i32⟩
  | .hbm, ⟨40, _⟩ => ⟨S288, .i32⟩
  | .hbm, ⟨41, _⟩ => ⟨S288, .i32⟩
  | .hbm, ⟨42, _⟩ => ⟨S1x32, .i32⟩
  | .hbm, ⟨43, _⟩ => ⟨S288x1, .i32⟩
  | .hbm, ⟨44, _⟩ => ⟨S288x32, .i32⟩
  | .hbm, ⟨45, _⟩ => ⟨S288x32, .i32⟩
  | .hbm, ⟨46, _⟩ => ⟨S288x32, .i1⟩
  | .hbm, ⟨47, _⟩ => ⟨S288x32, .i32⟩
  | .hbm, ⟨48, _⟩ => ⟨S_, .i32⟩
  | .hbm, ⟨49, _⟩ => ⟨S288, .i32⟩
  | .hbm, ⟨50, _⟩ => ⟨S_, .i32⟩
  | .hbm, ⟨51, _⟩ => ⟨S288, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S32, .i32⟩
  | .hbm, ⟨68, _⟩ => ⟨S_, .i32⟩
  | .hbm, ⟨69, _⟩ => ⟨S32, .i32⟩
  | .hbm, ⟨70, _⟩ => ⟨S32, .i1⟩
  | .hbm, ⟨71, _⟩ => ⟨S32, .i32⟩
  | .hbm, ⟨72, _⟩ => ⟨S_, .i32⟩
  | .hbm, ⟨73, _⟩ => ⟨S_, .i32⟩
  | .hbm, ⟨74, _⟩ => ⟨S32, .i32⟩
  | .hbm, ⟨75, _⟩ => ⟨S32, .i32⟩
  | .hbm, ⟨76, _⟩ => ⟨S32, .i32⟩
  | .hbm, ⟨77, _⟩ => ⟨S1x32, .i32⟩
  | .hbm, ⟨78, _⟩ => ⟨S32x1, .i32⟩
  | .hbm, ⟨79, _⟩ => ⟨S32x32, .i32⟩
  | .hbm, ⟨80, _⟩ => ⟨S32x32, .i32⟩
  | .hbm, ⟨81, _⟩ => ⟨S32x32, .i1⟩
  | .hbm, ⟨82, _⟩ => ⟨S1x32, .i1⟩
  | .hbm, ⟨83, _⟩ => ⟨S32x32, .i1⟩
  | .hbm, ⟨84, _⟩ => ⟨S32x32, .i1⟩
  | .hbm, ⟨85, _⟩ => ⟨S1x32, .i32⟩
  | .hbm, ⟨86, _⟩ => ⟨S_, .i32⟩
  | .hbm, ⟨87, _⟩ => ⟨S_, .i32⟩
  | .hbm, ⟨88, _⟩ => ⟨S32x32, .i32⟩
  | .hbm, ⟨89, _⟩ => ⟨S32x32, .i32⟩
  | .hbm, ⟨90, _⟩ => ⟨S32x32, .i32⟩
  | .hbm, ⟨91, _⟩ => ⟨S_, .i32⟩
  | .hbm, ⟨92, _⟩ => ⟨S32, .i32⟩
  | .hbm, ⟨93, _⟩ => ⟨S288x1, .i32⟩
  | .hbm, ⟨94, _⟩ => ⟨S1x32, .i32⟩
  | .hbm, ⟨95, _⟩ => ⟨S288x32, .i32⟩
  | .hbm, ⟨96, _⟩ => ⟨S288x32, .i32⟩
  | .hbm, ⟨97, _⟩ => ⟨S288x32, .i1⟩
  | .hbm, ⟨98, _⟩ => ⟨S_, .i32⟩
  | .hbm, ⟨99, _⟩ => ⟨S32, .i32⟩
  | .hbm, ⟨100, _⟩ => ⟨S32, .i32⟩
  | .hbm, ⟨101, _⟩ => ⟨S_, .i32⟩
  | .hbm, ⟨102, _⟩ => ⟨S_, .i32⟩
  | .hbm, ⟨103, _⟩ => ⟨S288x32, .i32⟩
  | .hbm, ⟨104, _⟩ => ⟨S288x32, .i32⟩
  | .hbm, ⟨105, _⟩ => ⟨S288x32, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S288x32, .i32⟩
  | .hbm, ⟨110, _⟩ => ⟨S288x32, .i32⟩
  | .hbm, ⟨111, _⟩ => ⟨S288x32, .i32⟩
  | .hbm, ⟨112, _⟩ => ⟨S_, .i32⟩
  | .hbm, ⟨113, _⟩ => ⟨S73728x1x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x1024x1024, .f32⟩
  | .local _ .vmem, ⟨6, _⟩ => ⟨S2x1024x1024, .f32⟩
  | .local _ .vmem, ⟨7, _⟩ => ⟨S2x1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | .local _ .smem, ⟨3, _⟩ => ⟨S288, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_2 : Ref sig .tc := ⟨.hbm, 32, rfl⟩
abbrev main_v5 : Ref sig .tc := ⟨.hbm, 33, rfl⟩
abbrev main_v6 : Ref sig .tc := ⟨.hbm, 34, rfl⟩
abbrev main_call1_call0_c : Ref sig .tc := ⟨.hbm, 35, rfl⟩
abbrev main_call1_call0_v0 : Ref sig .tc := ⟨.hbm, 36, rfl⟩
abbrev main_v7 : Ref sig .tc := ⟨.hbm, 37, rfl⟩
abbrev main_v8 : Ref sig .tc := ⟨.hbm, 38, rfl⟩
abbrev main_c_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_v20 : Ref sig .tc := ⟨.hbm, 52, rfl⟩
abbrev main_v21 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c : Ref sig .tc := ⟨.hbm, 61, rfl⟩
abbrev main_call2_v6 : Ref sig .tc := ⟨.hbm, 62, rfl⟩
abbrev main_call2_v7 : Ref sig .tc := ⟨.hbm, 63, rfl⟩
abbrev main_call2_c_0 : Ref sig .tc := ⟨.hbm, 64, rfl⟩
abbrev main_call2_v8 : Ref sig .tc := ⟨.hbm, 65, rfl⟩
abbrev main_v22 : Ref sig .tc := ⟨.hbm, 66, rfl⟩
abbrev main_v24 : Ref sig .tc := ⟨.hbm, 67, rfl⟩
abbrev main_c_7 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_call3_call0_c : Ref sig .tc := ⟨.hbm, 72, rfl⟩
abbrev main_call3_call0_v0 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_8 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v40 : Ref sig .tc := ⟨.hbm, 90, rfl⟩
abbrev main_c_9 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_10 : Ref sig .tc := ⟨.hbm, 98, rfl⟩
abbrev main_v47 : Ref sig .tc := ⟨.hbm, 99, rfl⟩
abbrev main_v48 : Ref sig .tc := ⟨.hbm, 100, rfl⟩
abbrev main_c_11 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_v49 : Ref sig .tc := ⟨.hbm, 105, rfl⟩
abbrev main_c_12 : Ref sig .tc := ⟨.hbm, 106, rfl⟩
abbrev main_c_13 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v51 : Ref sig .tc := ⟨.hbm, 111, rfl⟩
abbrev main_c_14 : Ref sig .tc := ⟨.hbm, 112, rfl⟩
abbrev main_v53 : Ref sig .tc := ⟨.hbm, 113, rfl⟩
abbrev main_v19 : Ref sig .tc := ⟨.smem, 0, rfl⟩
abbrev main_v23 : Ref sig .tc := ⟨.smem, 1, rfl⟩
abbrev main_v50 : Ref sig .tc := ⟨.smem, 2, rfl⟩
abbrev main_v52 : Ref sig .tc := ⟨.smem, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_v19.idx, main_v23.idx, main_v50.idx, main_v52.idx], fun | 0 => main_v19.names | 1 => main_v23.names | 2 => main_v50.names | 3 => main_v52.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond2 (i : grid0.Coords) : BitVec 1 :=
  let arg0 : BitVec 32 := BitVec.ofNat 32 (i 0).val
  let c0_i32_0 : BitVec 32 := 0#32
  let v4 : BitVec 1 := Scalar.cmpi .eq arg0 c0_i32_0
  let v5 : BitVec 32 := Scalar.extui v4
  let c0_i32_1 : BitVec 32 := 0#32
  let v6 : BitVec 1 := Scalar.cmpi .ne v5 c0_i32_1
  v6

def k0_mult1 : BitVec 32 :=
  let c0_i32_77 : BitVec 32 := 0#32
  c0_i32_77
def k0_off1 (v159 : BitVec 32) : Fin 1 → Nat :=
  ![v159.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_off2 (v159 : BitVec 32) : Fin 3 → Nat :=
  let c0_i32_86 : BitVec 32 := 0#32
  let c0_i32_87 : BitVec 32 := 0#32
  ![v159.toNat, 0, 0]
def k0_off3 (v158 : BitVec 32) : Fin 3 → Nat :=
  let c0_i32_88 : BitVec 32 := 0#32
  let c0_i32_89 : BitVec 32 := 0#32
  ![v158.toNat, 0, 0]

def k0_chk2 (i : grid0.Coords) (v0 : BitVec 32) (v158 : BitVec 32) : Prop :=
  (∀ (k0_h1 : k0_cond1 i v0 = 1#1), ∀ (k0_h2 : k0_cond2 i = 1#1), ∀ a, (k0_off3 v158) a + S1x1024x1024.size a ≤ S32x1024x1024.size a)
theorem k0_off3_inb : ∀ (i : grid0.Coords) (v0 : BitVec 32) (v158 : BitVec 32) (k0_hw2 : k0_chk2 i v0 v158), ∀ (k0_h1 : k0_cond1 i v0 = 1#1), ∀ (k0_h2 : k0_cond2 i = 1#1), ∀ a, (k0_off3 v158) a + S1x1024x1024.size a ≤ S32x1024x1024.size a := fun i v0 v158 k0_hw2 k0_h1 k0_h2 => k0_hw2 k0_h1 k0_h2

def k0_off4 (v159 : BitVec 32) : Fin 1 → Nat :=
  ![v159.toNat]
def k0_off5 (v159 : BitVec 32) : Fin 3 → Nat :=
  let c0_i32_90 : BitVec 32 := 0#32
  let c0_i32_91 : BitVec 32 := 0#32
  ![v159.toNat, 0, 0]

def k0_chk1 (i : grid0.Coords) (v0 : BitVec 32) (v159 : BitVec 32) : Prop :=
  (∀ (k0_h1 : k0_cond1 i v0 = 1#1), ∀ (k0_h2 : k0_cond2 i = 1#1), ∀ a, (k0_off1 v159) a + S1.size a ≤ S2.size a) ∧
  (∀ (k0_h1 : k0_cond1 i v0 = 1#1), ∀ (k0_h2 : k0_cond2 i = 1#1), ∀ a, (k0_off2 v159) a + S1x1024x1024.size a ≤ S2x1024x1024.size a) ∧
  (∀ (k0_h1 : k0_cond1 i v0 = 1#1), ∀ (k0_h2 : k0_cond2 i = 1#1), ∀ a, (k0_off4 v159) a + S1.size a ≤ S2.size a) ∧
  (∀ (k0_h1 : k0_cond1 i v0 = 1#1), ∀ (k0_h2 : k0_cond2 i = 1#1), ∀ a, (k0_off5 v159) a + S1x1024x1024.size a ≤ S2x1024x1024.size a)
theorem k0_off1_inb : ∀ (i : grid0.Coords) (v0 : BitVec 32) (v159 : BitVec 32) (k0_hw1 : k0_chk1 i v0 v159), ∀ (k0_h1 : k0_cond1 i v0 = 1#1), ∀ (k0_h2 : k0_cond2 i = 1#1), ∀ a, (k0_off1 v159) a + S1.size a ≤ S2.size a := fun i v0 v159 k0_hw1 k0_h1 k0_h2 => k0_hw1.1 k0_h1 k0_h2
theorem k0_off2_inb : ∀ (i : grid0.Coords) (v0 : BitVec 32) (v159 : BitVec 32) (k0_hw1 : k0_chk1 i v0 v159), ∀ (k0_h1 : k0_cond1 i v0 = 1#1), ∀ (k0_h2 : k0_cond2 i = 1#1), ∀ a, (k0_off2 v159) a + S1x1024x1024.size a ≤ S2x1024x1024.size a := fun i v0 v159 k0_hw1 k0_h1 k0_h2 => k0_hw1.2.1 k0_h1 k0_h2
theorem k0_off4_inb : ∀ (i : grid0.Coords) (v0 : BitVec 32) (v159 : BitVec 32) (k0_hw1 : k0_chk1 i v0 v159), ∀ (k0_h1 : k0_cond1 i v0 = 1#1), ∀ (k0_h2 : k0_cond2 i = 1#1), ∀ a, (k0_off4 v159) a + S1.size a ≤ S2.size a := fun i v0 v159 k0_hw1 k0_h1 k0_h2 => k0_hw1.2.2.1 k0_h1 k0_h2
theorem k0_off5_inb : ∀ (i : grid0.Coords) (v0 : BitVec 32) (v159 : BitVec 32) (k0_hw1 : k0_chk1 i v0 v159), ∀ (k0_h1 : k0_cond1 i v0 = 1#1), ∀ (k0_h2 : k0_cond2 i = 1#1), ∀ a, (k0_off5 v159) a + S1x1024x1024.size a ≤ S2x1024x1024.size a := fun i v0 v159 k0_hw1 k0_h1 k0_h2 => k0_hw1.2.2.2 k0_h1 k0_h2

def k0_mult2 (i : grid0.Coords) : BitVec 32 :=
  let arg0 : BitVec 32 := BitVec.ofNat 32 (i 0).val
  let c1_i32_77 : BitVec 32 := 1#32
  let v151 : BitVec 32 := Scalar.addi arg0 c1_i32_77
  let c256_i32_78 : BitVec 32 := 256#32
  let v152 : BitVec 32 := Scalar.muli v151 c256_i32_78
  v152
def k0_off6 (i : grid0.Coords) : Fin 1 → Nat :=
  let arg0 : BitVec 32 := BitVec.ofNat 32 (i 0).val
  let c1_i32_77 : BitVec 32 := 1#32
  let v151 : BitVec 32 := Scalar.addi arg0 c1_i32_77
  let c2_i32_85 : BitVec 32 := 2#32
  let c0_i32_86 : BitVec 32 := 0#32
  let v164 : BitVec 1 := Scalar.cmpi .eq c2_i32_85 c0_i32_86
  let c1_i32_87 : BitVec 32 := 1#32
  let v165 : BitVec 32 := Scalar.select v164 c1_i32_87 c2_i32_85
  let v166 : BitVec 32 := Scalar.remsi v151 v165
  let c0_i32_89 : BitVec 32 := 0#32
  let v168 : BitVec 1 := Scalar.cmpi .slt v166 c0_i32_89
  let c0_i32_90 : BitVec 32 := 0#32
  let v169 : BitVec 1 := Scalar.cmpi .slt v165 c0_i32_90
  let v170 : BitVec 1 := Scalar.xori v168 v169
  let c0_i32_88 : BitVec 32 := 0#32
  let v167 : BitVec 1 := Scalar.cmpi .ne v166 c0_i32_88
  let v171 : BitVec 1 := Scalar.andi v170 v167
  let v172 : BitVec 32 := Scalar.addi v166 v165
  let v173 : BitVec 32 := Scalar.select v171 v172 v166
  ![v173.toNat]
def k0_off7 (i : grid0.Coords) : Fin 3 → Nat :=
  let arg0 : BitVec 32 := BitVec.ofNat 32 (i 0).val
  let c1_i32_77 : BitVec 32 := 1#32
  let v151 : BitVec 32 := Scalar.addi arg0 c1_i32_77
  let c2_i32_79 : BitVec 32 := 2#32
  let c0_i32_80 : BitVec 32 := 0#32
  let v154 : BitVec 1 := Scalar.cmpi .eq c2_i32_79 c0_i32_80
  let c1_i32_81 : BitVec 32 := 1#32
  let v155 : BitVec 32 := Scalar.select v154 c1_i32_81 c2_i32_79
  let v156 : BitVec 32 := Scalar.remsi v151 v155
  let c0_i32_83 : BitVec 32 := 0#32
  let v158 : BitVec 1 := Scalar.cmpi .slt v156 c0_i32_83
  let c0_i32_84 : BitVec 32 := 0#32
  let v159 : BitVec 1 := Scalar.cmpi .slt v155 c0_i32_84
  let v160 : BitVec 1 := Scalar.xori v158 v159
  let c0_i32_82 : BitVec 32 := 0#32
  let v157 : BitVec 1 := Scalar.cmpi .ne v156 c0_i32_82
  let v161 : BitVec 1 := Scalar.andi v160 v157
  let v162 : BitVec 32 := Scalar.addi v156 v155
  let v163 : BitVec 32 := Scalar.select v161 v162 v156
  let c0_i32_92 : BitVec 32 := 0#32
  let c0_i32_93 : BitVec 32 := 0#32
  ![v163.toNat, 0, 0]
def k0_off8 (i : grid0.Coords) : Fin 3 → Nat :=
  let arg0 : BitVec 32 := BitVec.ofNat 32 (i 0).val
  let c1_i32_77 : BitVec 32 := 1#32
  let v151 : BitVec 32 := Scalar.addi arg0 c1_i32_77
  let c256_i32_78 : BitVec 32 := 256#32
  let v152 : BitVec 32 := Scalar.muli v151 c256_i32_78
  let v153 : BitVec 32 := v152
  let c0_i32_91 : BitVec 32 := 0#32
  let c0_i32_94 : BitVec 32 := 0#32
  ![v153.toNat, 0, 0]
def k0_cond3 (i : grid0.Coords) (v0 : BitVec 32) : BitVec 1 :=
  let arg0 : BitVec 32 := BitVec.ofNat 32 (i 0).val
  let c1_i32 : BitVec 32 := 1#32
  let v7 : BitVec 32 := Scalar.addi arg0 c1_i32
  let v8 : BitVec 1 := Scalar.cmpi .slt v7 v0
  let v9 : BitVec 32 := Scalar.extui v8
  let c0_i32_2 : BitVec 32 := 0#32
  let v10 : BitVec 1 := Scalar.cmpi .ne v9 c0_i32_2
  v10

def k0_off9 (i : grid0.Coords) : Fin 1 → Nat :=
  let arg0 : BitVec 32 := BitVec.ofNat 32 (i 0).val
  let v12 : Index := Scalar.indexCast arg0
  ![v12.toNat]
def k0_off10 (i : grid0.Coords) : Fin 1 → Nat :=
  let arg0 : BitVec 32 := BitVec.ofNat 32 (i 0).val
  let c1_i32_4 : BitVec 32 := 1#32
  let v14 : BitVec 32 := Scalar.subi arg0 c1_i32_4
  let c0_i32_5 : BitVec 32 := 0#32
  let v15 : BitVec 32 := Scalar.maxsi v14 c0_i32_5
  let v16 : Index := Scalar.indexCast v15
  ![v16.toNat]
def k0_off11 (i : grid0.Coords) : Fin 1 → Nat :=
  let arg0 : BitVec 32 := BitVec.ofNat 32 (i 0).val
  let v151 : Index := Scalar.indexCast arg0
  ![v151.toNat]
def k0_off12 (v152 : BitVec 32) : Fin 1 → Nat :=
  ![v152.toNat]
def k0_cond4 (i : grid0.Coords) (v13 : BitVec 32) (v17 : BitVec 32) : BitVec 1 :=
  let arg0 : BitVec 32 := BitVec.ofNat 32 (i 0).val
  let c0_i32_3 : BitVec 32 := 0#32
  let v11 : BitVec 1 := Scalar.cmpi .eq arg0 c0_i32_3
  let v18 : BitVec 1 := Scalar.cmpi .ne v13 v17
  let v19 : BitVec 1 := Scalar.ori v11 v18
  let v20 : BitVec 32 := Scalar.extui v19
  let c0_i32_6 : BitVec 32 := 0#32
  let v21 : BitVec 1 := Scalar.cmpi .ne v20 c0_i32_6
  v21

def k0_off13 (v152 : BitVec 32) : Fin 3 → Nat :=
  let c0_i32_77 : BitVec 32 := 0#32
  let c0_i32_78 : BitVec 32 := 0#32
  ![v152.toNat, 0, 0]
def k0_off14 (v154 : BitVec 32) : Fin 3 → Nat :=
  let c0_i32_79 : BitVec 32 := 0#32
  let c0_i32_80 : BitVec 32 := 0#32
  ![v154.toNat, 0, 0]

def k0_chk5 (i : grid0.Coords) (v0 : BitVec 32) (v13 : BitVec 32) (v17 : BitVec 32) (v154 : BitVec 32) : Prop :=
  (∀ (k0_h1 : k0_cond1 i v0 = 1#1), ∀ (k0_h4 : k0_cond4 i v13 v17 = 1#1), ∀ a, (k0_off14 v154) a + S1x1024x1024.size a ≤ S32x1024x1024.size a)
theorem k0_off14_inb : ∀ (i : grid0.Coords) (v0 : BitVec 32) (v13 : BitVec 32) (v17 : BitVec 32) (v154 : BitVec 32) (k0_hw5 : k0_chk5 i v0 v13 v17 v154), ∀ (k0_h1 : k0_cond1 i v0 = 1#1), ∀ (k0_h4 : k0_cond4 i v13 v17 = 1#1), ∀ a, (k0_off14 v154) a + S1x1024x1024.size a ≤ S32x1024x1024.size a := fun i v0 v13 v17 v154 k0_hw5 k0_h1 k0_h4 => k0_hw5 k0_h1 k0_h4

def k0_off15 (v152 : BitVec 32) : Fin 1 → Nat :=
  ![v152.toNat]
def k0_off16 (v152 : BitVec 32) : Fin 3 → Nat :=
  let c0_i32_81 : BitVec 32 := 0#32
  let c0_i32_82 : BitVec 32 := 0#32
  ![v152.toNat, 0, 0]
def k0_off17 (i : grid0.Coords) : Fin 1 → Nat :=
  let arg0 : BitVec 32 := BitVec.ofNat 32 (i 0).val
  let v173 : Index := Scalar.indexCast arg0
  ![v173.toNat]
def k0_off18 (i : grid0.Coords) : Fin 1 → Nat :=
  let arg0 : BitVec 32 := BitVec.ofNat 32 (i 0).val
  let v199 : Index := Scalar.indexCast arg0
  ![v199.toNat]
def k0_off19 (v152 : BitVec 32) : Fin 1 → Nat :=
  let c1_i32_102 : BitVec 32 := 1#32
  let v201 : BitVec 32 := Scalar.subi c1_i32_102 v152
  ![v201.toNat]
def k0_cond5 (v174 : BitVec 32) : BitVec 1 :=
  let c32_i32 : BitVec 32 := 32#32
  let v175 : BitVec 1 := Scalar.cmpi .slt v174 c32_i32
  let v176 : BitVec 32 := Scalar.extui v175
  let c0_i32_89 : BitVec 32 := 0#32
  let v177 : BitVec 1 := Scalar.cmpi .ne v176 c0_i32_89
  v177

def k0_off20 (v152 : BitVec 32) : Fin 3 → Nat :=
  let c1_i32_102 : BitVec 32 := 1#32
  let v201 : BitVec 32 := Scalar.subi c1_i32_102 v152
  let c0_i32_103 : BitVec 32 := 0#32
  let c0_i32_104 : BitVec 32 := 0#32
  ![v201.toNat, 0, 0]
def k0_off21 (v200 : BitVec 32) : Fin 3 → Nat :=
  let c0_i32_105 : BitVec 32 := 0#32
  let c0_i32_106 : BitVec 32 := 0#32
  ![v200.toNat, 0, 0]

def k0_chk7 (i : grid0.Coords) (v0 : BitVec 32) (v13 : BitVec 32) (v17 : BitVec 32) (v174 : BitVec 32) (v200 : BitVec 32) : Prop :=
  (∀ (k0_h1 : k0_cond1 i v0 = 1#1), ∀ (k0_h4 : k0_cond4 i v13 v17 = 1#1), ∀ (k0_h5 : k0_cond5 v174 = 1#1), ∀ a, (k0_off21 v200) a + S1x1024x1024.size a ≤ S32x1024x1024.size a)
theorem k0_off21_inb : ∀ (i : grid0.Coords) (v0 : BitVec 32) (v13 : BitVec 32) (v17 : BitVec 32) (v174 : BitVec 32) (v200 : BitVec 32) (k0_hw7 : k0_chk7 i v0 v13 v17 v174 v200), ∀ (k0_h1 : k0_cond1 i v0 = 1#1), ∀ (k0_h4 : k0_cond4 i v13 v17 = 1#1), ∀ (k0_h5 : k0_cond5 v174 = 1#1), ∀ a, (k0_off21 v200) a + S1x1024x1024.size a ≤ S32x1024x1024.size a := fun i v0 v13 v17 v174 v200 k0_hw7 k0_h1 k0_h4 k0_h5 => k0_hw7 k0_h1 k0_h4 k0_h5

def k0_off22 (v152 : BitVec 32) : Fin 1 → Nat :=
  let c1_i32_102 : BitVec 32 := 1#32
  let v201 : BitVec 32 := Scalar.subi c1_i32_102 v152
  ![v201.toNat]
def k0_off23 (v152 : BitVec 32) : Fin 3 → Nat :=
  let c1_i32_102 : BitVec 32 := 1#32
  let v201 : BitVec 32 := Scalar.subi c1_i32_102 v152
  let c0_i32_107 : BitVec 32 := 0#32
  let c0_i32_108 : BitVec 32 := 0#32
  ![v201.toNat, 0, 0]

def k0_chk6 (i : grid0.Coords) (v0 : BitVec 32) (v13 : BitVec 32) (v17 : BitVec 32) (v152 : BitVec 32) (v174 : BitVec 32) : Prop :=
  (∀ (k0_h1 : k0_cond1 i v0 = 1#1), ∀ (k0_h4 : k0_cond4 i v13 v17 = 1#1), ∀ (k0_h5 : k0_cond5 v174 = 1#1), ∀ a, (k0_off19 v152) a + S1.size a ≤ S2.size a) ∧
  (∀ (k0_h1 : k0_cond1 i v0 = 1#1), ∀ (k0_h4 : k0_cond4 i v13 v17 = 1#1), ∀ (k0_h5 : k0_cond5 v174 = 1#1), ∀ a, (k0_off20 v152) a + S1x1024x1024.size a ≤ S2x1024x1024.size a) ∧
  (∀ (k0_h1 : k0_cond1 i v0 = 1#1), ∀ (k0_h4 : k0_cond4 i v13 v17 = 1#1), ∀ (k0_h5 : k0_cond5 v174 = 1#1), ∀ a, (k0_off22 v152) a + S1.size a ≤ S2.size a) ∧
  (∀ (k0_h1 : k0_cond1 i v0 = 1#1), ∀ (k0_h4 : k0_cond4 i v13 v17 = 1#1), ∀ (k0_h5 : k0_cond5 v174 = 1#1), ∀ a, (k0_off23 v152) a + S1x1024x1024.size a ≤ S2x1024x1024.size a)
theorem k0_off19_inb : ∀ (i : grid0.Coords) (v0 : BitVec 32) (v13 : BitVec 32) (v17 : BitVec 32) (v152 : BitVec 32) (v174 : BitVec 32) (k0_hw6 : k0_chk6 i v0 v13 v17 v152 v174), ∀ (k0_h1 : k0_cond1 i v0 = 1#1), ∀ (k0_h4 : k0_cond4 i v13 v17 = 1#1), ∀ (k0_h5 : k0_cond5 v174 = 1#1), ∀ a, (k0_off19 v152) a + S1.size a ≤ S2.size a := fun i v0 v13 v17 v152 v174 k0_hw6 k0_h1 k0_h4 k0_h5 => k0_hw6.1 k0_h1 k0_h4 k0_h5
theorem k0_off20_inb : ∀ (i : grid0.Coords) (v0 : BitVec 32) (v13 : BitVec 32) (v17 : BitVec 32) (v152 : BitVec 32) (v174 : BitVec 32) (k0_hw6 : k0_chk6 i v0 v13 v17 v152 v174), ∀ (k0_h1 : k0_cond1 i v0 = 1#1), ∀ (k0_h4 : k0_cond4 i v13 v17 = 1#1), ∀ (k0_h5 : k0_cond5 v174 = 1#1), ∀ a, (k0_off20 v152) a + S1x1024x1024.size a ≤ S2x1024x1024.size a := fun i v0 v13 v17 v152 v174 k0_hw6 k0_h1 k0_h4 k0_h5 => k0_hw6.2.1 k0_h1 k0_h4 k0_h5
theorem k0_off22_inb : ∀ (i : grid0.Coords) (v0 : BitVec 32) (v13 : BitVec 32) (v17 : BitVec 32) (v152 : BitVec 32) (v174 : BitVec 32) (k0_hw6 : k0_chk6 i v0 v13 v17 v152 v174), ∀ (k0_h1 : k0_cond1 i v0 = 1#1), ∀ (k0_h4 : k0_cond4 i v13 v17 = 1#1), ∀ (k0_h5 : k0_cond5 v174 = 1#1), ∀ a, (k0_off22 v152) a + S1.size a ≤ S2.size a := fun i v0 v13 v17 v152 v174 k0_hw6 k0_h1 k0_h4 k0_h5 => k0_hw6.2.2.1 k0_h1 k0_h4 k0_h5
theorem k0_off23_inb : ∀ (i : grid0.Coords) (v0 : BitVec 32) (v13 : BitVec 32) (v17 : BitVec 32) (v152 : BitVec 32) (v174 : BitVec 32) (k0_hw6 : k0_chk6 i v0 v13 v17 v152 v174), ∀ (k0_h1 : k0_cond1 i v0 = 1#1), ∀ (k0_h4 : k0_cond4 i v13 v17 = 1#1), ∀ (k0_h5 : k0_cond5 v174 = 1#1), ∀ a, (k0_off23 v152) a + S1x1024x1024.size a ≤ S2x1024x1024.size a := fun i v0 v13 v17 v152 v174 k0_hw6 k0_h1 k0_h4 k0_h5 => k0_hw6.2.2.2 k0_h1 k0_h4 k0_h5

def k0_off24 (v152 : BitVec 32) : Fin 3 → Nat :=
  let v178 : Index := Scalar.indexCast v152
  let c0_90 : Index := 0#32
  let c0_91 : Index := 0#32
  ![v178.toNat, 0, 0]

def k0_chk4 (i : grid0.Coords) (v0 : BitVec 32) (v13 : BitVec 32) (v17 : BitVec 32) (v152 : BitVec 32) : Prop :=
  (∀ (k0_h1 : k0_cond1 i v0 = 1#1), ∀ (k0_h4 : k0_cond4 i v13 v17 = 1#1), ∀ a, (k0_off12 v152) a + S1.size a ≤ S2.size a) ∧
  (∀ (k0_h1 : k0_cond1 i v0 = 1#1), ∀ (k0_h4 : k0_cond4 i v13 v17 = 1#1), ∀ a, (k0_off13 v152) a + S1x1024x1024.size a ≤ S2x1024x1024.size a) ∧
  (∀ (k0_h1 : k0_cond1 i v0 = 1#1), ∀ (k0_h4 : k0_cond4 i v13 v17 = 1#1), ∀ a, (k0_off15 v152) a + S1.size a ≤ S2.size a) ∧
  (∀ (k0_h1 : k0_cond1 i v0 = 1#1), ∀ (k0_h4 : k0_cond4 i v13 v17 = 1#1), ∀ a, (k0_off16 v152) a + S1x1024x1024.size a ≤ S2x1024x1024.size a) ∧
  (∀ (k0_h1 : k0_cond1 i v0 = 1#1), ∀ (k0_h4 : k0_cond4 i v13 v17 = 1#1), ∀ a, (k0_off24 v152) a + S1x1024x1024.size a ≤ S2x1024x1024.size a)
theorem k0_off12_inb : ∀ (i : grid0.Coords) (v0 : BitVec 32) (v13 : BitVec 32) (v17 : BitVec 32) (v152 : BitVec 32) (k0_hw4 : k0_chk4 i v0 v13 v17 v152), ∀ (k0_h1 : k0_cond1 i v0 = 1#1), ∀ (k0_h4 : k0_cond4 i v13 v17 = 1#1), ∀ a, (k0_off12 v152) a + S1.size a ≤ S2.size a := fun i v0 v13 v17 v152 k0_hw4 k0_h1 k0_h4 => k0_hw4.1 k0_h1 k0_h4
theorem k0_off13_inb : ∀ (i : grid0.Coords) (v0 : BitVec 32) (v13 : BitVec 32) (v17 : BitVec 32) (v152 : BitVec 32) (k0_hw4 : k0_chk4 i v0 v13 v17 v152), ∀ (k0_h1 : k0_cond1 i v0 = 1#1), ∀ (k0_h4 : k0_cond4 i v13 v17 = 1#1), ∀ a, (k0_off13 v152) a + S1x1024x1024.size a ≤ S2x1024x1024.size a := fun i v0 v13 v17 v152 k0_hw4 k0_h1 k0_h4 => k0_hw4.2.1 k0_h1 k0_h4
theorem k0_off15_inb : ∀ (i : grid0.Coords) (v0 : BitVec 32) (v13 : BitVec 32) (v17 : BitVec 32) (v152 : BitVec 32) (k0_hw4 : k0_chk4 i v0 v13 v17 v152), ∀ (k0_h1 : k0_cond1 i v0 = 1#1), ∀ (k0_h4 : k0_cond4 i v13 v17 = 1#1), ∀ a, (k0_off15 v152) a + S1.size a ≤ S2.size a := fun i v0 v13 v17 v152 k0_hw4 k0_h1 k0_h4 => k0_hw4.2.2.1 k0_h1 k0_h4
theorem k0_off16_inb : ∀ (i : grid0.Coords) (v0 : BitVec 32) (v13 : BitVec 32) (v17 : BitVec 32) (v152 : BitVec 32) (k0_hw4 : k0_chk4 i v0 v13 v17 v152), ∀ (k0_h1 : k0_cond1 i v0 = 1#1), ∀ (k0_h4 : k0_cond4 i v13 v17 = 1#1), ∀ a, (k0_off16 v152) a + S1x1024x1024.size a ≤ S2x1024x1024.size a := fun i v0 v13 v17 v152 k0_hw4 k0_h1 k0_h4 => k0_hw4.2.2.2.1 k0_h1 k0_h4
theorem k0_off24_inb : ∀ (i : grid0.Coords) (v0 : BitVec 32) (v13 : BitVec 32) (v17 : BitVec 32) (v152 : BitVec 32) (k0_hw4 : k0_chk4 i v0 v13 v17 v152), ∀ (k0_h1 : k0_cond1 i v0 = 1#1), ∀ (k0_h4 : k0_cond4 i v13 v17 = 1#1), ∀ a, (k0_off24 v152) a + S1x1024x1024.size a ≤ S2x1024x1024.size a := fun i v0 v13 v17 v152 k0_hw4 k0_h1 k0_h4 => k0_hw4.2.2.2.2 k0_h1 k0_h4

def k0_cond6 (i : grid0.Coords) : BitVec 1 :=
  let arg0 : BitVec 32 := BitVec.ofNat 32 (i 0).val
  let c2_i32 : BitVec 32 := 2#32
  let v22 : BitVec 1 := Scalar.cmpi .sge arg0 c2_i32
  let v23 : BitVec 32 := Scalar.extui v22
  let c0_i32_7 : BitVec 32 := 0#32
  let v24 : BitVec 1 := Scalar.cmpi .ne v23 c0_i32_7
  v24

def k0_mult3 (i : grid0.Coords) : BitVec 32 :=
  let arg0 : BitVec 32 := BitVec.ofNat 32 (i 0).val
  let c2_i32_77 : BitVec 32 := 2#32
  let v151 : BitVec 32 := Scalar.subi arg0 c2_i32_77
  let c256_i32_84 : BitVec 32 := 256#32
  let v162 : BitVec 32 := Scalar.muli v151 c256_i32_84
  v162
def k0_off25 (i : grid0.Coords) : Fin 1 → Nat :=
  let arg0 : BitVec 32 := BitVec.ofNat 32 (i 0).val
  let c2_i32_77 : BitVec 32 := 2#32
  let v151 : BitVec 32 := Scalar.subi arg0 c2_i32_77
  let c2_i32_85 : BitVec 32 := 2#32
  let c0_i32_86 : BitVec 32 := 0#32
  let v164 : BitVec 1 := Scalar.cmpi .eq c2_i32_85 c0_i32_86
  let c1_i32_87 : BitVec 32 := 1#32
  let v165 : BitVec 32 := Scalar.select v164 c1_i32_87 c2_i32_85
  let v166 : BitVec 32 := Scalar.remsi v151 v165
  let c0_i32_89 : BitVec 32 := 0#32
  let v168 : BitVec 1 := Scalar.cmpi .slt v166 c0_i32_89
  let c0_i32_90 : BitVec 32 := 0#32
  let v169 : BitVec 1 := Scalar.cmpi .slt v165 c0_i32_90
  let v170 : BitVec 1 := Scalar.xori v168 v169
  let c0_i32_88 : BitVec 32 := 0#32
  let v167 : BitVec 1 := Scalar.cmpi .ne v166 c0_i32_88
  let v171 : BitVec 1 := Scalar.andi v170 v167
  let v172 : BitVec 32 := Scalar.addi v166 v165
  let v173 : BitVec 32 := Scalar.select v171 v172 v166
  ![v173.toNat]
def k0_off26 (i : grid0.Coords) : Fin 3 → Nat :=
  let arg0 : BitVec 32 := BitVec.ofNat 32 (i 0).val
  let c2_i32_77 : BitVec 32 := 2#32
  let v151 : BitVec 32 := Scalar.subi arg0 c2_i32_77
  let c256_i32_84 : BitVec 32 := 256#32
  let v162 : BitVec 32 := Scalar.muli v151 c256_i32_84
  let v163 : BitVec 32 := v162
  let c0_i32_91 : BitVec 32 := 0#32
  let c0_i32_92 : BitVec 32 := 0#32
  ![v163.toNat, 0, 0]
def k0_off27 (i : grid0.Coords) : Fin 3 → Nat :=
  let arg0 : BitVec 32 := BitVec.ofNat 32 (i 0).val
  let c2_i32_77 : BitVec 32 := 2#32
  let v151 : BitVec 32 := Scalar.subi arg0 c2_i32_77
  let c2_i32_78 : BitVec 32 := 2#32
  let c0_i32_79 : BitVec 32 := 0#32
  let v152 : BitVec 1 := Scalar.cmpi .eq c2_i32_78 c0_i32_79
  let c1_i32_80 : BitVec 32 := 1#32
  let v153 : BitVec 32 := Scalar.select v152 c1_i32_80 c2_i32_78
  let v154 : BitVec 32 := Scalar.remsi v151 v153
  let c0_i32_82 : BitVec 32 := 0#32
  let v156 : BitVec 1 := Scalar.cmpi .slt v154 c0_i32_82
  let c0_i32_83 : BitVec 32 := 0#32
  let v157 : BitVec 1 := Scalar.cmpi .slt v153 c0_i32_83
  let v158 : BitVec 1 := Scalar.xori v156 v157
  let c0_i32_81 : BitVec 32 := 0#32
  let v155 : BitVec 1 := Scalar.cmpi .ne v154 c0_i32_81
  let v159 : BitVec 1 := Scalar.andi v158 v155
  let v160 : BitVec 32 := Scalar.addi v154 v153
  let v161 : BitVec 32 := Scalar.select v159 v160 v154
  let c0_i32_93 : BitVec 32 := 0#32
  let c0_i32_94 : BitVec 32 := 0#32
  ![v161.toNat, 0, 0]
def k0_mult4 (i : grid0.Coords) : BitVec 32 :=
  let arg0 : BitVec 32 := BitVec.ofNat 32 (i 0).val
  let c256_i32 : BitVec 32 := 256#32
  let v25 : BitVec 32 := Scalar.muli arg0 c256_i32
  v25
def k0_off28 (i : grid0.Coords) : Fin 1 → Nat :=
  let arg0 : BitVec 32 := BitVec.ofNat 32 (i 0).val
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg0 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off29 (i : grid0.Coords) : Fin 3 → Nat :=
  let arg0 : BitVec 32 := BitVec.ofNat 32 (i 0).val
  let c2_i32_8 : BitVec 32 := 2#32
  let c0_i32_9 : BitVec 32 := 0#32
  let v27 : BitVec 1 := Scalar.cmpi .eq c2_i32_8 c0_i32_9
  let c1_i32_10 : BitVec 32 := 1#32
  let v28 : BitVec 32 := Scalar.select v27 c1_i32_10 c2_i32_8
  let v29 : BitVec 32 := Scalar.remsi arg0 v28
  let c0_i32_12 : BitVec 32 := 0#32
  let v31 : BitVec 1 := Scalar.cmpi .slt v29 c0_i32_12
  let c0_i32_13 : BitVec 32 := 0#32
  let v32 : BitVec 1 := Scalar.cmpi .slt v28 c0_i32_13
  let v33 : BitVec 1 := Scalar.xori v31 v32
  let c0_i32_11 : BitVec 32 := 0#32
  let v30 : BitVec 1 := Scalar.cmpi .ne v29 c0_i32_11
  let v34 : BitVec 1 := Scalar.andi v33 v30
  let v35 : BitVec 32 := Scalar.addi v29 v28
  let v36 : BitVec 32 := Scalar.select v34 v35 v29
  let c0_i32_21 : BitVec 32 := 0#32
  let c0_i32_22 : BitVec 32 := 0#32
  ![v36.toNat, 0, 0]
def k0_off30 (i : grid0.Coords) : Fin 3 → Nat :=
  let arg0 : BitVec 32 := BitVec.ofNat 32 (i 0).val
  let c256_i32 : BitVec 32 := 256#32
  let v25 : BitVec 32 := Scalar.muli arg0 c256_i32
  let v26 : BitVec 32 := v25
  let c0_i32_20 : BitVec 32 := 0#32
  let c0_i32_23 : BitVec 32 := 0#32
  ![v26.toNat, 0, 0]
def k0_off31 (i : grid0.Coords) : Fin 3 → Nat :=
  let arg0 : BitVec 32 := BitVec.ofNat 32 (i 0).val
  let c2_i32_24 : BitVec 32 := 2#32
  let c0_i32_25 : BitVec 32 := 0#32
  let v53 : BitVec 1 := Scalar.cmpi .eq c2_i32_24 c0_i32_25
  let c1_i32_26 : BitVec 32 := 1#32
  let v54 : BitVec 32 := Scalar.select v53 c1_i32_26 c2_i32_24
  let v55 : BitVec 32 := Scalar.remsi arg0 v54
  let c0_i32_28 : BitVec 32 := 0#32
  let v57 : BitVec 1 := Scalar.cmpi .slt v55 c0_i32_28
  let c0_i32_29 : BitVec 32 := 0#32
  let v58 : BitVec 1 := Scalar.cmpi .slt v54 c0_i32_29
  let v59 : BitVec 1 := Scalar.xori v57 v58
  let c0_i32_27 : BitVec 32 := 0#32
  let v56 : BitVec 1 := Scalar.cmpi .ne v55 c0_i32_27
  let v60 : BitVec 1 := Scalar.andi v59 v56
  let v61 : BitVec 32 := Scalar.addi v55 v54
  let v62 : BitVec 32 := Scalar.select v60 v61 v55
  let v63 : Index := Scalar.indexCast v62
  let c0_30 : Index := 0#32
  let c0_31 : Index := 0#32
  ![v63.toNat, 0, 0]
def k0_off32 (i : grid0.Coords) : Fin 1 → Nat :=
  let arg0 : BitVec 32 := BitVec.ofNat 32 (i 0).val
  let v67 : Index := Scalar.indexCast arg0
  ![v67.toNat]
def k0_off33 (v68 : BitVec 32) : Fin 2 → Nat :=
  let v71 : Index := Scalar.indexCast v68
  let c0_34 : Index := 0#32
  ![v71.toNat, 0]

def k0_chk8 (i : grid0.Coords) (v0 : BitVec 32) (v68 : BitVec 32) : Prop :=
  (∀ (k0_h1 : k0_cond1 i v0 = 1#1), ∀ a, (k0_off33 v68) a + S1x1024.size a ≤ S32x1024.size a)
theorem k0_off33_inb : ∀ (i : grid0.Coords) (v0 : BitVec 32) (v68 : BitVec 32) (k0_hw8 : k0_chk8 i v0 v68), ∀ (k0_h1 : k0_cond1 i v0 = 1#1), ∀ a, (k0_off33 v68) a + S1x1024.size a ≤ S32x1024.size a := fun i v0 v68 k0_hw8 k0_h1 => k0_hw8 k0_h1

def k0_off34 (i : grid0.Coords) : Fin 3 → Nat :=
  let arg0 : BitVec 32 := BitVec.ofNat 32 (i 0).val
  let c2_i32_50 : BitVec 32 := 2#32
  let c0_i32_51 : BitVec 32 := 0#32
  let v105 : BitVec 1 := Scalar.cmpi .eq c2_i32_50 c0_i32_51
  let c1_i32_52 : BitVec 32 := 1#32
  let v106 : BitVec 32 := Scalar.select v105 c1_i32_52 c2_i32_50
  let v107 : BitVec 32 := Scalar.remsi arg0 v106
  let c0_i32_54 : BitVec 32 := 0#32
  let v109 : BitVec 1 := Scalar.cmpi .slt v107 c0_i32_54
  let c0_i32_55 : BitVec 32 := 0#32
  let v110 : BitVec 1 := Scalar.cmpi .slt v106 c0_i32_55
  let v111 : BitVec 1 := Scalar.xori v109 v110
  let c0_i32_53 : BitVec 32 := 0#32
  let v108 : BitVec 1 := Scalar.cmpi .ne v107 c0_i32_53
  let v112 : BitVec 1 := Scalar.andi v111 v108
  let v113 : BitVec 32 := Scalar.addi v107 v106
  let v114 : BitVec 32 := Scalar.select v112 v113 v107
  let v115 : Index := Scalar.indexCast v114
  let c0_56 : Index := 0#32
  let c0_57 : Index := 0#32
  ![v115.toNat, 0, 0]
def k0_mult5 (i : grid0.Coords) : BitVec 32 :=
  let arg0 : BitVec 32 := BitVec.ofNat 32 (i 0).val
  let c256_i32_64 : BitVec 32 := 256#32
  let v129 : BitVec 32 := Scalar.muli arg0 c256_i32_64
  v129
def k0_off35 (i : grid0.Coords) : Fin 1 → Nat :=
  let arg0 : BitVec 32 := BitVec.ofNat 32 (i 0).val
  let c2_i32_65 : BitVec 32 := 2#32
  let c0_i32_66 : BitVec 32 := 0#32
  let v131 : BitVec 1 := Scalar.cmpi .eq c2_i32_65 c0_i32_66
  let c1_i32_67 : BitVec 32 := 1#32
  let v132 : BitVec 32 := Scalar.select v131 c1_i32_67 c2_i32_65
  let v133 : BitVec 32 := Scalar.remsi arg0 v132
  let c0_i32_69 : BitVec 32 := 0#32
  let v135 : BitVec 1 := Scalar.cmpi .slt v133 c0_i32_69
  let c0_i32_70 : BitVec 32 := 0#32
  let v136 : BitVec 1 := Scalar.cmpi .slt v132 c0_i32_70
  let v137 : BitVec 1 := Scalar.xori v135 v136
  let c0_i32_68 : BitVec 32 := 0#32
  let v134 : BitVec 1 := Scalar.cmpi .ne v133 c0_i32_68
  let v138 : BitVec 1 := Scalar.andi v137 v134
  let v139 : BitVec 32 := Scalar.addi v133 v132
  let v140 : BitVec 32 := Scalar.select v138 v139 v133
  ![v140.toNat]
def k0_off36 (i : grid0.Coords) : Fin 3 → Nat :=
  let arg0 : BitVec 32 := BitVec.ofNat 32 (i 0).val
  let c256_i32_64 : BitVec 32 := 256#32
  let v129 : BitVec 32 := Scalar.muli arg0 c256_i32_64
  let v130 : BitVec 32 := v129
  let c0_i32_71 : BitVec 32 := 0#32
  let c0_i32_72 : BitVec 32 := 0#32
  ![v130.toNat, 0, 0]
def k0_off37 (i : grid0.Coords) : Fin 3 → Nat :=
  let arg0 : BitVec 32 := BitVec.ofNat 32 (i 0).val
  let c2_i32_58 : BitVec 32 := 2#32
  let c0_i32_59 : BitVec 32 := 0#32
  let v119 : BitVec 1 := Scalar.cmpi .eq c2_i32_58 c0_i32_59
  let c1_i32_60 : BitVec 32 := 1#32
  let v120 : BitVec 32 := Scalar.select v119 c1_i32_60 c2_i32_58
  let v121 : BitVec 32 := Scalar.remsi arg0 v120
  let c0_i32_62 : BitVec 32 := 0#32
  let v123 : BitVec 1 := Scalar.cmpi .slt v121 c0_i32_62
  let c0_i32_63 : BitVec 32 := 0#32
  let v124 : BitVec 1 := Scalar.cmpi .slt v120 c0_i32_63
  let v125 : BitVec 1 := Scalar.xori v123 v124
  let c0_i32_61 : BitVec 32 := 0#32
  let v122 : BitVec 1 := Scalar.cmpi .ne v121 c0_i32_61
  let v126 : BitVec 1 := Scalar.andi v125 v122
  let v127 : BitVec 32 := Scalar.addi v121 v120
  let v128 : BitVec 32 := Scalar.select v126 v127 v121
  let c0_i32_73 : BitVec 32 := 0#32
  let c0_i32_74 : BitVec 32 := 0#32
  ![v128.toNat, 0, 0]
def k0_mult6 (i : grid0.Coords) : BitVec 32 :=
  let arg0 : BitVec 32 := BitVec.ofNat 32 (i 0).val
  let c256_i32_83 : BitVec 32 := 256#32
  let v161 : BitVec 32 := Scalar.muli arg0 c256_i32_83
  v161
def k0_off38 (i : grid0.Coords) : Fin 1 → Nat :=
  let arg0 : BitVec 32 := BitVec.ofNat 32 (i 0).val
  let c2_i32_84 : BitVec 32 := 2#32
  let c0_i32_85 : BitVec 32 := 0#32
  let v163 : BitVec 1 := Scalar.cmpi .eq c2_i32_84 c0_i32_85
  let c1_i32_86 : BitVec 32 := 1#32
  let v164 : BitVec 32 := Scalar.select v163 c1_i32_86 c2_i32_84
  let v165 : BitVec 32 := Scalar.remsi arg0 v164
  let c0_i32_88 : BitVec 32 := 0#32
  let v167 : BitVec 1 := Scalar.cmpi .slt v165 c0_i32_88
  let c0_i32_89 : BitVec 32 := 0#32
  let v168 : BitVec 1 := Scalar.cmpi .slt v164 c0_i32_89
  let v169 : BitVec 1 := Scalar.xori v167 v168
  let c0_i32_87 : BitVec 32 := 0#32
  let v166 : BitVec 1 := Scalar.cmpi .ne v165 c0_i32_87
  let v170 : BitVec 1 := Scalar.andi v169 v166
  let v171 : BitVec 32 := Scalar.addi v165 v164
  let v172 : BitVec 32 := Scalar.select v170 v171 v165
  ![v172.toNat]
def k0_off39 (i : grid0.Coords) : Fin 3 → Nat :=
  let arg0 : BitVec 32 := BitVec.ofNat 32 (i 0).val
  let c256_i32_83 : BitVec 32 := 256#32
  let v161 : BitVec 32 := Scalar.muli arg0 c256_i32_83
  let v162 : BitVec 32 := v161
  let c0_i32_90 : BitVec 32 := 0#32
  let c0_i32_91 : BitVec 32 := 0#32
  ![v162.toNat, 0, 0]
def k0_off40 (i : grid0.Coords) : Fin 3 → Nat :=
  let arg0 : BitVec 32 := BitVec.ofNat 32 (i 0).val
  let c2_i32_77 : BitVec 32 := 2#32
  let c0_i32_78 : BitVec 32 := 0#32
  let v151 : BitVec 1 := Scalar.cmpi .eq c2_i32_77 c0_i32_78
  let c1_i32_79 : BitVec 32 := 1#32
  let v152 : BitVec 32 := Scalar.select v151 c1_i32_79 c2_i32_77
  let v153 : BitVec 32 := Scalar.remsi arg0 v152
  let c0_i32_81 : BitVec 32 := 0#32
  let v155 : BitVec 1 := Scalar.cmpi .slt v153 c0_i32_81
  let c0_i32_82 : BitVec 32 := 0#32
  let v156 : BitVec 1 := Scalar.cmpi .slt v152 c0_i32_82
  let v157 : BitVec 1 := Scalar.xori v155 v156
  let c0_i32_80 : BitVec 32 := 0#32
  let v154 : BitVec 1 := Scalar.cmpi .ne v153 c0_i32_80
  let v158 : BitVec 1 := Scalar.andi v157 v154
  let v159 : BitVec 32 := Scalar.addi v153 v152
  let v160 : BitVec 32 := Scalar.select v158 v159 v153
  let c0_i32_92 : BitVec 32 := 0#32
  let c0_i32_93 : BitVec 32 := 0#32
  ![v160.toNat, 0, 0]
def k0_cond8 (i : grid0.Coords) : BitVec 1 :=
  let arg0 : BitVec 32 := BitVec.ofNat 32 (i 0).val
  let c1_i32_94 : BitVec 32 := 1#32
  let v179 : BitVec 1 := Scalar.cmpi .sge arg0 c1_i32_94
  let v180 : BitVec 32 := Scalar.extui v179
  let c0_i32_95 : BitVec 32 := 0#32
  let v181 : BitVec 1 := Scalar.cmpi .ne v180 c0_i32_95
  v181

def k0_mult7 (i : grid0.Coords) : BitVec 32 :=
  let arg0 : BitVec 32 := BitVec.ofNat 32 (i 0).val
  let c1_i32_109 : BitVec 32 := 1#32
  let v196 : BitVec 32 := Scalar.subi arg0 c1_i32_109
  let c256_i32_116 : BitVec 32 := 256#32
  let v207 : BitVec 32 := Scalar.muli v196 c256_i32_116
  v207
def k0_off41 (i : grid0.Coords) : Fin 1 → Nat :=
  let arg0 : BitVec 32 := BitVec.ofNat 32 (i 0).val
  let c1_i32_109 : BitVec 32 := 1#32
  let v196 : BitVec 32 := Scalar.subi arg0 c1_i32_109
  let c2_i32_117 : BitVec 32 := 2#32
  let c0_i32_118 : BitVec 32 := 0#32
  let v209 : BitVec 1 := Scalar.cmpi .eq c2_i32_117 c0_i32_118
  let c1_i32_119 : BitVec 32 := 1#32
  let v210 : BitVec 32 := Scalar.select v209 c1_i32_119 c2_i32_117
  let v211 : BitVec 32 := Scalar.remsi v196 v210
  let c0_i32_121 : BitVec 32 := 0#32
  let v213 : BitVec 1 := Scalar.cmpi .slt v211 c0_i32_121
  let c0_i32_122 : BitVec 32 := 0#32
  let v214 : BitVec 1 := Scalar.cmpi .slt v210 c0_i32_122
  let v215 : BitVec 1 := Scalar.xori v213 v214
  let c0_i32_120 : BitVec 32 := 0#32
  let v212 : BitVec 1 := Scalar.cmpi .ne v211 c0_i32_120
  let v216 : BitVec 1 := Scalar.andi v215 v212
  let v217 : BitVec 32 := Scalar.addi v211 v210
  let v218 : BitVec 32 := Scalar.select v216 v217 v211
  ![v218.toNat]
def k0_off42 (i : grid0.Coords) : Fin 3 → Nat :=
  let arg0 : BitVec 32 := BitVec.ofNat 32 (i 0).val
  let c1_i32_109 : BitVec 32 := 1#32
  let v196 : BitVec 32 := Scalar.subi arg0 c1_i32_109
  let c256_i32_116 : BitVec 32 := 256#32
  let v207 : BitVec 32 := Scalar.muli v196 c256_i32_116
  let v208 : BitVec 32 := v207
  let c0_i32_123 : BitVec 32 := 0#32
  let c0_i32_124 : BitVec 32 := 0#32
  ![v208.toNat, 0, 0]
def k0_off43 (i : grid0.Coords) : Fin 3 → Nat :=
  let arg0 : BitVec 32 := BitVec.ofNat 32 (i 0).val
  let c1_i32_109 : BitVec 32 := 1#32
  let v196 : BitVec 32 := Scalar.subi arg0 c1_i32_109
  let c2_i32_110 : BitVec 32 := 2#32
  let c0_i32_111 : BitVec 32 := 0#32
  let v197 : BitVec 1 := Scalar.cmpi .eq c2_i32_110 c0_i32_111
  let c1_i32_112 : BitVec 32 := 1#32
  let v198 : BitVec 32 := Scalar.select v197 c1_i32_112 c2_i32_110
  let v199 : BitVec 32 := Scalar.remsi v196 v198
  let c0_i32_114 : BitVec 32 := 0#32
  let v201 : BitVec 1 := Scalar.cmpi .slt v199 c0_i32_114
  let c0_i32_115 : BitVec 32 := 0#32
  let v202 : BitVec 1 := Scalar.cmpi .slt v198 c0_i32_115
  let v203 : BitVec 1 := Scalar.xori v201 v202
  let c0_i32_113 : BitVec 32 := 0#32
  let v200 : BitVec 1 := Scalar.cmpi .ne v199 c0_i32_113
  let v204 : BitVec 1 := Scalar.andi v203 v200
  let v205 : BitVec 32 := Scalar.addi v199 v198
  let v206 : BitVec 32 := Scalar.select v204 v205 v199
  let c0_i32_125 : BitVec 32 := 0#32
  let c0_i32_126 : BitVec 32 := 0#32
  ![v206.toNat, 0, 0]
@[reducible] def k0_t1_loop (v0 : BitVec 32) : Scf.Loop 32 :=
  let c288_i32 : BitVec 32 := 288#32
  let v186 : BitVec 32 := Scalar.subi c288_i32 v0
  let c1_i32_101 : BitVec 32 := 1#32
  let v188 : BitVec 32 := Scalar.divsi v186 c1_i32_101
  let v189 : BitVec 32 := Scalar.muli v188 c1_i32_101
  let v190 : BitVec 32 := Scalar.addi v0 v189
  let c1_i32_102 : BitVec 32 := 1#32
  ⟨v0, v190, c1_i32_102⟩
def k0_cond7 (i : grid0.Coords) (v0 : BitVec 32) : BitVec 1 :=
  let arg0 : BitVec 32 := BitVec.ofNat 32 (i 0).val
  let c1_i32_75 : BitVec 32 := 1#32
  let v147 : BitVec 32 := Scalar.subi v0 c1_i32_75
  let v148 : BitVec 1 := Scalar.cmpi .eq arg0 v147
  let v149 : BitVec 32 := Scalar.extui v148
  let c0_i32_76 : BitVec 32 := 0#32
  let v150 : BitVec 1 := Scalar.cmpi .ne v149 c0_i32_76
  v150

def k0_mult8 (v0 : BitVec 32) (k0_t1 : Fin (k0_t1_loop v0).trips) : BitVec 32 :=
  let c1_i32_102 : BitVec 32 := 1#32
  let arg24 : BitVec 32 := Scf.iv v0 c1_i32_102 k0_t1
  let c256_i32_109 : BitVec 32 := 256#32
  let v196 : BitVec 32 := Scalar.muli arg24 c256_i32_109
  v196
def k0_off44 (v0 : BitVec 32) (k0_t1 : Fin (k0_t1_loop v0).trips) : Fin 3 → Nat :=
  let c1_i32_102 : BitVec 32 := 1#32
  let arg24 : BitVec 32 := Scf.iv v0 c1_i32_102 k0_t1
  let c256_i32_109 : BitVec 32 := 256#32
  let v196 : BitVec 32 := Scalar.muli arg24 c256_i32_109
  let v197 : BitVec 32 := v196
  let c0_i32_111 : BitVec 32 := 0#32
  let c0_i32_113 : BitVec 32 := 0#32
  ![v197.toNat, 0, 0]
@[reducible] def k0_t2_loop (v0 : BitVec 32) : Scf.Loop 32 :=
  let c288_i32 : BitVec 32 := 288#32
  let v186 : BitVec 32 := Scalar.subi c288_i32 v0
  let c1_i32_101 : BitVec 32 := 1#32
  let v188 : BitVec 32 := Scalar.divsi v186 c1_i32_101
  let v189 : BitVec 32 := Scalar.muli v188 c1_i32_101
  let v190 : BitVec 32 := Scalar.addi v0 v189
  let v187 : BitVec 32 := Scalar.addi v0 v186
  let c1_i32_103 : BitVec 32 := 1#32
  ⟨v190, v187, c1_i32_103⟩
def k0_mult9 (v0 : BitVec 32) (k0_t2 : Fin (k0_t2_loop v0).trips) : BitVec 32 :=
  let c288_i32 : BitVec 32 := 288#32
  let v186 : BitVec 32 := Scalar.subi c288_i32 v0
  let c1_i32_101 : BitVec 32 := 1#32
  let v188 : BitVec 32 := Scalar.divsi v186 c1_i32_101
  let v189 : BitVec 32 := Scalar.muli v188 c1_i32_101
  let v190 : BitVec 32 := Scalar.addi v0 v189
  let c1_i32_103 : BitVec 32 := 1#32
  let arg24 : BitVec 32 := Scf.iv v190 c1_i32_103 k0_t2
  let c256_i32_109 : BitVec 32 := 256#32
  let v196 : BitVec 32 := Scalar.muli arg24 c256_i32_109
  v196
def k0_off45 (v0 : BitVec 32) (k0_t2 : Fin (k0_t2_loop v0).trips) : Fin 3 → Nat :=
  let c288_i32 : BitVec 32 := 288#32
  let v186 : BitVec 32 := Scalar.subi c288_i32 v0
  let c1_i32_101 : BitVec 32 := 1#32
  let v188 : BitVec 32 := Scalar.divsi v186 c1_i32_101
  let v189 : BitVec 32 := Scalar.muli v188 c1_i32_101
  let v190 : BitVec 32 := Scalar.addi v0 v189
  let c1_i32_103 : BitVec 32 := 1#32
  let arg24 : BitVec 32 := Scf.iv v190 c1_i32_103 k0_t2
  let c256_i32_109 : BitVec 32 := 256#32
  let v196 : BitVec 32 := Scalar.muli arg24 c256_i32_109
  let v197 : BitVec 32 := v196
  let c0_i32_111 : BitVec 32 := 0#32
  let c0_i32_113 : BitVec 32 := 0#32
  ![v197.toNat, 0, 0]
@[reducible] def k0_t3_loop (v0 : BitVec 32) : Scf.Loop 32 :=
  let c288_i32_105 : BitVec 32 := 288#32
  let v191 : BitVec 32 := Scalar.subi c288_i32_105 v0
  let c1_i32_106 : BitVec 32 := 1#32
  let v193 : BitVec 32 := Scalar.divsi v191 c1_i32_106
  let v194 : BitVec 32 := Scalar.muli v193 c1_i32_106
  let v195 : BitVec 32 := Scalar.addi v0 v194
  let c1_i32_107 : BitVec 32 := 1#32
  ⟨v0, v195, c1_i32_107⟩
def k0_mult10 (v0 : BitVec 32) (k0_t3 : Fin (k0_t3_loop v0).trips) : BitVec 32 :=
  let c1_i32_107 : BitVec 32 := 1#32
  let arg24 : BitVec 32 := Scf.iv v0 c1_i32_107 k0_t3
  let c256_i32_109 : BitVec 32 := 256#32
  let v196 : BitVec 32 := Scalar.muli arg24 c256_i32_109
  v196
def k0_off46 (v0 : BitVec 32) (k0_t3 : Fin (k0_t3_loop v0).trips) : Fin 3 → Nat :=
  let c1_i32_107 : BitVec 32 := 1#32
  let arg24 : BitVec 32 := Scf.iv v0 c1_i32_107 k0_t3
  let c256_i32_109 : BitVec 32 := 256#32
  let v196 : BitVec 32 := Scalar.muli arg24 c256_i32_109
  let v197 : BitVec 32 := v196
  let c0_i32_111 : BitVec 32 := 0#32
  let c0_i32_113 : BitVec 32 := 0#32
  ![v197.toNat, 0, 0]
@[reducible] def k0_t4_loop (v0 : BitVec 32) : Scf.Loop 32 :=
  let c288_i32_105 : BitVec 32 := 288#32
  let v191 : BitVec 32 := Scalar.subi c288_i32_105 v0
  let c1_i32_106 : BitVec 32 := 1#32
  let v193 : BitVec 32 := Scalar.divsi v191 c1_i32_106
  let v194 : BitVec 32 := Scalar.muli v193 c1_i32_106
  let v195 : BitVec 32 := Scalar.addi v0 v194
  let v192 : BitVec 32 := Scalar.addi v0 v191
  let c1_i32_108 : BitVec 32 := 1#32
  ⟨v195, v192, c1_i32_108⟩
def k0_mult11 (v0 : BitVec 32) (k0_t4 : Fin (k0_t4_loop v0).trips) : BitVec 32 :=
  let c288_i32_105 : BitVec 32 := 288#32
  let v191 : BitVec 32 := Scalar.subi c288_i32_105 v0
  let c1_i32_106 : BitVec 32 := 1#32
  let v193 : BitVec 32 := Scalar.divsi v191 c1_i32_106
  let v194 : BitVec 32 := Scalar.muli v193 c1_i32_106
  let v195 : BitVec 32 := Scalar.addi v0 v194
  let c1_i32_108 : BitVec 32 := 1#32
  let arg24 : BitVec 32 := Scf.iv v195 c1_i32_108 k0_t4
  let c256_i32_109 : BitVec 32 := 256#32
  let v196 : BitVec 32 := Scalar.muli arg24 c256_i32_109
  v196
def k0_off47 (v0 : BitVec 32) (k0_t4 : Fin (k0_t4_loop v0).trips) : Fin 3 → Nat :=
  let c288_i32_105 : BitVec 32 := 288#32
  let v191 : BitVec 32 := Scalar.subi c288_i32_105 v0
  let c1_i32_106 : BitVec 32 := 1#32
  let v193 : BitVec 32 := Scalar.divsi v191 c1_i32_106
  let v194 : BitVec 32 := Scalar.muli v193 c1_i32_106
  let v195 : BitVec 32 := Scalar.addi v0 v194
  let c1_i32_108 : BitVec 32 := 1#32
  let arg24 : BitVec 32 := Scf.iv v195 c1_i32_108 k0_t4
  let c256_i32_109 : BitVec 32 := 256#32
  let v196 : BitVec 32 := Scalar.muli arg24 c256_i32_109
  let v197 : BitVec 32 := v196
  let c0_i32_111 : BitVec 32 := 0#32
  let c0_i32_113 : BitVec 32 := 0#32
  ![v197.toNat, 0, 0]

def k0_chk3 (i : grid0.Coords) (v0 : BitVec 32) : Prop :=
  (∀ (k0_h1 : k0_cond1 i v0 = 1#1), ∀ (k0_h3 : k0_cond3 i v0 = 1#1), ∀ a, (k0_off8 i) a + S256x1x1024.size a ≤ S73728x1x1024.size a) ∧
  (∀ (k0_h1 : k0_cond1 i v0 = 1#1), ∀ (k0_h7 : k0_cond7 i v0 = 1#1), (k0_t1_loop v0).OK) ∧
  (∀ k0_t1 : Fin (k0_t1_loop v0).trips, ∀ (k0_h1 : k0_cond1 i v0 = 1#1), ∀ (k0_h7 : k0_cond7 i v0 = 1#1), 256 ∣ (k0_mult8 v0 k0_t1).toNat) ∧
  (∀ k0_t1 : Fin (k0_t1_loop v0).trips, ∀ (k0_h1 : k0_cond1 i v0 = 1#1), ∀ (k0_h7 : k0_cond7 i v0 = 1#1), ∀ a, (k0_off44 v0 k0_t1) a + S256x1x1024.size a ≤ S73728x1x1024.size a) ∧
  (∀ (k0_h1 : k0_cond1 i v0 = 1#1), ∀ (k0_h7 : k0_cond7 i v0 = 1#1), (k0_t2_loop v0).OK) ∧
  (∀ k0_t2 : Fin (k0_t2_loop v0).trips, ∀ (k0_h1 : k0_cond1 i v0 = 1#1), ∀ (k0_h7 : k0_cond7 i v0 = 1#1), 256 ∣ (k0_mult9 v0 k0_t2).toNat) ∧
  (∀ k0_t2 : Fin (k0_t2_loop v0).trips, ∀ (k0_h1 : k0_cond1 i v0 = 1#1), ∀ (k0_h7 : k0_cond7 i v0 = 1#1), ∀ a, (k0_off45 v0 k0_t2) a + S256x1x1024.size a ≤ S73728x1x1024.size a) ∧
  (∀ (k0_h1 : k0_cond1 i v0 = 1#1), ∀ (k0_h7 : k0_cond7 i v0 = 1#1), (k0_t3_loop v0).OK) ∧
  (∀ k0_t3 : Fin (k0_t3_loop v0).trips, ∀ (k0_h1 : k0_cond1 i v0 = 1#1), ∀ (k0_h7 : k0_cond7 i v0 = 1#1), 256 ∣ (k0_mult10 v0 k0_t3).toNat) ∧
  (∀ k0_t3 : Fin (k0_t3_loop v0).trips, ∀ (k0_h1 : k0_cond1 i v0 = 1#1), ∀ (k0_h7 : k0_cond7 i v0 = 1#1), ∀ a, (k0_off46 v0 k0_t3) a + S256x1x1024.size a ≤ S73728x1x1024.size a) ∧
  (∀ (k0_h1 : k0_cond1 i v0 = 1#1), ∀ (k0_h7 : k0_cond7 i v0 = 1#1), (k0_t4_loop v0).OK) ∧
  (∀ k0_t4 : Fin (k0_t4_loop v0).trips, ∀ (k0_h1 : k0_cond1 i v0 = 1#1), ∀ (k0_h7 : k0_cond7 i v0 = 1#1), 256 ∣ (k0_mult11 v0 k0_t4).toNat) ∧
  (∀ k0_t4 : Fin (k0_t4_loop v0).trips, ∀ (k0_h1 : k0_cond1 i v0 = 1#1), ∀ (k0_h7 : k0_cond7 i v0 = 1#1), ∀ a, (k0_off47 v0 k0_t4) a + S256x1x1024.size a ≤ S73728x1x1024.size a)
theorem k0_off8_inb : ∀ (i : grid0.Coords) (v0 : BitVec 32) (k0_hw3 : k0_chk3 i v0), ∀ (k0_h1 : k0_cond1 i v0 = 1#1), ∀ (k0_h3 : k0_cond3 i v0 = 1#1), ∀ a, (k0_off8 i) a + S256x1x1024.size a ≤ S73728x1x1024.size a := fun i v0 k0_hw3 k0_h1 k0_h3 => k0_hw3.1 k0_h1 k0_h3
theorem k0_t1_ok : ∀ (i : grid0.Coords) (v0 : BitVec 32) (k0_hw3 : k0_chk3 i v0), ∀ (k0_h1 : k0_cond1 i v0 = 1#1), ∀ (k0_h7 : k0_cond7 i v0 = 1#1), (k0_t1_loop v0).OK := fun i v0 k0_hw3 k0_h1 k0_h7 => k0_hw3.2.1 k0_h1 k0_h7
theorem k0_mult8_dvd : ∀ (i : grid0.Coords) (v0 : BitVec 32) (k0_hw3 : k0_chk3 i v0) (k0_t1 : Fin (k0_t1_loop v0).trips), ∀ (k0_h1 : k0_cond1 i v0 = 1#1), ∀ (k0_h7 : k0_cond7 i v0 = 1#1), 256 ∣ (k0_mult8 v0 k0_t1).toNat := fun i v0 k0_hw3 k0_t1 k0_h1 k0_h7 => k0_hw3.2.2.1 k0_t1 k0_h1 k0_h7
theorem k0_off44_inb : ∀ (i : grid0.Coords) (v0 : BitVec 32) (k0_hw3 : k0_chk3 i v0) (k0_t1 : Fin (k0_t1_loop v0).trips), ∀ (k0_h1 : k0_cond1 i v0 = 1#1), ∀ (k0_h7 : k0_cond7 i v0 = 1#1), ∀ a, (k0_off44 v0 k0_t1) a + S256x1x1024.size a ≤ S73728x1x1024.size a := fun i v0 k0_hw3 k0_t1 k0_h1 k0_h7 => k0_hw3.2.2.2.1 k0_t1 k0_h1 k0_h7
theorem k0_t2_ok : ∀ (i : grid0.Coords) (v0 : BitVec 32) (k0_hw3 : k0_chk3 i v0), ∀ (k0_h1 : k0_cond1 i v0 = 1#1), ∀ (k0_h7 : k0_cond7 i v0 = 1#1), (k0_t2_loop v0).OK := fun i v0 k0_hw3 k0_h1 k0_h7 => k0_hw3.2.2.2.2.1 k0_h1 k0_h7
theorem k0_mult9_dvd : ∀ (i : grid0.Coords) (v0 : BitVec 32) (k0_hw3 : k0_chk3 i v0) (k0_t2 : Fin (k0_t2_loop v0).trips), ∀ (k0_h1 : k0_cond1 i v0 = 1#1), ∀ (k0_h7 : k0_cond7 i v0 = 1#1), 256 ∣ (k0_mult9 v0 k0_t2).toNat := fun i v0 k0_hw3 k0_t2 k0_h1 k0_h7 => k0_hw3.2.2.2.2.2.1 k0_t2 k0_h1 k0_h7
theorem k0_off45_inb : ∀ (i : grid0.Coords) (v0 : BitVec 32) (k0_hw3 : k0_chk3 i v0) (k0_t2 : Fin (k0_t2_loop v0).trips), ∀ (k0_h1 : k0_cond1 i v0 = 1#1), ∀ (k0_h7 : k0_cond7 i v0 = 1#1), ∀ a, (k0_off45 v0 k0_t2) a + S256x1x1024.size a ≤ S73728x1x1024.size a := fun i v0 k0_hw3 k0_t2 k0_h1 k0_h7 => k0_hw3.2.2.2.2.2.2.1 k0_t2 k0_h1 k0_h7
theorem k0_t3_ok : ∀ (i : grid0.Coords) (v0 : BitVec 32) (k0_hw3 : k0_chk3 i v0), ∀ (k0_h1 : k0_cond1 i v0 = 1#1), ∀ (k0_h7 : k0_cond7 i v0 = 1#1), (k0_t3_loop v0).OK := fun i v0 k0_hw3 k0_h1 k0_h7 => k0_hw3.2.2.2.2.2.2.2.1 k0_h1 k0_h7
theorem k0_mult10_dvd : ∀ (i : grid0.Coords) (v0 : BitVec 32) (k0_hw3 : k0_chk3 i v0) (k0_t3 : Fin (k0_t3_loop v0).trips), ∀ (k0_h1 : k0_cond1 i v0 = 1#1), ∀ (k0_h7 : k0_cond7 i v0 = 1#1), 256 ∣ (k0_mult10 v0 k0_t3).toNat := fun i v0 k0_hw3 k0_t3 k0_h1 k0_h7 => k0_hw3.2.2.2.2.2.2.2.2.1 k0_t3 k0_h1 k0_h7
theorem k0_off46_inb : ∀ (i : grid0.Coords) (v0 : BitVec 32) (k0_hw3 : k0_chk3 i v0) (k0_t3 : Fin (k0_t3_loop v0).trips), ∀ (k0_h1 : k0_cond1 i v0 = 1#1), ∀ (k0_h7 : k0_cond7 i v0 = 1#1), ∀ a, (k0_off46 v0 k0_t3) a + S256x1x1024.size a ≤ S73728x1x1024.size a := fun i v0 k0_hw3 k0_t3 k0_h1 k0_h7 => k0_hw3.2.2.2.2.2.2.2.2.2.1 k0_t3 k0_h1 k0_h7
theorem k0_t4_ok : ∀ (i : grid0.Coords) (v0 : BitVec 32) (k0_hw3 : k0_chk3 i v0), ∀ (k0_h1 : k0_cond1 i v0 = 1#1), ∀ (k0_h7 : k0_cond7 i v0 = 1#1), (k0_t4_loop v0).OK := fun i v0 k0_hw3 k0_h1 k0_h7 => k0_hw3.2.2.2.2.2.2.2.2.2.2.1 k0_h1 k0_h7
theorem k0_mult11_dvd : ∀ (i : grid0.Coords) (v0 : BitVec 32) (k0_hw3 : k0_chk3 i v0) (k0_t4 : Fin (k0_t4_loop v0).trips), ∀ (k0_h1 : k0_cond1 i v0 = 1#1), ∀ (k0_h7 : k0_cond7 i v0 = 1#1), 256 ∣ (k0_mult11 v0 k0_t4).toNat := fun i v0 k0_hw3 k0_t4 k0_h1 k0_h7 => k0_hw3.2.2.2.2.2.2.2.2.2.2.2.1 k0_t4 k0_h1 k0_h7
theorem k0_off47_inb : ∀ (i : grid0.Coords) (v0 : BitVec 32) (k0_hw3 : k0_chk3 i v0) (k0_t4 : Fin (k0_t4_loop v0).trips), ∀ (k0_h1 : k0_cond1 i v0 = 1#1), ∀ (k0_h7 : k0_cond7 i v0 = 1#1), ∀ a, (k0_off47 v0 k0_t4) a + S256x1x1024.size a ≤ S73728x1x1024.size a := fun i v0 k0_hw3 k0_t4 k0_h1 k0_h7 => k0_hw3.2.2.2.2.2.2.2.2.2.2.2.2 k0_t4 k0_h1 k0_h7

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32 : Shape := ⟨1, ![32]⟩
abbrev S73728x1x1024 : Shape := ⟨3, ![73728, 1, 1024]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x256x1024 : Shape := ⟨3, ![288, 256, 1024]⟩
abbrev S288x1024x1024 : Shape := ⟨3, ![288, 1024, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 158
  | .vmem => 0
  | .smem => 0
  | _ => 0

abbrev hbmTy0_0 (i : Nat) : BufTy := match i % 128 with
  | 0 => ⟨S32, .i32⟩
  | 1 => ⟨S73728x1x1024, .f32⟩
  | 2 => ⟨S32x1024x1024, .f32⟩
  | 3 => ⟨S32x1024, .f32⟩
  | 4 => ⟨S32x1024x1024, .f32⟩
  | 5 => ⟨S32x1024, .f32⟩
  | 6 => ⟨S32x1024x1024, .f32⟩
  | 7 => ⟨S32x1024, .f32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S_, .i32⟩
  | 16 => ⟨S32, .i32⟩
  | 17 => ⟨S32, .i32⟩
  | 18 => ⟨S32, .i32⟩
  | 19 => ⟨S_, .i32⟩
  | 20 => ⟨S32, .i32⟩
  | 21 => ⟨S32, .i1⟩
  | 22 => ⟨S32, .i32⟩
  | 23 => ⟨S32, .i32⟩
  | 24 => ⟨S_, .i32⟩
  | 25 => ⟨S32, .i32⟩
  | 26 => ⟨S32, .i1⟩
  | 27 => ⟨S32, .i1⟩
  | 28 => ⟨S_, .i32⟩
  | 29 => ⟨S32, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S32, .i32⟩
  | 38 => ⟨S288, .i32⟩
  | 39 => ⟨S_, .i32⟩
  | 40 => ⟨S288, .i32⟩
  | 41 => ⟨S288, .i32⟩
  | 42 => ⟨S1x32, .i32⟩
  | 43 => ⟨S288x1, .i32⟩
  | 44 => ⟨S288x32, .i32⟩
  | 45 => ⟨S288x32, .i32⟩
  | 46 => ⟨S288x32, .i1⟩
  | 47 => ⟨S288x32, .i32⟩
  | 48 => ⟨S_, .i32⟩
  | 49 => ⟨S288, .i32⟩
  | 50 => ⟨S_, .i32⟩
  | 51 => ⟨S288, .i32⟩
  | 52 => ⟨S288, .i32⟩
  | 53 => ⟨S288x256x1024, .f32⟩
  | 54 => ⟨S_, .i32⟩
  | 55 => ⟨S288, .i32⟩
  | 56 => ⟨S288, .i1⟩
  | 57 => ⟨S_, .i32⟩
  | 58 => ⟨S288, .i32⟩
  | 59 => ⟨S288, .i32⟩
  | 60 => ⟨S288, .i32⟩
  | 61 => ⟨S288x1, .i32⟩
  | 62 => ⟨S288x1024x1024, .f32⟩
  | 63 => ⟨S288x256x1024, .f32⟩
  | 64 => ⟨S_, .i32⟩
  | 65 => ⟨S288, .i32⟩
  | 66 => ⟨S288, .i1⟩
  | 67 => ⟨S_, .i32⟩
  | 68 => ⟨S288, .i32⟩
  | 69 => ⟨S288, .i32⟩
  | 70 => ⟨S288, .i32⟩
  | 71 => ⟨S288x1, .i32⟩
  | 72 => ⟨S288x1024, .f32⟩
  | 73 => ⟨S288x1x1024, .f32⟩
  | 74 => ⟨S288x256x1024, .f32⟩
  | 75 => ⟨S288x256x1024, .f32⟩
  | 76 => ⟨S_, .i32⟩
  | 77 => ⟨S288, .i32⟩
  | 78 => ⟨S288, .i1⟩
  | 79 => ⟨S_, .i32⟩
  | 80 => ⟨S288, .i32⟩
  | 81 => ⟨S288, .i32⟩
  | 82 => ⟨S288, .i32⟩
  | 83 => ⟨S288x1, .i32⟩
  | 84 => ⟨S288x1024x1024, .f32⟩
  | 85 => ⟨S288x256x1024, .f32⟩
  | 86 => ⟨S_, .i32⟩
  | 87 => ⟨S288, .i32⟩
  | 88 => ⟨S288, .i1⟩
  | 89 => ⟨S_, .i32⟩
  | 90 => ⟨S288, .i32⟩
  | 91 => ⟨S288, .i32⟩
  | 92 => ⟨S288, .i32⟩
  | 93 => ⟨S288x1, .i32⟩
  | 94 => ⟨S288x1024, .f32⟩
  | 95 => ⟨S288x1x1024, .f32⟩
  | 96 => ⟨S288x256x1024, .f32⟩
  | 97 => ⟨S288x256x1024, .f32⟩
  | 98 => ⟨S_, .f32⟩
  | 99 => ⟨S288x256x1024, .f32⟩
  | 100 => ⟨S288x256x1024, .f32⟩
  | 101 => ⟨S_, .f32⟩
  | 102 => ⟨S_, .f32⟩
  | 103 => ⟨S_, .f32⟩
  | 104 => ⟨S288x256x1024, .f32⟩
  | 105 => ⟨S288x256x1024, .f32⟩
  | 106 => ⟨S_, .f32⟩
  | 107 => ⟨S288x256x1024, .f32⟩
  | 108 => ⟨S288x256x1024, .f32⟩
  | 109 => ⟨S_, .f32⟩
  | 110 => ⟨S288x256x1024, .f32⟩
  | 111 => ⟨S288x256x1024, .f32⟩
  | 112 => ⟨S288x256x1024, .f32⟩
  | 113 => ⟨S288x256x1024, .f32⟩
  | 114 => ⟨S_, .f32⟩
  | 115 => ⟨S288x256x1024, .f32⟩
  | 116 => ⟨S288x256x1024, .f32⟩
  | 117 => ⟨S_, .f32⟩
  | 118 => ⟨S288x256x1024, .f32⟩
  | 119 => ⟨S288x256x1024, .f32⟩
  | 120 => ⟨S288x256x1024, .f32⟩
  | 121 => ⟨S_, .f32⟩
  | 122 => ⟨S288x256x1024, .f32⟩
  | 123 => ⟨S288x256x1024, .f32⟩
  | 124 => ⟨S288x256x1024, .f32⟩
  | 125 => ⟨S_, .i32⟩
  | 126 => ⟨S288, .i32⟩
  | 127 => ⟨S288, .i1⟩
  | _ => ⟨S32, .i32⟩

abbrev hbmTy0_1 (i : Nat) : BufTy := match i % 128 with
  | 0 => ⟨S_, .i32⟩
  | 1 => ⟨S288, .i32⟩
  | 2 => ⟨S288, .i32⟩
  | 3 => ⟨S288, .i32⟩
  | 4 => ⟨S288x1, .i32⟩
  | 5 => ⟨S288x1024x1024, .f32⟩
  | 6 => ⟨S288x256x1024, .f32⟩
  | 7 => ⟨S_, .i32⟩
  | 8 => ⟨S288, .i32⟩
  | 9 => ⟨S288, .i1⟩
  | 10 => ⟨S_, .i32⟩
  | 11 => ⟨S288, .i32⟩
  | 12 => ⟨S288, .i32⟩
  | 13 => ⟨S288, .i32⟩
  | 14 => ⟨S288x1, .i32⟩
  | 15 => ⟨S288x1024, .f32⟩
  | 16 => ⟨S288x1x1024, .f32⟩
  | 17 => ⟨S288x256x1024, .f32⟩
  | 18 => ⟨S288x256x1024, .f32⟩
  | 19 => ⟨S1, .i32⟩
  | 20 => ⟨S_, .i32⟩
  | 21 => ⟨S288, .i32⟩
  | 22 => ⟨S288, .i1⟩
  | 23 => ⟨S288x1x1, .i1⟩
  | 24 => ⟨S_, .f32⟩
  | 25 => ⟨S_, .f32⟩
  | 26 => ⟨S288x256x1024, .i1⟩
  | 27 => ⟨S288x256x1024, .f32⟩
  | 28 => ⟨S288x256x1024, .f32⟩
  | 29 => ⟨S73728x1x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_2 : Ref sig .tc := ⟨.hbm, 32, rfl⟩
abbrev main_v5 : Ref sig .tc := ⟨.hbm, 33, rfl⟩
abbrev main_v6 : Ref sig .tc := ⟨.hbm, 34, rfl⟩
abbrev main_call1_call0_c : Ref sig .tc := ⟨.hbm, 35, rfl⟩
abbrev main_call1_call0_v0 : Ref sig .tc := ⟨.hbm, 36, rfl⟩
abbrev main_v7 : Ref sig .tc := ⟨.hbm, 37, rfl⟩
abbrev main_v8 : Ref sig .tc := ⟨.hbm, 38, rfl⟩
abbrev main_c_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_6 : Ref sig .tc := ⟨.hbm, 54, rfl⟩
abbrev main_v21 : Ref sig .tc := ⟨.hbm, 55, rfl⟩
abbrev main_v22 : Ref sig .tc := ⟨.hbm, 56, rfl⟩
abbrev main_c_7 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_8 : Ref sig .tc := ⟨.hbm, 64, rfl⟩
abbrev main_v29 : Ref sig .tc := ⟨.hbm, 65, rfl⟩
abbrev main_v30 : Ref sig .tc := ⟨.hbm, 66, rfl⟩
abbrev main_c_9 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_10 : Ref sig .tc := ⟨.hbm, 76, rfl⟩
abbrev main_v39 : Ref sig .tc := ⟨.hbm, 77, rfl⟩
abbrev main_v40 : Ref sig .tc := ⟨.hbm, 78, rfl⟩
abbrev main_c_11 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst : Ref sig .tc := ⟨.hbm, 98, rfl⟩
abbrev main_v57 : Ref sig .tc := ⟨.hbm, 99, rfl⟩
abbrev main_v58 : Ref sig .tc := ⟨.hbm, 100, rfl⟩
abbrev main_cst_14 : Ref sig .tc := ⟨.hbm, 101, rfl⟩
abbrev main_cst_15 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v59 : Ref sig .tc := ⟨.hbm, 108, rfl⟩
abbrev main_cst_16 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_17 : Ref sig .tc := ⟨.hbm, 114, rfl⟩
abbrev main_v64 : Ref sig .tc := ⟨.hbm, 115, rfl⟩
abbrev main_v65 : Ref sig .tc := ⟨.hbm, 116, rfl⟩
abbrev main_cst_18 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_19 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_20 : Ref sig .tc := ⟨.hbm, 125, rfl⟩
abbrev main_v72 : Ref sig .tc := ⟨.hbm, 126, rfl⟩
abbrev main_v73 : Ref sig .tc := ⟨.hbm, 127, rfl⟩
abbrev main_c_21 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_22 : Ref sig .tc := ⟨.hbm, 135, rfl⟩
abbrev main_v80 : Ref sig .tc := ⟨.hbm, 136, rfl⟩
abbrev main_v81 : Ref sig .tc := ⟨.hbm, 137, rfl⟩
abbrev main_c_23 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_24 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_v95 : Ref sig .tc := ⟨.hbm, 156, rfl⟩
abbrev main_v96 : Ref sig .tc := ⟨.hbm, 157, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S1x128 : Shape := ⟨2, ![1, 128]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S16384x1024, .bf16⟩
  | .hbm, ⟨5, _⟩ => ⟨S16384x512, .bf16⟩
  | .hbm, ⟨6, _⟩ => ⟨S16384x1024, .bf16⟩
  | .hbm, ⟨7, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x512 : Shape := ⟨2, ![16384, 512]⟩
abbrev S16384x4x1x128 : Shape := ⟨4, ![16384, 4, 1, 128]⟩
abbrev S128 : Shape := ⟨1, ![128]⟩
abbrev S1x128 : Shape := ⟨2, ![1, 128]⟩
abbrev S2 : Shape := ⟨1, ![2]⟩
abbrev S2x1 : Shape := ⟨2, ![2, 1]⟩
abbrev S2x128 : Shape := ⟨2, ![2, 128]⟩
abbrev S1x1x2x128 : Shape := ⟨4, ![1, 1, 2, 128]⟩
abbrev S16384x4x2x128 : Shape := ⟨4, ![16384, 4, 2, 128]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x4x1x128, .f32⟩
  | .hbm, ⟨25, _⟩ => ⟨S16384x512, .f32⟩
  | .hbm, ⟨26, _⟩ => ⟨S16384x4x1x128, .f32⟩
  | .hbm, ⟨27, _⟩ => ⟨S128, .i32⟩
  | .hbm, ⟨28, _⟩ => ⟨S1x128, .i32⟩
  | .hbm, ⟨29, _⟩ => ⟨S_, .i32⟩
  | .hbm, ⟨30, _⟩ => ⟨S_, .i32⟩
  | .hbm, ⟨31, _⟩ => ⟨S1x128, .i32⟩
  | .hbm, ⟨32, _⟩ => ⟨S1x128, .i32⟩
  | .hbm, ⟨33, _⟩ => ⟨S1x128, .i32⟩
  | .hbm, ⟨34, _⟩ => ⟨S_, .i32⟩
  | .hbm, ⟨35, _⟩ => ⟨S1x128, .i32⟩
  | .hbm, ⟨36, _⟩ => ⟨S1x128, .i1⟩
  | .hbm, ⟨37, _⟩ => ⟨S1x128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S1x128, .i1⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S1x128, .i32⟩
  | .hbm, ⟨47, _⟩ => ⟨S2, .i32⟩
  | .hbm, ⟨48, _⟩ => ⟨S2x1, .i32⟩
  | .hbm, ⟨49, _⟩ => ⟨S2x128, .i32⟩
  | .hbm, ⟨50, _⟩ => ⟨S2x128, .i32⟩
  | .hbm, ⟨51, _⟩ => ⟨S2x128, .i1⟩
  | .hbm, ⟨52, _⟩ => ⟨S1x1x2x128, .i1⟩
  | .hbm, ⟨53, _⟩ => ⟨S_, .f32⟩
  | .hbm, ⟨54, _⟩ => ⟨S_, .f32⟩
  | .hbm, ⟨55, _⟩ => ⟨S16384x4x2x128, .i1⟩
  | .hbm, ⟨56, _⟩ => ⟨S16384x4x2x128, .f32⟩
  | .hbm, ⟨57, _⟩ => ⟨S16384x4x2x128, .f32⟩
  | .hbm, ⟨58, _⟩ => ⟨S16384x4x2x128, .f32⟩
  | .hbm, ⟨59, _⟩ => ⟨S16384x1024, .f32⟩
  | .hbm, ⟨60, _⟩ => ⟨S_, .f32⟩
  | .hbm, ⟨61, _⟩ => ⟨S_, .f32⟩
  | .hbm, ⟨62, _⟩ => ⟨S16384x4x2x128, .i1⟩
  | .hbm, ⟨63, _⟩ => ⟨S16384x4x2x128, .f32⟩
  | .hbm, ⟨64, _⟩ => ⟨S16384x4x2x128, .f32⟩
  | .hbm, ⟨65, _⟩ => ⟨S16384x4x2x128, .f32⟩
  | .hbm, ⟨66, _⟩ => ⟨S16384x1024, .f32⟩
  | .hbm, ⟨67, _⟩ => ⟨S16384x1024, .bf16⟩
  | .hbm, ⟨68, _⟩ => ⟨S16384x512, .f32⟩
  | .hbm, ⟨69, _⟩ => ⟨S16384x512, .bf16⟩
  | .hbm, ⟨70, _⟩ => ⟨S16384x1024, .bf16⟩
  | .hbm, ⟨71, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩

abbrev nD : Nat := 1
abbrev τ : Topo := Topo.v7x

variable {F : FTy → Type} [FloatOps F]
-- ==== Proof.Offs.lean ====
/-
  Closed forms of the offsets, conditions and loops of the experts kernel: each is stated over the grid step
  `i` and over table words `BitVec.ofNat 32 e` whose value `e` is small.
-/
module

public import proofs.«01_k».proof.Proof.Gen.KernelIdeal
public import Idealize.ShloMosaic.Lib.WordCmp

@[expose] public section

noncomputable section

namespace Cert.KernelIdeal.Own

open Cert.KernelIdeal Cert.KernelIdeal.Gen
open Idealize.ShloMosaic Idealize.ShloMosaic.WordCmp Idealize.SL.Sem

/-- The word of a number. -/
abbrev w32 (e : ℕ) : BitVec 32 := BitVec.ofNat 32 e

theorem w32_toNat {e : ℕ} (h : e < 2 ^ 32) : (w32 e).toNat = e := by
  rw [BitVec.toNat_ofNat]; exact Nat.mod_eq_of_lt h

theorem i_lt (i : grid0.Coords) : (i 0).val < 288 := (i 0).isLt

/-! ## Offsets of the grid step alone -/

/-- What holds at every one of the 288 values of the one coordinate holds at every grid step. -/
theorem forall_coords {P : grid0.Coords → Prop} (h : ∀ t : Fin 288, P (Fin.cons (α := fun a => Fin (grid0.bound a)) (t : Fin (grid0.bound 0)) (fun a => a.elim0))) (i : grid0.Coords) : P i := by
  have e : i = Fin.cons (α := fun a => Fin (grid0.bound a)) (i 0) (fun a => a.elim0) := by
    funext a; refine Fin.cases rfl (fun b => b.elim0) a
  rw [e]; exact h _

theorem off6_eq : ∀ i : grid0.Coords, k0_off6 i = ![((i 0).val + 1) % 2] := forall_coords (by decide +kernel)
theorem off7_eq : ∀ i : grid0.Coords, k0_off7 i = ![((i 0).val + 1) % 2, 0, 0] := forall_coords (by decide +kernel)
theorem off8_eq : ∀ i : grid0.Coords, k0_off8 i = ![256 * ((i 0).val + 1), 0, 0] := forall_coords (by decide +kernel)
theorem off10_eq : ∀ i : grid0.Coords, k0_off10 i = ![(i 0).val - 1] := forall_coords (by decide +kernel)
theorem off28_eq : ∀ i : grid0.Coords, k0_off28 i = ![(i 0).val % 2] := forall_coords (by decide +kernel)
theorem off29_eq : ∀ i : grid0.Coords, k0_off29 i = ![(i 0).val % 2, 0, 0] := forall_coords (by decide +kernel)
theorem off31_eq : ∀ i : grid0.Coords, k0_off31 i = ![(i 0).val % 2, 0, 0] := forall_coords (by decide +kernel)
theorem off34_eq : ∀ i : grid0.Coords, k0_off34 i = ![(i 0).val % 2, 0, 0] := forall_coords (by decide +kernel)
theorem off35_eq : ∀ i : grid0.Coords, k0_off35 i = ![(i 0).val % 2] := forall_coords (by decide +kernel)
theorem off37_eq : ∀ i : grid0.Coords, k0_off37 i = ![(i 0).val % 2, 0, 0] := forall_coords (by decide +kernel)
theorem off38_eq : ∀ i : grid0.Coords, k0_off38 i = ![(i 0).val % 2] := forall_coords (by decide +kernel)
theorem off40_eq : ∀ i : grid0.Coords, k0_off40 i = ![(i 0).val % 2, 0, 0] := forall_coords (by decide +kernel)
theorem off25_eq : ∀ i : grid0.Coords, 2 ≤ (i 0).val → k0_off25 i = ![(i 0).val % 2] := forall_coords (by decide +kernel)
theorem off26_eq : ∀ i : grid0.Coords, 2 ≤ (i 0).val → k0_off26 i = ![256 * ((i 0).val - 2), 0, 0] := forall_coords (by decide +kernel)
theorem off27_eq : ∀ i : grid0.Coords, 2 ≤ (i 0).val → k0_off27 i = ![(i 0).val % 2, 0, 0] := forall_coords (by decide +kernel)
theorem off41_eq : ∀ i : grid0.Coords, 1 ≤ (i 0).val → k0_off41 i = ![((i 0).val - 1) % 2] := forall_coords (by decide +kernel)
theorem off42_eq : ∀ i : grid0.Coords, 1 ≤ (i 0).val → k0_off42 i = ![256 * ((i 0).val - 1), 0, 0] := forall_coords (by decide +kernel)
theorem off43_eq : ∀ i : grid0.Coords, 1 ≤ (i 0).val → k0_off43 i = ![((i 0).val - 1) % 2, 0, 0] := forall_coords (by decide +kernel)

/-! ## Conditions -/

theorem cond2_iff : ∀ i : grid0.Coords, (k0_cond2 i = 1#1 ↔ (i 0).val = 0) := forall_coords (by decide +kernel)
theorem cond6_iff : ∀ i : grid0.Coords, (k0_cond6 i = 1#1 ↔ 2 ≤ (i 0).val) := forall_coords (by decide +kernel)
theorem cond8_iff : ∀ i : grid0.Coords, (k0_cond8 i = 1#1 ↔ 1 ≤ (i 0).val) := forall_coords (by decide +kernel)

theorem ne_extui_iff : ∀ b : BitVec 1, (Scalar.cmpi .ne (Scalar.extui b : BitVec 32) 0#32 = 1#1 ↔ b = 1#1) := by decide

theorem cond1_iff (i : grid0.Coords) {n : ℕ} (hn : n ≤ 288) : k0_cond1 i (w32 n) = 1#1 ↔ (i 0).val < n := by
  have := i_lt i
  refine (ne_extui_iff _).trans ?_
  exact cmpi_slt_ofNat_eq_one_iff (w := 32) (by omega) (by omega)

theorem cond3_iff (i : grid0.Coords) {n : ℕ} (hn : n ≤ 288) : k0_cond3 i (w32 n) = 1#1 ↔ (i 0).val + 1 < n := by
  have := i_lt i
  refine (ne_extui_iff _).trans ?_
  have e : Scalar.addi (BitVec.ofNat 32 (i 0).val) 1#32 = BitVec.ofNat 32 ((i 0).val + 1) := (BitVec.ofNat_add ..).symm
  rw [e]
  exact cmpi_slt_ofNat_eq_one_iff (w := 32) (by omega) (by omega)

theorem w32_inj {a b : ℕ} (ha : a < 2 ^ 32) (hb : b < 2 ^ 32) : w32 a = w32 b ↔ a = b :=
  ⟨fun h => by rw [← w32_toNat ha, ← w32_toNat hb, h], fun h => by rw [h]⟩

theorem ofBool_eq_one (p : Prop) [Decidable p] : BitVec.ofBool (decide p) = 1#1 ↔ p := by
  by_cases h : p <;> simp [h]

theorem or_eq_one : ∀ a b : BitVec 1, (Scalar.ori a b = 1#1 ↔ a = 1#1 ∨ b = 1#1) := by decide

theorem cond4_iff (i : grid0.Coords) {a b : ℕ} (ha : a < 32) (hb : b < 32) :
    k0_cond4 i (w32 a) (w32 b) = 1#1 ↔ (i 0).val = 0 ∨ a ≠ b := by
  have := i_lt i
  refine (ne_extui_iff _).trans ((or_eq_one _ _).trans (or_congr ?_ ?_))
  · refine (Iff.of_eq (congrArg (· = 1#1) (cmpi_eq_eq _ _))).trans ((ofBool_eq_one _).trans ?_)
    exact w32_inj (b := 0) (by omega) (by omega)
  · refine (Iff.of_eq (congrArg (· = 1#1) (cmpi_ne_eq _ _))).trans ((ofBool_eq_one _).trans ?_)
    exact not_congr (w32_inj (by omega) (by omega))

theorem cond5_iff {w : ℕ} (hw : w ≤ 32) : k0_cond5 (w32 w) = 1#1 ↔ w < 32 := by
  refine (ne_extui_iff _).trans ?_
  exact cmpi_slt_ofNat_eq_one_iff (w := 32) (b := 32) (by omega) (by omega)

theorem cond7_iff (i : grid0.Coords) {n : ℕ} (h1 : 1 ≤ n) (hn : n ≤ 288) : k0_cond7 i (w32 n) = 1#1 ↔ (i 0).val + 1 = n := by
  have := i_lt i
  refine (ne_extui_iff _).trans ?_
  have e : Scalar.subi (w32 n) 1#32 = w32 (n - 1) := by
    show w32 n - 1#32 = _
    apply BitVec.eq_of_toNat_eq
    rw [BitVec.toNat_sub, w32_toNat (e := n) (by omega), w32_toNat (e := n - 1) (by omega)]
    show (2 ^ 32 - 1 + n) % 2 ^ 32 = n - 1
    omega
  rw [e]
  refine (Iff.of_eq (congrArg (· = 1#1) (cmpi_eq_eq _ _))).trans ((ofBool_eq_one _).trans ?_)
  refine (w32_inj (by omega) (by omega)).trans ?_
  omega

/-! ## Offsets of a table word -/

theorem off1_eq {e : ℕ} (h : e < 2 ^ 32) : k0_off1 (w32 e) = ![e] := by
  unfold k0_off1; simp only [w32_toNat h]
theorem off2_eq {e : ℕ} (h : e < 2 ^ 32) : k0_off2 (w32 e) = ![e, 0, 0] := by
  unfold k0_off2; simp only [w32_toNat h]
theorem off4_eq {e : ℕ} (h : e < 2 ^ 32) : k0_off4 (w32 e) = ![e] := by
  unfold k0_off4; simp only [w32_toNat h]
theorem off5_eq {e : ℕ} (h : e < 2 ^ 32) : k0_off5 (w32 e) = ![e, 0, 0] := by
  unfold k0_off5; simp only [w32_toNat h]
theorem off3_eq {e : ℕ} (h : e < 2 ^ 32) : k0_off3 (w32 e) = ![e, 0, 0] := by
  unfold k0_off3; simp only [w32_toNat h]
theorem off12_eq {e : ℕ} (h : e < 2 ^ 32) : k0_off12 (w32 e) = ![e] := by
  unfold k0_off12; simp only [w32_toNat h]
theorem off13_eq {e : ℕ} (h : e < 2 ^ 32) : k0_off13 (w32 e) = ![e, 0, 0] := by
  unfold k0_off13; simp only [w32_toNat h]
theorem off15_eq {e : ℕ} (h : e < 2 ^ 32) : k0_off15 (w32 e) = ![e] := by
  unfold k0_off15; simp only [w32_toNat h]
theorem off16_eq {e : ℕ} (h : e < 2 ^ 32) : k0_off16 (w32 e) = ![e, 0, 0] := by
  unfold k0_off16; simp only [w32_toNat h]
theorem off24_eq {e : ℕ} (h : e < 2 ^ 32) : k0_off24 (w32 e) = ![e, 0, 0] := by
  show ![(w32 e).toNat, 0, 0] = _; rw [w32_toNat h]
theorem off14_eq {e : ℕ} (h : e < 2 ^ 32) : k0_off14 (w32 e) = ![e, 0, 0] := by
  unfold k0_off14; simp only [w32_toNat h]
theorem off21_eq {e : ℕ} (h : e < 2 ^ 32) : k0_off21 (w32 e) = ![e, 0, 0] := by
  unfold k0_off21; simp only [w32_toNat h]
theorem off33_eq {e : ℕ} (h : e < 2 ^ 32) : k0_off33 (w32 e) = ![e, 0] := by
  show ![(w32 e).toNat, 0] = _; rw [w32_toNat h]
theorem off19_eq {e : ℕ} (h : e < 2) : k0_off19 (w32 e) = ![1 - e] := by
  rcases (show e = 0 ∨ e = 1 by omega) with rfl | rfl <;> decide +kernel
theorem off20_eq {e : ℕ} (h : e < 2) : k0_off20 (w32 e) = ![1 - e, 0, 0] := by
  rcases (show e = 0 ∨ e = 1 by omega) with rfl | rfl <;> decide +kernel
theorem off22_eq {e : ℕ} (h : e < 2) : k0_off22 (w32 e) = ![1 - e] := by
  rcases (show e = 0 ∨ e = 1 by omega) with rfl | rfl <;> decide +kernel
theorem off23_eq {e : ℕ} (h : e < 2) : k0_off23 (w32 e) = ![1 - e, 0, 0] := by
  rcases (show e = 0 ∨ e = 1 by omega) with rfl | rfl <;> decide +kernel

/-! ## The loops over the blocks from `n` on -/

theorem forall_n {P : ℕ → Prop} (h : ∀ n : Fin 289, P n.val) (n : ℕ) (hn : n ≤ 288) : P n := h ⟨n, by omega⟩

theorem t1_trips : ∀ n, n ≤ 288 → (k0_t1_loop (w32 n)).trips = 288 - n := forall_n (by decide +kernel)
theorem t3_trips : ∀ n, n ≤ 288 → (k0_t3_loop (w32 n)).trips = 288 - n := forall_n (by decide +kernel)
theorem t2_trips : ∀ n, n ≤ 288 → (k0_t2_loop (w32 n)).trips = 0 := forall_n (by decide +kernel)
theorem t4_trips : ∀ n, n ≤ 288 → (k0_t4_loop (w32 n)).trips = 0 := forall_n (by decide +kernel)
theorem t1_ok : ∀ n, n ≤ 288 → (k0_t1_loop (w32 n)).OK := forall_n (by decide +kernel)
theorem t2_ok : ∀ n, n ≤ 288 → (k0_t2_loop (w32 n)).OK := forall_n (by decide +kernel)
theorem t3_ok : ∀ n, n ≤ 288 → (k0_t3_loop (w32 n)).OK := forall_n (by decide +kernel)
theorem t4_ok : ∀ n, n ≤ 288 → (k0_t4_loop (w32 n)).OK := forall_n (by decide +kernel)

theorem off44_eq {n : ℕ} (hn : n ≤ 288) (k : Fin (k0_t1_loop (w32 n)).trips) :
    k0_off44 (w32 n) k = ![256 * (n + k.val), 0, 0] := by
  have hk : k.val < 288 - n := lt_of_lt_of_eq k.isLt (t1_trips n hn)
  have e : (Scalar.muli (Scf.iv (w32 n) 1#32 k.val) 256#32).toNat = 256 * (n + k.val) := by
    show ((w32 n + BitVec.ofNat 32 k.val * 1#32) * 256#32).toNat = _
    simp only [BitVec.toNat_mul, BitVec.toNat_add, BitVec.toNat_ofNat]
    omega
  unfold k0_off44; simp only [e]

theorem mult8_dvd {n : ℕ} (hn : n ≤ 288) (k : Fin (k0_t1_loop (w32 n)).trips) : 256 ∣ (k0_mult8 (w32 n) k).toNat := by
  have e : (k0_mult8 (w32 n) k).toNat = 256 * (n + k.val) := congrFun (off44_eq hn k) 0
  rw [e]; exact Dvd.intro _ rfl

theorem off46_eq {n : ℕ} (hn : n ≤ 288) (k : Fin (k0_t3_loop (w32 n)).trips) :
    k0_off46 (w32 n) k = ![256 * (n + k.val), 0, 0] := by
  have hk : k.val < 288 - n := lt_of_lt_of_eq k.isLt (t3_trips n hn)
  have e : (Scalar.muli (Scf.iv (w32 n) 1#32 k.val) 256#32).toNat = 256 * (n + k.val) := by
    show ((w32 n + BitVec.ofNat 32 k.val * 1#32) * 256#32).toNat = _
    simp only [BitVec.toNat_mul, BitVec.toNat_add, BitVec.toNat_ofNat]
    omega
  unfold k0_off46; simp only [e]

theorem mult10_dvd {n : ℕ} (hn : n ≤ 288) (k : Fin (k0_t3_loop (w32 n)).trips) : 256 ∣ (k0_mult10 (w32 n) k).toNat := by
  have e : (k0_mult10 (w32 n) k).toNat = 256 * (n + k.val) := congrFun (off46_eq hn k) 0
  rw [e]; exact Dvd.intro _ rfl

/-- A rectangle of extents `s` at the offsets of a slab `k` of extent `b`, inside extents `S`. -/
theorem inb3 {o : Fin 3 → ℕ} {k : ℕ} (ho : o = ![k, 0, 0]) {s S : Fin 3 → ℕ} (h0 : k + s 0 ≤ S 0) (h1 : s 1 ≤ S 1) (h2 : s 2 ≤ S 2) :
    ∀ a, o a + s a ≤ S a := by
  subst ho; intro a
  fin_cases a
  · exact h0
  · show 0 + _ ≤ _; rw [Nat.zero_add]; exact h1
  · show 0 + _ ≤ _; rw [Nat.zero_add]; exact h2

theorem inb1 {o : Fin 1 → ℕ} {k : ℕ} (ho : o = ![k]) {s S : Fin 1 → ℕ} (h0 : k + s 0 ≤ S 0) : ∀ a, o a + s a ≤ S a := by
  subst ho; intro a; fin_cases a; exact h0

theorem chk3_of (i : grid0.Coords) {n : ℕ} (hn : n ≤ 288) : k0_chk3 i (w32 n) := by
  unfold k0_chk3
  refine ⟨fun _ h3 => ?_, fun _ _ => t1_ok n hn, fun k _ _ => mult8_dvd hn k, fun k _ _ => ?_, fun _ _ => t2_ok n hn, fun k _ _ => ?_,
    fun k _ _ => ?_, fun _ _ => t3_ok n hn, fun k _ _ => mult10_dvd hn k, fun k _ _ => ?_, fun _ _ => t4_ok n hn, fun k _ _ => ?_, fun k _ _ => ?_⟩
  · have := (cond3_iff i hn).mp h3
    exact inb3 (off8_eq i) (show 256 * ((i 0).val + 1) + 256 ≤ 73728 by omega) le_rfl le_rfl
  · have hk : k.val < 288 - n := lt_of_lt_of_eq k.isLt (t1_trips n hn)
    exact inb3 (off44_eq hn k) (show 256 * (n + k.val) + 256 ≤ 73728 by omega) le_rfl le_rfl
  · exact (Nat.not_lt_zero _ (lt_of_lt_of_eq k.isLt (t2_trips n hn))).elim
  · exact (Nat.not_lt_zero _ (lt_of_lt_of_eq k.isLt (t2_trips n hn))).elim
  · have hk : k.val < 288 - n := lt_of_lt_of_eq k.isLt (t3_trips n hn)
    exact inb3 (off46_eq hn k) (show 256 * (n + k.val) + 256 ≤ 73728 by omega) le_rfl le_rfl
  · exact (Nat.not_lt_zero _ (lt_of_lt_of_eq k.isLt (t4_trips n hn))).elim
  · exact (Nat.not_lt_zero _ (lt_of_lt_of_eq k.isLt (t4_trips n hn))).elim

theorem chk1_of (i : grid0.Coords) (v0 : BitVec 32) {s : ℕ} (hs : s < 2) : k0_chk1 i v0 (w32 s) :=
  have h : s < 2 ^ 32 := by omega
  ⟨fun _ _ => inb1 (off1_eq h) (show s + 1 ≤ 2 by omega), fun _ _ => inb3 (off2_eq h) (show s + 1 ≤ 2 by omega) le_rfl le_rfl,
    fun _ _ => inb1 (off4_eq h) (show s + 1 ≤ 2 by omega), fun _ _ => inb3 (off5_eq h) (show s + 1 ≤ 2 by omega) le_rfl le_rfl⟩

theorem chk2_of (i : grid0.Coords) (v0 : BitVec 32) {e : ℕ} (he : e < 32) : k0_chk2 i v0 (w32 e) :=
  fun _ _ => inb3 (off3_eq (by omega)) (show e + 1 ≤ 32 by omega) le_rfl le_rfl

theorem chk4_of (i : grid0.Coords) (v0 v13 v17 : BitVec 32) {s : ℕ} (hs : s < 2) : k0_chk4 i v0 v13 v17 (w32 s) :=
  have h : s < 2 ^ 32 := by omega
  ⟨fun _ _ => inb1 (off12_eq h) (show s + 1 ≤ 2 by omega), fun _ _ => inb3 (off13_eq h) (show s + 1 ≤ 2 by omega) le_rfl le_rfl,
    fun _ _ => inb1 (off15_eq h) (show s + 1 ≤ 2 by omega), fun _ _ => inb3 (off16_eq h) (show s + 1 ≤ 2 by omega) le_rfl le_rfl,
    fun _ _ => inb3 (off24_eq h) (show s + 1 ≤ 2 by omega) le_rfl le_rfl⟩

theorem chk5_of (i : grid0.Coords) (v0 v13 v17 : BitVec 32) {e : ℕ} (he : e < 32) : k0_chk5 i v0 v13 v17 (w32 e) :=
  fun _ _ => inb3 (off14_eq (by omega)) (show e + 1 ≤ 32 by omega) le_rfl le_rfl

theorem chk6_of (i : grid0.Coords) (v0 v13 v17 v174 : BitVec 32) {s : ℕ} (hs : s < 2) : k0_chk6 i v0 v13 v17 (w32 s) v174 :=
  ⟨fun _ _ _ => inb1 (off19_eq hs) (show 1 - s + 1 ≤ 2 by omega), fun _ _ _ => inb3 (off20_eq hs) (show 1 - s + 1 ≤ 2 by omega) le_rfl le_rfl,
    fun _ _ _ => inb1 (off22_eq hs) (show 1 - s + 1 ≤ 2 by omega), fun _ _ _ => inb3 (off23_eq hs) (show 1 - s + 1 ≤ 2 by omega) le_rfl le_rfl⟩

theorem chk7_of (i : grid0.Coords) (v0 v13 v17 : BitVec 32) {w : ℕ} (hw : w ≤ 32) {e : ℕ} (he : w < 32 → e < 32) (hee : e < 2 ^ 32) :
    k0_chk7 i v0 v13 v17 (w32 w) (w32 e) :=
  fun _ _ h5 => by
    have := he ((cond5_iff hw).mp h5)
    exact inb3 (off21_eq hee) (show e + 1 ≤ 32 by omega) le_rfl le_rfl

theorem chk8_of (i : grid0.Coords) (v0 : BitVec 32) {e : ℕ} (he : e < 32) : k0_chk8 i v0 (w32 e) := by
  unfold k0_chk8
  intro _
  rw [off33_eq (by omega)]
  intro a; fin_cases a
  · show e + 1 ≤ 32; omega
  · show 0 + 1024 ≤ 1024; omega

end Cert.KernelIdeal.Own
-- ==== Proof.Views.lean ====
/-
  The slabs of the experts kernel's arrays — the blocks of 256 rows of the rows and of the result, the weight
  blocks of the experts, the two slots of the scratch buffers — and the transfers between them, each stated once
  over any memrefs.
-/
module

public import proofs.«01_k».proof.Proof.Offs
public import Idealize.ShloMosaic.Lib.Batch
public import Idealize.ShloMosaic.Lib.Transfers
public import Idealize.ShloMosaic.Lib.Pipeline.FrameSuffixV
public import Idealize.ShloMosaic.Lib.Pipeline.Value
public import Idealize.ShloMosaic.Lib.Exec.Geometry
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- No loop variants. -/
abbrev 𝒱₀ : Variants := Variants.none

variable (F) in
/-- The counters' component of the ghost state. -/
abbrev EC : UEmb Counters 𝕄 := countersEmb (U := Pipeline.UD sig nD τ)

/-! ## The slabs -/

/-- 256 rows of the rows' array. -/
abbrev xblk (M : Memref sig .tc .hbm S73728x1x1024 .f32) (o : Fin 3 → ℕ) (h : ∀ a, o a + S256x1x1024.size a ≤ S73728x1x1024.size a) :
    Memref sig .tc .hbm S256x1024 .f32 :=
  (M.slice (Rect.unit (s := S73728x1x1024) o S256x1x1024.size h) (fun _ => rfl)).squeeze S256x1024 squeezes_S256x1x1024_S256x1024

/-- One slot of a scratch buffer of rows. -/
abbrev xslot (M : Memref sig .tc .vmem S2x256x1024 .f32) (o : Fin 3 → ℕ) (h : ∀ a, o a + S1x256x1024.size a ≤ S2x256x1024.size a) :
    Memref sig .tc .vmem S256x1024 .f32 :=
  (M.slice (Rect.unit (s := S2x256x1024) o S1x256x1024.size h) (fun _ => rfl)).squeeze S256x1024 squeezes_S1x256x1024_S256x1024

/-- One expert's weights. -/
abbrev wblk (M : Memref sig .tc .hbm S32x1024x1024 .f32) (o : Fin 3 → ℕ) (h : ∀ a, o a + S1x1024x1024.size a ≤ S32x1024x1024.size a) :
    Memref sig .tc .hbm S1024x1024 .f32 :=
  (M.slice (Rect.unit (s := S32x1024x1024) o S1x1024x1024.size h) (fun _ => rfl)).squeeze S1024x1024 squeezes_S1x1024x1024_S1024x1024

/-- One slot of a scratch buffer of weights. -/
abbrev wslot (M : Memref sig .tc .vmem S2x1024x1024 .f32) (o : Fin 3 → ℕ) (h : ∀ a, o a + S1x1024x1024.size a ≤ S2x1024x1024.size a) :
    Memref sig .tc .vmem S1024x1024 .f32 :=
  (M.slice (Rect.unit (s := S2x1024x1024) o S1x1024x1024.size h) (fun _ => rfl)).squeeze S1024x1024 squeezes_S1x1024x1024_S1024x1024

/-- One of a pair of semaphores. -/
abbrev semq (A : DmaSems sig S2) (o : Fin 1 → ℕ) (h : ∀ a, o a + S1.size a ≤ S2.size a) : DmaSem sig :=
  ((A.slice (Rect.unit (s := S2) o S1.size h)).squeeze S_ squeezes_S1_S_).sem

theorem xblk_inb (t : ℕ) : ∀ a, (![256 * (t % 288), 0, 0] : Fin 3 → ℕ) a + S256x1x1024.size a ≤ S73728x1x1024.size a :=
  inb3 rfl (show 256 * (t % 288) + 256 ≤ 73728 by omega) le_rfl le_rfl
theorem xslot_inb (s : ℕ) : ∀ a, (![s % 2, 0, 0] : Fin 3 → ℕ) a + S1x256x1024.size a ≤ S2x256x1024.size a :=
  inb3 rfl (show s % 2 + 1 ≤ 2 by omega) le_rfl le_rfl
theorem wblk_inb (e : ℕ) : ∀ a, (![e % 32, 0, 0] : Fin 3 → ℕ) a + S1x1024x1024.size a ≤ S32x1024x1024.size a :=
  inb3 rfl (show e % 32 + 1 ≤ 32 by omega) le_rfl le_rfl
theorem wslot_inb (s : ℕ) : ∀ a, (![s % 2, 0, 0] : Fin 3 → ℕ) a + S1x1024x1024.size a ≤ S2x1024x1024.size a :=
  inb3 rfl (show s % 2 + 1 ≤ 2 by omega) le_rfl le_rfl
theorem semq_inb (s : ℕ) : ∀ a, (![s % 2] : Fin 1 → ℕ) a + S1.size a ≤ S2.size a :=
  inb1 rfl (show s % 2 + 1 ≤ 2 by omega)

/-- Block `t` of an array of rows. -/
abbrev xb (M : Memref sig .tc .hbm S73728x1x1024 .f32) (t : ℕ) := xblk M ![256 * (t % 288), 0, 0] (xblk_inb t)
/-- Slot `s mod 2` of a scratch buffer of rows. -/
abbrev xs (M : Memref sig .tc .vmem S2x256x1024 .f32) (s : ℕ) := xslot M ![s % 2, 0, 0] (xslot_inb s)
/-- Expert `e`'s weights. -/
abbrev wb (M : Memref sig .tc .hbm S32x1024x1024 .f32) (e : ℕ) := wblk M ![e % 32, 0, 0] (wblk_inb e)
/-- Slot `s mod 2` of a scratch buffer of weights. -/
abbrev ws (M : Memref sig .tc .vmem S2x1024x1024 .f32) (s : ℕ) := wslot M ![s % 2, 0, 0] (wslot_inb s)
/-- Semaphore `s mod 2` of a pair. -/
abbrev sq (A : DmaSems sig S2) (s : ℕ) : DmaSem sig := semq A ![s % 2] (semq_inb s)

/-! ## The elements of a slab -/

theorem mem_xb_main_arg1 (t : ℕ) (j : S73728x1x1024.Idx) :
    j ∈ (xb (Memref.whole main_arg1) t).view.set ↔ (j 0).val / 256 = t % 288 := by
  rw [Memref.set_view_squeeze _ squeezes_S256x1x1024_S256x1024]
  refine (Iff.of_eq (congrArg (j ∈ ·) (View.set_slice_whole main_arg1 _))).trans (Rect.mem_set_unit.trans ?_)
  have h1 : (j 1).val < 1 := (j 1).isLt
  have h2 : (j 2).val < 1024 := (j 2).isLt
  constructor
  · intro h
    have h0 : 256 * (t % 288) ≤ (j 0).val ∧ (j 0).val < 256 * (t % 288) + 256 := h 0
    omega
  · intro h a
    fin_cases a
    · show 256 * (t % 288) ≤ (j 0).val ∧ (j 0).val < 256 * (t % 288) + 256; omega
    · show 0 ≤ (j 1).val ∧ (j 1).val < 0 + 1; omega
    · show 0 ≤ (j 2).val ∧ (j 2).val < 0 + 1024; omega

theorem mem_xb_main_v53 (t : ℕ) (j : S73728x1x1024.Idx) :
    j ∈ (xb (Memref.whole main_v53) t).view.set ↔ (j 0).val / 256 = t % 288 := by
  rw [Memref.set_view_squeeze _ squeezes_S256x1x1024_S256x1024]
  refine (Iff.of_eq (congrArg (j ∈ ·) (View.set_slice_whole main_v53 _))).trans (Rect.mem_set_unit.trans ?_)
  have h1 : (j 1).val < 1 := (j 1).isLt
  have h2 : (j 2).val < 1024 := (j 2).isLt
  constructor
  · intro h
    have h0 : 256 * (t % 288) ≤ (j 0).val ∧ (j 0).val < 256 * (t % 288) + 256 := h 0
    omega
  · intro h a
    fin_cases a
    · show 256 * (t % 288) ≤ (j 0).val ∧ (j 0).val < 256 * (t % 288) + 256; omega
    · show 0 ≤ (j 1).val ∧ (j 1).val < 0 + 1; omega
    · show 0 ≤ (j 2).val ∧ (j 2).val < 0 + 1024; omega

theorem mem_slot_cc0_scratch0 (s : ℕ) (j : S2x256x1024.Idx) :
    j ∈ (xs (Memref.whole cc0_scratch0) s).view.set ↔ (j 0).val = s % 2 := by
  rw [Memref.set_view_squeeze _ squeezes_S1x256x1024_S256x1024]
  refine (Iff.of_eq (congrArg (j ∈ ·) (View.set_slice_whole cc0_scratch0 _))).trans (Rect.mem_set_unit.trans ?_)
  have h1 : (j 1).val < 256 := (j 1).isLt
  have h2 : (j 2).val < 1024 := (j 2).isLt
  constructor
  · intro h
    have h0 : s % 2 ≤ (j 0).val ∧ (j 0).val < s % 2 + 1 := h 0
    omega
  · intro h a
    fin_cases a
    · show s % 2 ≤ (j 0).val ∧ (j 0).val < s % 2 + 1; omega
    · show 0 ≤ (j 1).val ∧ (j 1).val < 0 + 256; omega
    · show 0 ≤ (j 2).val ∧ (j 2).val < 0 + 1024; omega

theorem mem_slot_cc0_scratch1 (s : ℕ) (j : S2x256x1024.Idx) :
    j ∈ (xs (Memref.whole cc0_scratch1) s).view.set ↔ (j 0).val = s % 2 := by
  rw [Memref.set_view_squeeze _ squeezes_S1x256x1024_S256x1024]
  refine (Iff.of_eq (congrArg (j ∈ ·) (View.set_slice_whole cc0_scratch1 _))).trans (Rect.mem_set_unit.trans ?_)
  have h1 : (j 1).val < 256 := (j 1).isLt
  have h2 : (j 2).val < 1024 := (j 2).isLt
  constructor
  · intro h
    have h0 : s % 2 ≤ (j 0).val ∧ (j 0).val < s % 2 + 1 := h 0
    omega
  · intro h a
    fin_cases a
    · show s % 2 ≤ (j 0).val ∧ (j 0).val < s % 2 + 1; omega
    · show 0 ≤ (j 1).val ∧ (j 1).val < 0 + 256; omega
    · show 0 ≤ (j 2).val ∧ (j 2).val < 0 + 1024; omega

theorem mem_slot_cc0_scratch4 (s : ℕ) (j : S2x1024x1024.Idx) :
    j ∈ (ws (Memref.whole cc0_scratch4) s).view.set ↔ (j 0).val = s % 2 := by
  rw [Memref.set_view_squeeze _ squeezes_S1x1024x1024_S1024x1024]
  refine (Iff.of_eq (congrArg (j ∈ ·) (View.set_slice_whole cc0_scratch4 _))).trans (Rect.mem_set_unit.trans ?_)
  have h1 : (j 1).val < 1024 := (j 1).isLt
  have h2 : (j 2).val < 1024 := (j 2).isLt
  constructor
  · intro h
    have h0 : s % 2 ≤ (j 0).val ∧ (j 0).val < s % 2 + 1 := h 0
    omega
  · intro h a
    fin_cases a
    · show s % 2 ≤ (j 0).val ∧ (j 0).val < s % 2 + 1; omega
    · show 0 ≤ (j 1).val ∧ (j 1).val < 0 + 1024; omega
    · show 0 ≤ (j 2).val ∧ (j 2).val < 0 + 1024; omega

theorem mem_slot_cc0_scratch5 (s : ℕ) (j : S2x1024x1024.Idx) :
    j ∈ (ws (Memref.whole cc0_scratch5) s).view.set ↔ (j 0).val = s % 2 := by
  rw [Memref.set_view_squeeze _ squeezes_S1x1024x1024_S1024x1024]
  refine (Iff.of_eq (congrArg (j ∈ ·) (View.set_slice_whole cc0_scratch5 _))).trans (Rect.mem_set_unit.trans ?_)
  have h1 : (j 1).val < 1024 := (j 1).isLt
  have h2 : (j 2).val < 1024 := (j 2).isLt
  constructor
  · intro h
    have h0 : s % 2 ≤ (j 0).val ∧ (j 0).val < s % 2 + 1 := h 0
    omega
  · intro h a
    fin_cases a
    · show s % 2 ≤ (j 0).val ∧ (j 0).val < s % 2 + 1; omega
    · show 0 ≤ (j 1).val ∧ (j 1).val < 0 + 1024; omega
    · show 0 ≤ (j 2).val ∧ (j 2).val < 0 + 1024; omega

theorem mem_slot_cc0_scratch6 (s : ℕ) (j : S2x1024x1024.Idx) :
    j ∈ (ws (Memref.whole cc0_scratch6) s).view.set ↔ (j 0).val = s % 2 := by
  rw [Memref.set_view_squeeze _ squeezes_S1x1024x1024_S1024x1024]
  refine (Iff.of_eq (congrArg (j ∈ ·) (View.set_slice_whole cc0_scratch6 _))).trans (Rect.mem_set_unit.trans ?_)
  have h1 : (j 1).val < 1024 := (j 1).isLt
  have h2 : (j 2).val < 1024 := (j 2).isLt
  constructor
  · intro h
    have h0 : s % 2 ≤ (j 0).val ∧ (j 0).val < s % 2 + 1 := h 0
    omega
  · intro h a
    fin_cases a
    · show s % 2 ≤ (j 0).val ∧ (j 0).val < s % 2 + 1; omega
    · show 0 ≤ (j 1).val ∧ (j 1).val < 0 + 1024; omega
    · show 0 ≤ (j 2).val ∧ (j 2).val < 0 + 1024; omega

/-! ## Reads and contents -/

/-- Contents two views' reads agree on are held alike. -/
theorem pts_of_read {sp : Space} {s : Shape} {e : EltTy} (M : Memref sig .tc sp s e) (c : Dev nD) (q : PosShare TreeShare)
    {f g : Buf (Elt F) (M.view.loc (c : Thread nD τ))} (h : M.view.read (Elt F) f = M.view.read (Elt F) g) :
    ((M.view.loc (c : Thread nD τ) ↦[M.view.set]{q} f) : sProp 𝕄) = (M.view.loc (c : Thread nD τ) ↦[M.view.set]{q} g) := by
  refine pointsTo_congr fun i hi => ?_
  obtain ⟨x, -, rfl⟩ := Finset.mem_map.mp hi
  have hx := congrFun h x
  rw [View.read_apply, View.read_apply] at hx
  exact (cast_inj _).mp hx

/-! ## A transfer's start and wait -/

/-- A slab's elements, whatever they hold. -/
def free {sp : Space} {s : Shape} {e : EltTy} (dst : Memref sig .tc sp s e) (c : Dev nD) : sProp 𝕄 :=
  iprop(∃ f, dst.view.loc (c : Thread nD τ) ↦[dst.view.set]{fullShare} f)

/-- A slab's elements, read as `V`. -/
def holds {sp : Space} {s : Shape} {e : EltTy} (dst : Memref sig .tc sp s e) (c : Dev nD) (V : s.Idx → Elt F e) : sProp 𝕄 :=
  iprop(∃ f, ⌜dst.view.read (Elt F) f = V⌝ ∗ (dst.view.loc (c : Thread nD τ) ↦[dst.view.set]{fullShare} f))

/-- What a landed transfer of `src`'s contents delivers: the destination reads what the source read. -/
def landed {sp sp' : Space} {s : Shape} {e : EltTy} (src : Memref sig .tc sp s e) (dst : Memref sig .tc sp' s e) (c : Dev nD)
    (fs : Buf (Elt F) (src.view.loc (c : Thread nD τ))) : sProp 𝕄 :=
  iprop(holds dst c (src.view.read (Elt F) fs) ∗ (src.view.loc (c : Thread nD τ) ↦[src.view.set]{fullShare} fs))

theorem landed_of {sp sp' : Space} {s : Shape} {e : EltTy} {src : Memref sig .tc sp s e} {dst : Memref sig .tc sp' s e} {c : Dev nD}
    {fs : Buf (Elt F) (src.view.loc (c : Thread nD τ))} {fd : Buf (Elt F) (dst.view.loc (c : Thread nD τ))} :
    iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ (landed src dst c fs : sProp 𝕄) := by
  unfold landed holds
  iintro ⟨Hd, Hs⟩
  isplitl [Hd]
  · iexists (dst.view.write (Elt F) fd (src.view.read (Elt F) fs) Finset.univ)
    isplitr [Hd]
    · ipureintro; exact View.read_write_univ _ _
    · iexact Hd
  · iexact Hs

variable {Λ : Labels} {α : Type}

/-- The weakest precondition on device `c`'s core, with no loop variants. -/
abbrev WP (defs : Defs nD τ sig (Elt F) Λ) (c : Dev nD) (p : Prog (TpuEff nD τ sig (Elt F) Λ .tc) α) (Q : α → sProp 𝕄) : sProp 𝕄 :=
  wp Idealize.ShloMosaic.frame (wpE defs 𝒱₀ (c : Thread nD τ) none) Set.univ p Q

/-- A start of a transfer on this core, at the head of a program. -/
abbrev opStart {sp sp' : Space} {s : Shape} {e : EltTy} (src : Memref sig .tc sp s e) (dst : Memref sig .tc sp' s e) (sm : SemLoc sig)
    (hsrc : src.view.WordExact) (hdst : dst.view.WordExact) (hsem : DmaTarget.Typed (nD := nD) (τ := τ) (p := .tc) sp sm (.here dst))
    (k : PUnit → Prog (TpuEff nD τ sig (Elt F) Λ .tc) α) : Prog (TpuEff nD τ sig (Elt F) Λ .tc) α :=
  .op (@TpuEff.enqueueDmaAs nD τ sig (Elt F) Λ .tc _ _ _ _ _ _ src (.here dst) .same sm hsrc hdst hsem) k

theorem start_gen {defs : Defs nD τ sig (Elt F) Λ} {Q : α → sProp 𝕄} {sp sp' : Space} {s : Shape} {e : EltTy} {src : Memref sig .tc sp s e} {dst : Memref sig .tc sp' s e} {sm : SemLoc sig}
    (c : Dev nD) {fs : Buf (Elt F) (src.view.loc (c : Thread nD τ))} {A : Finset (Idx (src.view.loc (c : Thread nD τ)))}
    (N : ℕ) (hN : dst.view.amount sm = N) (hN0 : 0 < N) (hA : src.view.set ⊆ A)
    {hsrc : src.view.WordExact} {hdst : dst.view.WordExact} {hsem : DmaTarget.Typed (nD := nD) (τ := τ) (p := .tc) sp sm (.here dst)}
    {k : PUnit → Prog (TpuEff nD τ sig (Elt F) Λ .tc) α} :
    iprop((src.view.loc (c : Thread nD τ) ↦[A]{fullShare} fs) ∗ free dst c ∗ semVal ((c : Thread nD τ), sm) 0)
      ⊢ iprop((iprop(Transfers.Flight (EC F) (c : Thread nD τ) sm () N (landed src dst c fs)
                ∗ (src.view.loc (c : Thread nD τ) ↦[A \ src.view.set]{fullShare} fs))
              -∗ WP defs c (k ⟨⟩) Q)
          -∗ WP defs c (opStart src dst sm hsrc hdst hsem k) Q) := by
  unfold free
  iintro ⟨Hs, ⟨%fd, Hd⟩, Hv⟩ Hk
  ihave Hs2 := (pointsTo_split_subset (q := fullShare) (f := fs) hA).1 $$ Hs
  icases Hs2 with ⟨Hs, Hr⟩
  iapply (Transfers.wp_dmaLocal (EC F) 𝒱₀ (c : Thread nD τ) none () N hN hN0 (Finset.Subset.refl _)) $$ [Hs Hd Hv]
  · isplitl [Hs]; · iexact Hs
    isplitl [Hd]; · iexact Hd
    iexact Hv
  iintro Hf
  iapply Hk
  isplitl [Hf]
  · iapply (Transfers.Flight_mono (EC F) (c : Thread nD τ) (landed_of (src := src) (dst := dst) (fs := fs) (fd := fd))) $$ Hf
  · iexact Hr

end Cert.KernelIdeal.Own
-- ==== Proof.Ops.lean ====
/-
  The starts and the waits of the kernel's transfers, as rules over any memrefs at any offsets.
-/
module

public import proofs.«01_k».proof.Proof.Views

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {Λ : Labels} {α : Type}

/-! ## Waits -/

/-- The core's record of its waits, owing nothing. -/
def Ow (c : Dev nD) : sProp 𝕄 := iprop(∃ W, owes (c : Thread nD τ) 0 W)

/-- A wait at the head of a program. -/
abbrev opWait {sp sp' : Space} {s s' : Shape} {e e' : EltTy} (sem : DmaSem sig) (src : Memref sig .tc sp s e) (dst : Memref sig .tc sp' s' e')
    (hsrc : src.view.WordExact) (hdst : dst.view.WordExact)
    (k : PUnit → Prog (TpuEff nD τ sig (Elt F) Λ .tc) α) : Prog (TpuEff nD τ sig (Elt F) Λ .tc) α :=
  .op (@TpuEff.waitDma2 nD τ sig (Elt F) Λ .tc _ _ _ _ _ _ _ sem src dst hsrc hdst) k

theorem wait_gen {defs : Defs nD τ sig (Elt F) Λ} {Q : α → sProp 𝕄} {sp sp' : Space} {s s' : Shape} {e e' : EltTy} {sem : DmaSem sig}
    {src : Memref sig .tc sp s e} {dst : Memref sig .tc sp' s' e'} (c : Dev nD) (N : ℕ) (hN : dst.view.dmaCredit = N)
    {hsrc : src.view.WordExact} {hdst : dst.view.WordExact} {D : sProp 𝕄}
    {k : PUnit → Prog (TpuEff nD τ sig (Elt F) Λ .tc) α} :
    iprop(Transfers.Flight (EC F) (c : Thread nD τ) (.dma sem) () N D ∗ Ow c)
      ⊢ iprop((iprop(D ∗ semVal ((c : Thread nD τ), .dma sem) 0 ∗ Ow c) -∗ WP defs c (k ⟨⟩) Q)
          -∗ WP defs c (opWait sem src dst hsrc hdst k) Q) := by
  unfold Ow
  iintro ⟨Hf, ⟨%W, Ho⟩⟩ Hk
  iapply (Transfers.wp_waitLocal (EC F) 𝒱₀ (c : Thread nD τ) none () hN) $$ [Hf Ho]
  · isplitl [Hf]; · iexact Hf
    iexact Ho
  iintro ⟨HD, Hs, Ho⟩
  iapply Hk
  isplitl [HD]; · iexact HD
  isplitl [Hs]; · iexact Hs
  iexists _
  iexact Ho

/-! ## Batches of transfers of equal size on one semaphore -/

theorem start_batch {defs : Defs nD τ sig (Elt F) Λ} {Q : α → sProp 𝕄} {sp sp' : Space} {s : Shape} {e : EltTy} {src : Memref sig .tc sp s e} {dst : Memref sig .tc sp' s e} {sm : SemLoc sig}
    (c : Dev nD) {fs : Buf (Elt F) (src.view.loc (c : Thread nD τ))} {A : Finset (Idx (src.view.loc (c : Thread nD τ)))}
    (N : ℕ) (hN : dst.view.amount sm = N) (hA : src.view.set ⊆ A) {n : ℕ} {D : Fin n → sProp 𝕄} (j u : ℕ) (hj : j < n) (hu : u ≤ j * N)
    (hD : landed src dst c fs ⊢ D ⟨j, hj⟩)
    {hsrc : src.view.WordExact} {hdst : dst.view.WordExact} {hsem : DmaTarget.Typed (nD := nD) (τ := τ) (p := .tc) sp sm (.here dst)}
    {k : PUnit → Prog (TpuEff nD τ sig (Elt F) Λ .tc) α} :
    iprop((src.view.loc (c : Thread nD τ) ↦[A]{fullShare} fs) ∗ free dst c ∗ Transfers.Batch (EC F) (c : Thread nD τ) sm () N D j u)
      ⊢ iprop((iprop(Transfers.Batch (EC F) (c : Thread nD τ) sm () N D (j + 1) u
                ∗ (src.view.loc (c : Thread nD τ) ↦[A \ src.view.set]{fullShare} fs))
              -∗ WP defs c (k ⟨⟩) Q)
          -∗ WP defs c (opStart src dst sm hsrc hdst hsem k) Q) := by
  unfold free
  iintro ⟨Hs, ⟨%fd, Hd⟩, Hb⟩ Hk
  ihave Hs2 := (pointsTo_split_subset (q := fullShare) (f := fs) hA).1 $$ Hs
  icases Hs2 with ⟨Hs, Hr⟩
  have hD' := (landed_of (src := src) (dst := dst) (c := c) (fs := fs) (fd := fd)).trans hD
  iapply (Transfers.wp_dmaBatch (EC F) 𝒱₀ (c : Thread nD τ) none (src := src) (dst := dst) (sm := sm) (q := fullShare) (fs := fs) (fd := fd) (via := .same) (D := D)
    () N hN (Finset.Subset.refl _) hj hu hD') $$ [Hs Hd Hb]
  · isplitl [Hs]; · iexact Hs
    isplitl [Hd]; · iexact Hd
    iexact Hb
  iintro Hb
  iapply Hk
  isplitl [Hb]
  · iexact Hb
  · iexact Hr

theorem wait_batch {defs : Defs nD τ sig (Elt F) Λ} {Q : α → sProp 𝕄} {sp sp' : Space} {s s' : Shape} {e e' : EltTy} {sem : DmaSem sig}
    {src : Memref sig .tc sp s e} {dst : Memref sig .tc sp' s' e'} (c : Dev nD) (N : ℕ) (hN : dst.view.dmaCredit = N)
    {hsrc : src.view.WordExact} {hdst : dst.view.WordExact} {n : ℕ} {D : Fin n → sProp 𝕄} (j u : ℕ) (hu : u + N ≤ N * j)
    {k : PUnit → Prog (TpuEff nD τ sig (Elt F) Λ .tc) α} :
    iprop(Transfers.Batch (EC F) (c : Thread nD τ) (.dma sem) () N D j u ∗ Ow c)
      ⊢ iprop((iprop(Transfers.Batch (EC F) (c : Thread nD τ) (.dma sem) () N D j (u + N) ∗ Ow c) -∗ WP defs c (k ⟨⟩) Q)
          -∗ WP defs c (opWait sem src dst hsrc hdst k) Q) := by
  unfold Ow
  iintro ⟨Hf, ⟨%W, Ho⟩⟩ Hk
  iapply (Transfers.wp_waitBatchMul (EC F) 𝒱₀ (c : Thread nD τ) none () (N := N) 1 (by rw [Nat.one_mul]; exact hN) (by rw [Nat.one_mul]; exact hu)) $$ [Hf Ho]
  · isplitl [Hf]; · iexact Hf
    iexact Ho
  rw [Nat.one_mul]
  iintro ⟨HD, Ho⟩
  iapply Hk
  isplitl [HD]; · iexact HD
  iexists _
  iexact Ho

theorem wait_batch_last {defs : Defs nD τ sig (Elt F) Λ} {Q : α → sProp 𝕄} {sp sp' : Space} {s s' : Shape} {e e' : EltTy} {sem : DmaSem sig}
    {src : Memref sig .tc sp s e} {dst : Memref sig .tc sp' s' e'} (c : Dev nD) (N : ℕ) (hN : dst.view.dmaCredit = N) (hN0 : 0 < N)
    {hsrc : src.view.WordExact} {hdst : dst.view.WordExact} {n : ℕ} {D : Fin n → sProp 𝕄} (u : ℕ) (hu : u + N = N * n)
    {k : PUnit → Prog (TpuEff nD τ sig (Elt F) Λ .tc) α} :
    iprop(Transfers.Batch (EC F) (c : Thread nD τ) (.dma sem) () N D n u ∗ Ow c)
      ⊢ iprop((iprop(bigSep Finset.univ D ∗ semVal ((c : Thread nD τ), .dma sem) 0 ∗ Ow c) -∗ WP defs c (k ⟨⟩) Q)
          -∗ WP defs c (opWait sem src dst hsrc hdst k) Q) := by
  unfold Ow
  iintro ⟨Hf, ⟨%W, Ho⟩⟩ Hk
  iapply (Transfers.wp_waitBatchLast (EC F) 𝒱₀ (c : Thread nD τ) none () hN hN0 hu) $$ [Hf Ho]
  · isplitl [Hf]; · iexact Hf
    iexact Ho
  iintro ⟨HD, Hs, Ho⟩
  iapply Hk
  isplitl [HD]; · iexact HD
  isplitl [Hs]; · iexact Hs
  iexists _
  iexact Ho

/-! ## The transfers at their offsets: an offset is any expression equal to its closed form -/

variable {defs : Defs nD τ sig (Elt F) Λ}

theorem rows_start {Q : α → sProp 𝕄} (c : Dev nD) (M : Memref sig .tc .hbm S73728x1x1024 .f32) (B : Memref sig .tc .vmem S2x256x1024 .f32) (S : DmaSems sig S2)
    {fs : Buf (Elt F) (M.view.loc (c : Thread nD τ))} {A : Finset (Idx (M.view.loc (c : Thread nD τ)))} (t s : ℕ)
    (N : ℕ) (hN : (xs B s).view.dmaCredit = N) (hN0 : 0 < N) (hA : (xb M t).view.set ⊆ A)
    {o1 : Fin 1 → ℕ} {o2 o3 : Fin 3 → ℕ} (e1 : o1 = ![s % 2]) (e2 : o2 = ![s % 2, 0, 0]) (e3 : o3 = ![256 * (t % 288), 0, 0])
    {h1 h2 h3 hsrc hdst hsem} {k : PUnit → Prog (TpuEff nD τ sig (Elt F) Λ .tc) α} :
    iprop((M.view.loc (c : Thread nD τ) ↦[A]{fullShare} fs) ∗ free (xs B s) c ∗ semVal ((c : Thread nD τ), .dma (sq S s)) 0)
      ⊢ iprop((iprop(Transfers.Flight (EC F) (c : Thread nD τ) (.dma (sq S s)) () N (landed (xb M t) (xs B s) c fs)
                ∗ (M.view.loc (c : Thread nD τ) ↦[A \ (xb M t).view.set]{fullShare} fs))
              -∗ WP defs c (k ⟨⟩) Q)
          -∗ WP defs c (opStart (xblk M o3 h3) (xslot B o2 h2) (.dma (semq S o1 h1)) hsrc hdst hsem k) Q) := by
  subst e1 e2 e3
  exact start_gen (src := xb M t) (dst := xs B s) (sm := .dma (sq S s)) c N hN hN0 hA

theorem rows_wait {Q : α → sProp 𝕄} (c : Dev nD) (M : Memref sig .tc .hbm S73728x1x1024 .f32) (B : Memref sig .tc .vmem S2x256x1024 .f32) (S : DmaSems sig S2)
    (t s : ℕ) (N : ℕ) (hN : (xs B s).view.dmaCredit = N) {D : sProp 𝕄}
    {o1 : Fin 1 → ℕ} {o2 o3 : Fin 3 → ℕ} (e1 : o1 = ![s % 2]) (e2 : o2 = ![s % 2, 0, 0]) (e3 : o3 = ![256 * (t % 288), 0, 0])
    {h1 h2 h3 hsrc hdst} {k : PUnit → Prog (TpuEff nD τ sig (Elt F) Λ .tc) α} :
    iprop(Transfers.Flight (EC F) (c : Thread nD τ) (.dma (sq S s)) () N D ∗ Ow c)
      ⊢ iprop((iprop(D ∗ semVal ((c : Thread nD τ), .dma (sq S s)) 0 ∗ Ow c) -∗ WP defs c (k ⟨⟩) Q)
          -∗ WP defs c (opWait (semq S o1 h1) (xblk M o3 h3) (xslot B o2 h2) hsrc hdst k) Q) := by
  subst e1 e2 e3
  exact wait_gen (src := xb M t) (dst := xs B s) c N hN

theorem out_start {Q : α → sProp 𝕄} (c : Dev nD) (M : Memref sig .tc .hbm S73728x1x1024 .f32) (B : Memref sig .tc .vmem S2x256x1024 .f32) (S : DmaSems sig S2)
    {fs : Buf (Elt F) (B.view.loc (c : Thread nD τ))} {A : Finset (Idx (B.view.loc (c : Thread nD τ)))} (t s : ℕ)
    (N : ℕ) (hN : (xb M t).view.dmaCredit = N) (hN0 : 0 < N) (hA : (xs B s).view.set ⊆ A)
    {o1 : Fin 1 → ℕ} {o2 o3 : Fin 3 → ℕ} (e1 : o1 = ![s % 2]) (e2 : o2 = ![s % 2, 0, 0]) (e3 : o3 = ![256 * (t % 288), 0, 0])
    {h1 h2 h3 hsrc hdst hsem} {k : PUnit → Prog (TpuEff nD τ sig (Elt F) Λ .tc) α} :
    iprop((B.view.loc (c : Thread nD τ) ↦[A]{fullShare} fs) ∗ free (xb M t) c ∗ semVal ((c : Thread nD τ), .dma (sq S s)) 0)
      ⊢ iprop((iprop(Transfers.Flight (EC F) (c : Thread nD τ) (.dma (sq S s)) () N (landed (xs B s) (xb M t) c fs)
                ∗ (B.view.loc (c : Thread nD τ) ↦[A \ (xs B s).view.set]{fullShare} fs))
              -∗ WP defs c (k ⟨⟩) Q)
          -∗ WP defs c (opStart (xslot B o2 h2) (xblk M o3 h3) (.dma (semq S o1 h1)) hsrc hdst hsem k) Q) := by
  subst e1 e2 e3
  exact start_gen (src := xs B s) (dst := xb M t) (sm := .dma (sq S s)) c N hN hN0 hA

theorem out_wait {Q : α → sProp 𝕄} (c : Dev nD) (M : Memref sig .tc .hbm S73728x1x1024 .f32) (B : Memref sig .tc .vmem S2x256x1024 .f32) (S : DmaSems sig S2)
    (t s : ℕ) (N : ℕ) (hN : (xb M t).view.dmaCredit = N) {D : sProp 𝕄}
    {o1 : Fin 1 → ℕ} {o2 o3 : Fin 3 → ℕ} (e1 : o1 = ![s % 2]) (e2 : o2 = ![s % 2, 0, 0]) (e3 : o3 = ![256 * (t % 288), 0, 0])
    {h1 h2 h3 hsrc hdst} {k : PUnit → Prog (TpuEff nD τ sig (Elt F) Λ .tc) α} :
    iprop(Transfers.Flight (EC F) (c : Thread nD τ) (.dma (sq S s)) () N D ∗ Ow c)
      ⊢ iprop((iprop(D ∗ semVal ((c : Thread nD τ), .dma (sq S s)) 0 ∗ Ow c) -∗ WP defs c (k ⟨⟩) Q)
          -∗ WP defs c (opWait (semq S o1 h1) (xslot B o2 h2) (xblk M o3 h3) hsrc hdst k) Q) := by
  subst e1 e2 e3
  exact wait_gen (src := xs B s) (dst := xb M t) c N hN

theorem weights_start {Q : α → sProp 𝕄} (c : Dev nD) (M : Memref sig .tc .hbm S32x1024x1024 .f32) (B : Memref sig .tc .vmem S2x1024x1024 .f32) (S : DmaSems sig S2)
    {fs : Buf (Elt F) (M.view.loc (c : Thread nD τ))} {A : Finset (Idx (M.view.loc (c : Thread nD τ)))} (x s : ℕ)
    (N : ℕ) (hN : (ws B s).view.dmaCredit = N) (hA : (wb M x).view.set ⊆ A)
    {n : ℕ} {D : Fin n → sProp 𝕄} (j u : ℕ) (hj : j < n) (hu : u ≤ j * N) (hD : landed (wb M x) (ws B s) c fs ⊢ D ⟨j, hj⟩)
    {o1 : Fin 1 → ℕ} {o2 o3 : Fin 3 → ℕ} (e1 : o1 = ![s % 2]) (e2 : o2 = ![s % 2, 0, 0]) (e3 : o3 = ![x % 32, 0, 0])
    {h1 h2 h3 hsrc hdst hsem} {k : PUnit → Prog (TpuEff nD τ sig (Elt F) Λ .tc) α} :
    iprop((M.view.loc (c : Thread nD τ) ↦[A]{fullShare} fs) ∗ free (ws B s) c ∗ Transfers.Batch (EC F) (c : Thread nD τ) (.dma (sq S s)) () N D j u)
      ⊢ iprop((iprop(Transfers.Batch (EC F) (c : Thread nD τ) (.dma (sq S s)) () N D (j + 1) u
                ∗ (M.view.loc (c : Thread nD τ) ↦[A \ (wb M x).view.set]{fullShare} fs))
              -∗ WP defs c (k ⟨⟩) Q)
          -∗ WP defs c (opStart (wblk M o3 h3) (wslot B o2 h2) (.dma (semq S o1 h1)) hsrc hdst hsem k) Q) := by
  subst e1 e2 e3
  exact start_batch (src := wb M x) (dst := ws B s) (sm := .dma (sq S s)) c N hN hA j u hj hu hD

theorem weights_wait {Q : α → sProp 𝕄} (c : Dev nD) (M : Memref sig .tc .hbm S32x1024x1024 .f32) (B : Memref sig .tc .vmem S2x1024x1024 .f32) (S : DmaSems sig S2)
    (x s : ℕ) (N : ℕ) (hN : (ws B s).view.dmaCredit = N) {n : ℕ} {D : Fin n → sProp 𝕄} (j u : ℕ) (hu : u + N ≤ N * j)
    {o1 : Fin 1 → ℕ} {o2 o3 : Fin 3 → ℕ} (e1 : o1 = ![s % 2]) (e2 : o2 = ![s % 2, 0, 0]) (e3 : o3 = ![x % 32, 0, 0])
    {h1 h2 h3 hsrc hdst} {k : PUnit → Prog (TpuEff nD τ sig (Elt F) Λ .tc) α} :
    iprop(Transfers.Batch (EC F) (c : Thread nD τ) (.dma (sq S s)) () N D j u ∗ Ow c)
      ⊢ iprop((iprop(Transfers.Batch (EC F) (c : Thread nD τ) (.dma (sq S s)) () N D j (u + N) ∗ Ow c) -∗ WP defs c (k ⟨⟩) Q)
          -∗ WP defs c (opWait (semq S o1 h1) (wblk M o3 h3) (wslot B o2 h2) hsrc hdst k) Q) := by
  subst e1 e2 e3
  exact wait_batch (src := wb M x) (dst := ws B s) c N hN j u hu

theorem weights_wait_last {Q : α → sProp 𝕄} (c : Dev nD) (M : Memref sig .tc .hbm S32x1024x1024 .f32) (B : Memref sig .tc .vmem S2x1024x1024 .f32) (S : DmaSems sig S2)
    (x s : ℕ) (N : ℕ) (hN : (ws B s).view.dmaCredit = N) (hN0 : 0 < N) {n : ℕ} {D : Fin n → sProp 𝕄} (u : ℕ) (hu : u + N = N * n)
    {o1 : Fin 1 → ℕ} {o2 o3 : Fin 3 → ℕ} (e1 : o1 = ![s % 2]) (e2 : o2 = ![s % 2, 0, 0]) (e3 : o3 = ![x % 32, 0, 0])
    {h1 h2 h3 hsrc hdst} {k : PUnit → Prog (TpuEff nD τ sig (Elt F) Λ .tc) α} :
    iprop(Transfers.Batch (EC F) (c : Thread nD τ) (.dma (sq S s)) () N D n u ∗ Ow c)
      ⊢ iprop((iprop(bigSep Finset.univ D ∗ semVal ((c : Thread nD τ), .dma (sq S s)) 0 ∗ Ow c) -∗ WP defs c (k ⟨⟩) Q)
          -∗ WP defs c (opWait (semq S o1 h1) (wblk M o3 h3) (wslot B o2 h2) hsrc hdst k) Q) := by
  subst e1 e2 e3
  exact wait_batch_last (src := wb M x) (dst := ws B s) c N hN hN0 u hu

end Cert.KernelIdeal.Own
-- ==== Proof.Access.lean ====
/-
  Loads and stores of the kernel's buffers, as rules at any offsets.
-/
module

public import Idealize.ShloMosaic.Lib.ValueIdxCore
public import proofs.«01_k».proof.Proof.Ops

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {Λ : Labels} {α : Type}

variable {defs : Defs nD τ sig (Elt F) Λ}

/-! ## Words of the tables -/

/-- The index of a row of one axis. -/
abbrev at1 (n t : ℕ) (h : t < n) : Shape.Idx ⟨1, ![n]⟩ := fun d => match d with | ⟨0, _⟩ => ⟨t, h⟩

theorem read_main_v19 {Q : α → sProp 𝕄} (c : Dev nD) {q : PosShare TreeShare} {f : Buf (Elt F) ((c : Thread nD τ).loc main_v19)} (t : ℕ) (ht : t < 288)
    {o : Fin 1 → ℕ} (e : o = ![t]) {h hl} {k : (S1.Idx → Elt F .i32) → Prog (TpuEff nD τ sig (Elt F) Λ .tc) α} :
    (((c : Thread nD τ).loc main_v19) ↦{q} f)
      ⊢ iprop(((((c : Thread nD τ).loc main_v19) ↦{q} f) -∗ WP defs c (k (fun _ => f (at1 288 t ht))) Q)
        -∗ WP defs c (.op (.load (Memref.whole main_v19) (Rect.unit (s := S288) o S1.size h).toLoadRect hl) k) Q) := by
  subst e
  have hv : ((Memref.whole main_v19).access (Rect.unit (s := S288) ![t] S1.size h)).read (Elt F) f = fun _ => f (at1 288 t ht) := by
    funext x
    have hx : (x 0).val < 1 := (x 0).isLt
    rw [View.read_apply]
    refine congrArg f ?_
    funext a; fin_cases a
    exact Fin.ext (show t + 1 * (x 0).val = t by omega)
  iintro H Hk
  iapply (wp_load_rect 𝒱₀ (c : Thread nD τ) none Set.univ (m := Memref.whole main_v19) (r := Rect.unit (s := S288) ![t] S1.size h) (Finset.subset_univ _)) $$ H
  rw [hv]
  iexact Hk

theorem read_main_v50 {Q : α → sProp 𝕄} (c : Dev nD) {q : PosShare TreeShare} {f : Buf (Elt F) ((c : Thread nD τ).loc main_v50)} (t : ℕ) (ht : t < 288)
    {o : Fin 1 → ℕ} (e : o = ![t]) {h hl} {k : (S1.Idx → Elt F .i32) → Prog (TpuEff nD τ sig (Elt F) Λ .tc) α} :
    (((c : Thread nD τ).loc main_v50) ↦{q} f)
      ⊢ iprop(((((c : Thread nD τ).loc main_v50) ↦{q} f) -∗ WP defs c (k (fun _ => f (at1 288 t ht))) Q)
        -∗ WP defs c (.op (.load (Memref.whole main_v50) (Rect.unit (s := S288) o S1.size h).toLoadRect hl) k) Q) := by
  subst e
  have hv : ((Memref.whole main_v50).access (Rect.unit (s := S288) ![t] S1.size h)).read (Elt F) f = fun _ => f (at1 288 t ht) := by
    funext x
    have hx : (x 0).val < 1 := (x 0).isLt
    rw [View.read_apply]
    refine congrArg f ?_
    funext a; fin_cases a
    exact Fin.ext (show t + 1 * (x 0).val = t by omega)
  iintro H Hk
  iapply (wp_load_rect 𝒱₀ (c : Thread nD τ) none Set.univ (m := Memref.whole main_v50) (r := Rect.unit (s := S288) ![t] S1.size h) (Finset.subset_univ _)) $$ H
  rw [hv]
  iexact Hk

theorem read_main_v52 {Q : α → sProp 𝕄} (c : Dev nD) {q : PosShare TreeShare} {f : Buf (Elt F) ((c : Thread nD τ).loc main_v52)} (t : ℕ) (ht : t < 288)
    {o : Fin 1 → ℕ} (e : o = ![t]) {h hl} {k : (S1.Idx → Elt F .i32) → Prog (TpuEff nD τ sig (Elt F) Λ .tc) α} :
    (((c : Thread nD τ).loc main_v52) ↦{q} f)
      ⊢ iprop(((((c : Thread nD τ).loc main_v52) ↦{q} f) -∗ WP defs c (k (fun _ => f (at1 288 t ht))) Q)
        -∗ WP defs c (.op (.load (Memref.whole main_v52) (Rect.unit (s := S288) o S1.size h).toLoadRect hl) k) Q) := by
  subst e
  have hv : ((Memref.whole main_v52).access (Rect.unit (s := S288) ![t] S1.size h)).read (Elt F) f = fun _ => f (at1 288 t ht) := by
    funext x
    have hx : (x 0).val < 1 := (x 0).isLt
    rw [View.read_apply]
    refine congrArg f ?_
    funext a; fin_cases a
    exact Fin.ext (show t + 1 * (x 0).val = t by omega)
  iintro H Hk
  iapply (wp_load_rect 𝒱₀ (c : Thread nD τ) none Set.univ (m := Memref.whole main_v52) (r := Rect.unit (s := S288) ![t] S1.size h) (Finset.subset_univ _)) $$ H
  rw [hv]
  iexact Hk

theorem read_main_v23 {Q : α → sProp 𝕄} (c : Dev nD) {q : PosShare TreeShare} {f : Buf (Elt F) ((c : Thread nD τ).loc main_v23)}
    {h hl} {k : (S1.Idx → Elt F .i32) → Prog (TpuEff nD τ sig (Elt F) Λ .tc) α} :
    (((c : Thread nD τ).loc main_v23) ↦{q} f)
      ⊢ iprop(((((c : Thread nD τ).loc main_v23) ↦{q} f) -∗ WP defs c (k (fun _ => f (at1 1 0 Nat.one_pos))) Q)
        -∗ WP defs c (.op (.load (Memref.whole main_v23) (Rect.unit (s := S1) ![0] S1.size h).toLoadRect hl) k) Q) := by
  have hv : ((Memref.whole main_v23).access (Rect.unit (s := S1) ![0] S1.size h)).read (Elt F) f = fun _ => f (at1 1 0 Nat.one_pos) := by
    funext x
    have hx : (x 0).val < 1 := (x 0).isLt
    rw [View.read_apply]
    refine congrArg f ?_
    funext a; fin_cases a
    exact Fin.ext (show 0 + 1 * (x 0).val = 0 by omega)
  iintro H Hk
  iapply (wp_load_rect 𝒱₀ (c : Thread nD τ) none Set.univ (m := Memref.whole main_v23) (r := Rect.unit (s := S1) ![0] S1.size h) (Finset.subset_univ _)) $$ H
  rw [hv]
  iexact Hk

/-! ## Slots of the scratch buffers -/

/-- A load of a slot gives what the slot holds. -/
theorem rows_read {Q : α → sProp 𝕄} (c : Dev nD) (B : Memref sig .tc .vmem S2x256x1024 .f32) (s : ℕ) {V : S256x1024.Idx → Elt F .f32}
    {o : Fin 3 → ℕ} (e : o = ![s % 2, 0, 0]) {h hl} {k : (S1x256x1024.Idx → Elt F .f32) → Prog (TpuEff nD τ sig (Elt F) Λ .tc) α} :
    holds (xs B s) c V
      ⊢ iprop((∀ x : S1x256x1024.Idx → Elt F .f32, ⌜shapeCast S256x1024 x shapeCasts_S1x256x1024_S256x1024 = V⌝ -∗ holds (xs B s) c V -∗ WP defs c (k x) Q)
        -∗ WP defs c (.op (.load B (Rect.unit (s := S2x256x1024) o S1x256x1024.size h).toLoadRect hl) k) Q) := by
  subst e
  unfold holds
  iintro ⟨%f, %hf, H⟩ Hk
  iapply (wp_load_rect 𝒱₀ (c : Thread nD τ) none Set.univ (m := B) (r := Rect.unit (s := S2x256x1024) ![s % 2, 0, 0] S1x256x1024.size h)
    (S := (xs B s).view.set) (Memref.set_view_squeeze _ squeezes_S1x256x1024_S256x1024).ge) $$ H
  iintro H
  iapply Hk $$ [] [H]
  · ipureintro; exact hf
  · iexists f
    isplitr [H]; · ipureintro; exact hf
    iexact H

/-- A load of a slot whose contents are not used. -/
theorem rows_peek {Q : α → sProp 𝕄} (c : Dev nD) (B : Memref sig .tc .vmem S2x256x1024 .f32) (s : ℕ)
    {o : Fin 3 → ℕ} (e : o = ![s % 2, 0, 0]) {h hl} {k : (S1x256x1024.Idx → Elt F .f32) → Prog (TpuEff nD τ sig (Elt F) Λ .tc) α} :
    free (xs B s) c
      ⊢ iprop((∀ x : S1x256x1024.Idx → Elt F .f32, free (xs B s) c -∗ WP defs c (k x) Q)
        -∗ WP defs c (.op (.load B (Rect.unit (s := S2x256x1024) o S1x256x1024.size h).toLoadRect hl) k) Q) := by
  subst e
  unfold free
  iintro ⟨%f, H⟩ Hk
  iapply (wp_load_rect 𝒱₀ (c : Thread nD τ) none Set.univ (m := B) (r := Rect.unit (s := S2x256x1024) ![s % 2, 0, 0] S1x256x1024.size h)
    (S := (xs B s).view.set) (Memref.set_view_squeeze _ squeezes_S1x256x1024_S256x1024).ge) $$ H
  iintro H
  iapply Hk $$ [H]
  iexists f
  iexact H

/-- A load of a slot gives what the slot holds. -/
theorem weights_read {Q : α → sProp 𝕄} (c : Dev nD) (B : Memref sig .tc .vmem S2x1024x1024 .f32) (s : ℕ) {V : S1024x1024.Idx → Elt F .f32}
    {o : Fin 3 → ℕ} (e : o = ![s % 2, 0, 0]) {h hl} {k : (S1x1024x1024.Idx → Elt F .f32) → Prog (TpuEff nD τ sig (Elt F) Λ .tc) α} :
    holds (ws B s) c V
      ⊢ iprop((∀ x : S1x1024x1024.Idx → Elt F .f32, ⌜shapeCast S1024x1024 x shapeCasts_S1x1024x1024_S1024x1024 = V⌝ -∗ holds (ws B s) c V -∗ WP defs c (k x) Q)
        -∗ WP defs c (.op (.load B (Rect.unit (s := S2x1024x1024) o S1x1024x1024.size h).toLoadRect hl) k) Q) := by
  subst e
  unfold holds
  iintro ⟨%f, %hf, H⟩ Hk
  iapply (wp_load_rect 𝒱₀ (c : Thread nD τ) none Set.univ (m := B) (r := Rect.unit (s := S2x1024x1024) ![s % 2, 0, 0] S1x1024x1024.size h)
    (S := (ws B s).view.set) (Memref.set_view_squeeze _ squeezes_S1x1024x1024_S1024x1024).ge) $$ H
  iintro H
  iapply Hk $$ [] [H]
  · ipureintro; exact hf
  · iexists f
    isplitr [H]; · ipureintro; exact hf
    iexact H

/-- A load of a slot whose contents are not used. -/
theorem weights_peek {Q : α → sProp 𝕄} (c : Dev nD) (B : Memref sig .tc .vmem S2x1024x1024 .f32) (s : ℕ)
    {o : Fin 3 → ℕ} (e : o = ![s % 2, 0, 0]) {h hl} {k : (S1x1024x1024.Idx → Elt F .f32) → Prog (TpuEff nD τ sig (Elt F) Λ .tc) α} :
    free (ws B s) c
      ⊢ iprop((∀ x : S1x1024x1024.Idx → Elt F .f32, free (ws B s) c -∗ WP defs c (k x) Q)
        -∗ WP defs c (.op (.load B (Rect.unit (s := S2x1024x1024) o S1x1024x1024.size h).toLoadRect hl) k) Q) := by
  subst e
  unfold free
  iintro ⟨%f, H⟩ Hk
  iapply (wp_load_rect 𝒱₀ (c : Thread nD τ) none Set.univ (m := B) (r := Rect.unit (s := S2x1024x1024) ![s % 2, 0, 0] S1x1024x1024.size h)
    (S := (ws B s).view.set) (Memref.set_view_squeeze _ squeezes_S1x1024x1024_S1024x1024).ge) $$ H
  iintro H
  iapply Hk $$ [H]
  iexists f
  iexact H

/-- A store into a slot. -/
theorem rows_write {Q : α → sProp 𝕄} (c : Dev nD) (B : Memref sig .tc .vmem S2x256x1024 .f32) (s : ℕ) {w : S1x256x1024.Idx → Elt F .f32}
    {o : Fin 3 → ℕ} (e : o = ![s % 2, 0, 0]) {h hx hm} {k : PUnit → Prog (TpuEff nD τ sig (Elt F) Λ .tc) α} :
    free (xs B s) c
      ⊢ iprop((holds (xs B s) c (shapeCast S256x1024 w shapeCasts_S1x256x1024_S256x1024) -∗ WP defs c (k ⟨⟩) Q)
        -∗ WP defs c (.op (.store B (Rect.unit (s := S2x256x1024) o S1x256x1024.size h) w Finset.univ hx hm) k) Q) := by
  subst e
  unfold free holds
  iintro ⟨%f, H⟩ Hk
  iapply (wp_store 𝒱₀ (c : Thread nD τ) none Set.univ (m := B) (r := Rect.unit (s := S2x256x1024) ![s % 2, 0, 0] S1x256x1024.size h) (w := w)
    (S := (xs B s).view.set) (Mk := Finset.univ) (Memref.set_view_squeeze _ squeezes_S1x256x1024_S256x1024).ge) $$ H
  iintro H
  iapply Hk
  iexists _
  isplitr [H]
  · ipureintro
    exact (Memref.read_squeeze_slice B (Rect.unit (s := S2x256x1024) ![s % 2, 0, 0] S1x256x1024.size h) (fun _ => rfl) squeezes_S1x256x1024_S256x1024
      shapeCasts_S1x256x1024_S256x1024 _).trans (congrArg (fun v => shapeCast S256x1024 v shapeCasts_S1x256x1024_S256x1024)
        (View.read_write_univ (v := B.access (Rect.unit (s := S2x256x1024) ![s % 2, 0, 0] S1x256x1024.size h)) f w))
  · iexact H

/-! ## The whole 16-bit weight buffers -/

theorem zero2 : (![0, 0] : Fin 2 → ℕ) = fun _ => 0 := by funext a; fin_cases a <;> rfl

theorem read_cc0_scratch8 {Q : α → sProp 𝕄} (c : Dev nD) {f : S1024x1024.Idx → Elt F .bf16}
    {h hl} {k : (S1024x1024.Idx → Elt F .bf16) → Prog (TpuEff nD τ sig (Elt F) Λ .tc) α} :
    (((c : Thread nD τ).loc cc0_scratch8) ↦{fullShare} f)
      ⊢ iprop(((((c : Thread nD τ).loc cc0_scratch8) ↦{fullShare} f) -∗ WP defs c (k f) Q)
        -∗ WP defs c (.op (.load (Memref.whole cc0_scratch8) (Rect.unit (s := S1024x1024) ![0, 0] S1024x1024.size h).toLoadRect hl) k) Q) := by
  have hv : ((Memref.whole cc0_scratch8).access (Rect.unit (s := S1024x1024) ![0, 0] S1024x1024.size h)).read (Elt F) f = f :=
    Memref.read_access_unit_zero (Elt F) cc0_scratch8 zero2 _ _
  iintro H Hk
  iapply (wp_load_rect 𝒱₀ (c : Thread nD τ) none Set.univ (m := Memref.whole cc0_scratch8) (r := Rect.unit (s := S1024x1024) ![0, 0] S1024x1024.size h) (Finset.subset_univ _)) $$ H
  rw [hv]
  iexact Hk

theorem write_cc0_scratch8 {Q : α → sProp 𝕄} (c : Dev nD) {f w : S1024x1024.Idx → Elt F .bf16}
    {h hx hm} {k : PUnit → Prog (TpuEff nD τ sig (Elt F) Λ .tc) α} :
    (((c : Thread nD τ).loc cc0_scratch8) ↦{fullShare} f)
      ⊢ iprop(((((c : Thread nD τ).loc cc0_scratch8) ↦{fullShare} w) -∗ WP defs c (k ⟨⟩) Q)
        -∗ WP defs c (.op (.store (Memref.whole cc0_scratch8) (Rect.unit (s := S1024x1024) ![0, 0] S1024x1024.size h) w Finset.univ hx hm) k) Q) := by
  have hv : ((Memref.whole cc0_scratch8).access (Rect.unit (s := S1024x1024) ![0, 0] S1024x1024.size h)).write (Elt F) f w Finset.univ = w :=
    Memref.write_access_unit_zero_univ (Elt F) cc0_scratch8 zero2 _ _ _
  iintro H Hk
  iapply (wp_store 𝒱₀ (c : Thread nD τ) none Set.univ (m := Memref.whole cc0_scratch8) (r := Rect.unit (s := S1024x1024) ![0, 0] S1024x1024.size h)
    (Mk := Finset.univ) (Finset.subset_univ _)) $$ H
  rw [hv]
  iexact Hk

theorem read_cc0_scratch9 {Q : α → sProp 𝕄} (c : Dev nD) {f : S1024x1024.Idx → Elt F .bf16}
    {h hl} {k : (S1024x1024.Idx → Elt F .bf16) → Prog (TpuEff nD τ sig (Elt F) Λ .tc) α} :
    (((c : Thread nD τ).loc cc0_scratch9) ↦{fullShare} f)
      ⊢ iprop(((((c : Thread nD τ).loc cc0_scratch9) ↦{fullShare} f) -∗ WP defs c (k f) Q)
        -∗ WP defs c (.op (.load (Memref.whole cc0_scratch9) (Rect.unit (s := S1024x1024) ![0, 0] S1024x1024.size h).toLoadRect hl) k) Q) := by
  have hv : ((Memref.whole cc0_scratch9).access (Rect.unit (s := S1024x1024) ![0, 0] S1024x1024.size h)).read (Elt F) f = f :=
    Memref.read_access_unit_zero (Elt F) cc0_scratch9 zero2 _ _
  iintro H Hk
  iapply (wp_load_rect 𝒱₀ (c : Thread nD τ) none Set.univ (m := Memref.whole cc0_scratch9) (r := Rect.unit (s := S1024x1024) ![0, 0] S1024x1024.size h) (Finset.subset_univ _)) $$ H
  rw [hv]
  iexact Hk

theorem write_cc0_scratch9 {Q : α → sProp 𝕄} (c : Dev nD) {f w : S1024x1024.Idx → Elt F .bf16}
    {h hx hm} {k : PUnit → Prog (TpuEff nD τ sig (Elt F) Λ .tc) α} :
    (((c : Thread nD τ).loc cc0_scratch9) ↦{fullShare} f)
      ⊢ iprop(((((c : Thread nD τ).loc cc0_scratch9) ↦{fullShare} w) -∗ WP defs c (k ⟨⟩) Q)
        -∗ WP defs c (.op (.store (Memref.whole cc0_scratch9) (Rect.unit (s := S1024x1024) ![0, 0] S1024x1024.size h) w Finset.univ hx hm) k) Q) := by
  have hv : ((Memref.whole cc0_scratch9).access (Rect.unit (s := S1024x1024) ![0, 0] S1024x1024.size h)).write (Elt F) f w Finset.univ = w :=
    Memref.write_access_unit_zero_univ (Elt F) cc0_scratch9 zero2 _ _ _
  iintro H Hk
  iapply (wp_store 𝒱₀ (c : Thread nD τ) none Set.univ (m := Memref.whole cc0_scratch9) (r := Rect.unit (s := S1024x1024) ![0, 0] S1024x1024.size h)
    (Mk := Finset.univ) (Finset.subset_univ _)) $$ H
  rw [hv]
  iexact Hk

theorem read_cc0_scratch10 {Q : α → sProp 𝕄} (c : Dev nD) {f : S1024x1024.Idx → Elt F .bf16}
    {h hl} {k : (S1024x1024.Idx → Elt F .bf16) → Prog (TpuEff nD τ sig (Elt F) Λ .tc) α} :
    (((c : Thread nD τ).loc cc0_scratch10) ↦{fullShare} f)
      ⊢ iprop(((((c : Thread nD τ).loc cc0_scratch10) ↦{fullShare} f) -∗ WP defs c (k f) Q)
        -∗ WP defs c (.op (.load (Memref.whole cc0_scratch10) (Rect.unit (s := S1024x1024) ![0, 0] S1024x1024.size h).toLoadRect hl) k) Q) := by
  have hv : ((Memref.whole cc0_scratch10).access (Rect.unit (s := S1024x1024) ![0, 0] S1024x1024.size h)).read (Elt F) f = f :=
    Memref.read_access_unit_zero (Elt F) cc0_scratch10 zero2 _ _
  iintro H Hk
  iapply (wp_load_rect 𝒱₀ (c : Thread nD τ) none Set.univ (m := Memref.whole cc0_scratch10) (r := Rect.unit (s := S1024x1024) ![0, 0] S1024x1024.size h) (Finset.subset_univ _)) $$ H
  rw [hv]
  iexact Hk

theorem write_cc0_scratch10 {Q : α → sProp 𝕄} (c : Dev nD) {f w : S1024x1024.Idx → Elt F .bf16}
    {h hx hm} {k : PUnit → Prog (TpuEff nD τ sig (Elt F) Λ .tc) α} :
    (((c : Thread nD τ).loc cc0_scratch10) ↦{fullShare} f)
      ⊢ iprop(((((c : Thread nD τ).loc cc0_scratch10) ↦{fullShare} w) -∗ WP defs c (k ⟨⟩) Q)
        -∗ WP defs c (.op (.store (Memref.whole cc0_scratch10) (Rect.unit (s := S1024x1024) ![0, 0] S1024x1024.size h) w Finset.univ hx hm) k) Q) := by
  have hv : ((Memref.whole cc0_scratch10).access (Rect.unit (s := S1024x1024) ![0, 0] S1024x1024.size h)).write (Elt F) f w Finset.univ = w :=
    Memref.write_access_unit_zero_univ (Elt F) cc0_scratch10 zero2 _ _ _
  iintro H Hk
  iapply (wp_store 𝒱₀ (c : Thread nD τ) none Set.univ (m := Memref.whole cc0_scratch10) (r := Rect.unit (s := S1024x1024) ![0, 0] S1024x1024.size h)
    (Mk := Finset.univ) (Finset.subset_univ _)) $$ H
  rw [hv]
  iexact Hk

/-! ## Rows of the staged biases -/

/-- Row `e` of a bias. -/
def brow (f : S32x1024.Idx → Elt F .f32) (e : ℕ) (he : e < 32) : S1x1024.Idx → Elt F .f32 :=
  fun x => f (ValueIdx.ix2 ⟨e, he⟩ (x 1))

theorem read_cc0_stg0_0 {Q : α → sProp 𝕄} (c : Dev nD) {f : S32x1024.Idx → Elt F .f32} (t : ℕ) (ht : t < 32)
    {o : Fin 2 → ℕ} (e : o = ![t, 0]) {h hl} {k : (S1x1024.Idx → Elt F .f32) → Prog (TpuEff nD τ sig (Elt F) Λ .tc) α} :
    (((c : Thread nD τ).loc cc0_stg0_0) ↦{fullShare} f)
      ⊢ iprop(((((c : Thread nD τ).loc cc0_stg0_0) ↦{fullShare} f) -∗ WP defs c (k (brow f t ht)) Q)
        -∗ WP defs c (.op (.load (Memref.whole cc0_stg0_0) (Rect.unit (s := S32x1024) o S1x1024.size h).toLoadRect hl) k) Q) := by
  subst e
  have hv : ((Memref.whole cc0_stg0_0).access (Rect.unit (s := S32x1024) ![t, 0] S1x1024.size h)).read (Elt F) f = brow f t ht := by
    funext x
    have hx : (x 0).val < 1 := (x 0).isLt
    rw [View.read_apply]
    refine congrArg f ?_
    funext a; fin_cases a
    · exact Fin.ext (show t + 1 * (x 0).val = t by omega)
    · exact Fin.ext (show 0 + 1 * (x 1).val = (x 1).val by omega)
  iintro H Hk
  iapply (wp_load_rect 𝒱₀ (c : Thread nD τ) none Set.univ (m := Memref.whole cc0_stg0_0) (r := Rect.unit (s := S32x1024) ![t, 0] S1x1024.size h) (Finset.subset_univ _)) $$ H
  rw [hv]
  iexact Hk

theorem read_cc0_stg1_0 {Q : α → sProp 𝕄} (c : Dev nD) {f : S32x1024.Idx → Elt F .f32} (t : ℕ) (ht : t < 32)
    {o : Fin 2 → ℕ} (e : o = ![t, 0]) {h hl} {k : (S1x1024.Idx → Elt F .f32) → Prog (TpuEff nD τ sig (Elt F) Λ .tc) α} :
    (((c : Thread nD τ).loc cc0_stg1_0) ↦{fullShare} f)
      ⊢ iprop(((((c : Thread nD τ).loc cc0_stg1_0) ↦{fullShare} f) -∗ WP defs c (k (brow f t ht)) Q)
        -∗ WP defs c (.op (.load (Memref.whole cc0_stg1_0) (Rect.unit (s := S32x1024) o S1x1024.size h).toLoadRect hl) k) Q) := by
  subst e
  have hv : ((Memref.whole cc0_stg1_0).access (Rect.unit (s := S32x1024) ![t, 0] S1x1024.size h)).read (Elt F) f = brow f t ht := by
    funext x
    have hx : (x 0).val < 1 := (x 0).isLt
    rw [View.read_apply]
    refine congrArg f ?_
    funext a; fin_cases a
    · exact Fin.ext (show t + 1 * (x 0).val = t by omega)
    · exact Fin.ext (show 0 + 1 * (x 1).val = (x 1).val by omega)
  iintro H Hk
  iapply (wp_load_rect 𝒱₀ (c : Thread nD τ) none Set.univ (m := Memref.whole cc0_stg1_0) (r := Rect.unit (s := S32x1024) ![t, 0] S1x1024.size h) (Finset.subset_univ _)) $$ H
  rw [hv]
  iexact Hk

theorem read_cc0_stg2_0 {Q : α → sProp 𝕄} (c : Dev nD) {f : S32x1024.Idx → Elt F .f32} (t : ℕ) (ht : t < 32)
    {o : Fin 2 → ℕ} (e : o = ![t, 0]) {h hl} {k : (S1x1024.Idx → Elt F .f32) → Prog (TpuEff nD τ sig (Elt F) Λ .tc) α} :
    (((c : Thread nD τ).loc cc0_stg2_0) ↦{fullShare} f)
      ⊢ iprop(((((c : Thread nD τ).loc cc0_stg2_0) ↦{fullShare} f) -∗ WP defs c (k (brow f t ht)) Q)
        -∗ WP defs c (.op (.load (Memref.whole cc0_stg2_0) (Rect.unit (s := S32x1024) o S1x1024.size h).toLoadRect hl) k) Q) := by
  subst e
  have hv : ((Memref.whole cc0_stg2_0).access (Rect.unit (s := S32x1024) ![t, 0] S1x1024.size h)).read (Elt F) f = brow f t ht := by
    funext x
    have hx : (x 0).val < 1 := (x 0).isLt
    rw [View.read_apply]
    refine congrArg f ?_
    funext a; fin_cases a
    · exact Fin.ext (show t + 1 * (x 0).val = t by omega)
    · exact Fin.ext (show 0 + 1 * (x 1).val = (x 1).val by omega)
  iintro H Hk
  iapply (wp_load_rect 𝒱₀ (c : Thread nD τ) none Set.univ (m := Memref.whole cc0_stg2_0) (r := Rect.unit (s := S32x1024) ![t, 0] S1x1024.size h) (Finset.subset_univ _)) $$ H
  rw [hv]
  iexact Hk

end Cert.KernelIdeal.Own
-- ==== Proof.State.lean ====
/-
  The kernel's plan, the values its blocks get, and what its buffers hold between two steps.
-/
module

public import proofs.«01_k».proof.Proof.Access
public import proofs.«01_k».proof.Proof.Gen.KernelIdeal.Skeleton
public import Idealize.ShloMosaic.Lib.ValueLayout

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The plan -/

variable (F) in
/-- A run's tables, as numbers and as words, and its arrays. -/
structure Env where
  E : ℕ → ℕ
  S : ℕ → ℕ
  W : ℕ → ℕ
  n : ℕ
  tE : S288.Idx → Elt F .i32
  tS : S288.Idx → Elt F .i32
  tW : S288.Idx → Elt F .i32
  tn : S1.Idx → Elt F .i32
  x : S73728x1x1024.Idx → Elt F .f32
  y0 : S73728x1x1024.Idx → Elt F .f32
  wg : S32x1024x1024.Idx → Elt F .f32
  wu : S32x1024x1024.Idx → Elt F .f32
  wd : S32x1024x1024.Idx → Elt F .f32
  bg : S32x1024.Idx → Elt F .f32
  bu : S32x1024.Idx → Elt F .f32
  bd : S32x1024.Idx → Elt F .f32

/-- The plan's conditions: the blocks' experts, the slots alternating as the expert changes, and each block's next expert. -/
structure Env.OK (e : Env F) : Prop where
  npos : 1 ≤ e.n
  nle : e.n ≤ 288
  E_lt : ∀ t, e.E t < 32
  S_lt : ∀ t, e.S t < 2
  W_le : ∀ t, e.W t ≤ 32
  same : ∀ t, t + 1 < e.n → e.E (t + 1) = e.E t → e.S (t + 1) = e.S t ∧ e.W (t + 1) = e.W t
  next : ∀ t, t + 1 < e.n → e.E (t + 1) ≠ e.E t → e.E (t + 1) = e.W t ∧ e.S (t + 1) = 1 - e.S t
  last : e.W (e.n - 1) = 32
  hE : ∀ t ht, e.tE (at1 288 t ht) = w32 (e.E t)
  hS : ∀ t ht, e.tS (at1 288 t ht) = w32 (e.S t)
  hW : ∀ t ht, e.tW (at1 288 t ht) = w32 (e.W t)
  hn : e.tn (at1 1 0 Nat.one_pos) = w32 e.n

/-! ## The memrefs -/

abbrev X : Memref sig .tc .hbm S73728x1x1024 .f32 := Memref.whole main_arg1
abbrev Y : Memref sig .tc .hbm S73728x1x1024 .f32 := Memref.whole main_v53
abbrev Wg : Memref sig .tc .hbm S32x1024x1024 .f32 := Memref.whole main_arg2
abbrev Wu : Memref sig .tc .hbm S32x1024x1024 .f32 := Memref.whole main_arg4
abbrev Wd : Memref sig .tc .hbm S32x1024x1024 .f32 := Memref.whole main_arg6
abbrev Bx : Memref sig .tc .vmem S2x256x1024 .f32 := Memref.whole cc0_scratch0
abbrev By : Memref sig .tc .vmem S2x256x1024 .f32 := Memref.whole cc0_scratch1
abbrev Bg : Memref sig .tc .vmem S2x1024x1024 .f32 := Memref.whole cc0_scratch4
abbrev Bu : Memref sig .tc .vmem S2x1024x1024 .f32 := Memref.whole cc0_scratch5
abbrev Bd : Memref sig .tc .vmem S2x1024x1024 .f32 := Memref.whole cc0_scratch6
abbrev Qx : DmaSems sig S2 := cc0_scratch2
abbrev Qy : DmaSems sig S2 := cc0_scratch3
abbrev Qw : DmaSems sig S2 := cc0_scratch7

abbrev NX : ℕ := (xs Bx 0).view.dmaCredit
abbrev NY : ℕ := (xb Y 0).view.dmaCredit
abbrev NW : ℕ := (ws Bg 0).view.dmaCredit

theorem NX_pos : 0 < NX := View.dmaCredit_pos _ (by decide)
theorem NY_pos : 0 < NY := View.dmaCredit_pos _ (by decide)
theorem NW_pos : 0 < NW := View.dmaCredit_pos _ (by decide)
theorem credit_x (s : ℕ) : (xs Bx s).view.dmaCredit = NX := rfl
theorem credit_y (t : ℕ) : (xb Y t).view.dmaCredit = NY := rfl
theorem credit_g (s : ℕ) : (ws Bg s).view.dmaCredit = NW := rfl
theorem credit_u (s : ℕ) : (ws Bu s).view.dmaCredit = NW := rfl
theorem credit_d (s : ℕ) : (ws Bd s).view.dmaCredit = NW := rfl

theorem xs_congr (B : Memref sig .tc .vmem S2x256x1024 .f32) {s s' : ℕ} (h : s % 2 = s' % 2) : xs B s = xs B s' := by
  unfold xs; simp only [h]
theorem ws_congr (B : Memref sig .tc .vmem S2x1024x1024 .f32) {s s' : ℕ} (h : s % 2 = s' % 2) : ws B s = ws B s' := by
  unfold ws; simp only [h]
theorem sq_congr (A : DmaSems sig S2) {s s' : ℕ} (h : s % 2 = s' % 2) : sq A s = sq A s' := by
  unfold sq; simp only [h]

/-! ## The values -/

/-- The rows of block `t`, rounded. -/
def xv (e : Env F) (t : ℕ) : FVec F S256x1024 .bf16 :=
  truncf .bf16 ((xb X t).view.read (Elt F) e.x) bitsLt_bf16_f32
/-- Expert `x`'s weights, rounded. -/
def gv (e : Env F) (x : ℕ) : FVec F S1024x1024 .bf16 := truncf .bf16 ((wb Wg x).view.read (Elt F) e.wg) bitsLt_bf16_f32
def uv (e : Env F) (x : ℕ) : FVec F S1024x1024 .bf16 := truncf .bf16 ((wb Wu x).view.read (Elt F) e.wu) bitsLt_bf16_f32
def dv (e : Env F) (x : ℕ) : FVec F S1024x1024 .bf16 := truncf .bf16 ((wb Wd x).view.read (Elt F) e.wd) bitsLt_bf16_f32

/-- The gate of a block's rows. -/
def gate (v : FVec F S256x1024 .bf16) (w : FVec F S1024x1024 .bf16) (b : S1x1024.Idx → Elt F .f32) : FVec F S256x1024 .f32 :=
  addf (matmul dot_S256x1024_S1024x1024_S256x1024_1_0_0_1_n_n none v w (constant S256x1024 .f32 0x00000000#32))
    (broadcastTo S256x1024 b broadcasts_S1x1024_S256x1024)

/-- The expert's rows of a block. -/
def out (e : Env F) (h : e.OK) (t : ℕ) : FVec F S256x1024 .f32 :=
  k0_pay7 (xv e t) (gate (xv e t) (gv e (e.E t)) (brow e.bg (e.E t) (h.E_lt t))) (uv e (e.E t)) (constant S256x1024 .f32 0x00000000#32)
    (brow e.bu (e.E t) (h.E_lt t)) (dv e (e.E t)) (brow e.bd (e.E t) (h.E_lt t))

/-- Block `t` of the result. -/
def yv (e : Env F) (h : e.OK) (t : ℕ) : FVec F S256x1024 .f32 :=
  if t < e.n then out e h t else constant S256x1024 .f32 0x00000000#32

/-- The result. -/
def yfin (e : Env F) (h : e.OK) : S73728x1x1024.Idx → Elt F .f32 := fun j =>
  yv e h ((j 0).val / 256) (ValueIdx.ix2 ⟨(j 0).val % 256, Nat.mod_lt _ (by decide)⟩ (j 2))

theorem casts_block : S256x1x1024.ShapeCasts S256x1024 := by decide

/-- A block's read, element by element. -/
theorem read_xb_main_arg1 (t : ℕ) (ht : t < 288) (f : S73728x1x1024.Idx → Elt F .f32) (r : Fin 256) (k : Fin 1024) :
    (xb X t).view.read (Elt F) f (ValueIdx.ix2 r k) = f (ValueIdx.ix3 ⟨256 * t + r.val, by omega⟩ (0 : Fin 1) k) := by
  have hm : t % 288 = t := Nat.mod_eq_of_lt ht
  have hr := r.isLt
  refine (congrFun (Memref.read_squeeze_slice X (Rect.unit (s := S73728x1x1024) ![256 * (t % 288), 0, 0] S256x1x1024.size (xblk_inb t)) (fun _ => rfl)
    squeezes_S256x1x1024_S256x1024 casts_block f) (ValueIdx.ix2 r k)).trans ?_
  refine (shapeCast_apply _ _ (ValueIdx.ix2 r k) (ValueIdx.ix3 r (0 : Fin 1) k) ?_).trans ?_
  · rw [Shape.rowMajor_val_three, Shape.rowMajor_val_two]
    show (r.val * 1 + 0) * 1024 + k.val = r.val * 1024 + k.val
    omega
  · refine congrArg f ?_
    funext a; fin_cases a
    · exact Fin.ext (show 256 * (t % 288) + 1 * r.val = 256 * t + r.val by rw [hm]; omega)
    · exact Fin.ext (show 0 + 1 * 0 = 0 by omega)
    · exact Fin.ext (show 0 + 1 * k.val = k.val by omega)

theorem read_xb_main_v53 (t : ℕ) (ht : t < 288) (f : S73728x1x1024.Idx → Elt F .f32) (r : Fin 256) (k : Fin 1024) :
    (xb Y t).view.read (Elt F) f (ValueIdx.ix2 r k) = f (ValueIdx.ix3 ⟨256 * t + r.val, by omega⟩ (0 : Fin 1) k) := by
  have hm : t % 288 = t := Nat.mod_eq_of_lt ht
  have hr := r.isLt
  refine (congrFun (Memref.read_squeeze_slice Y (Rect.unit (s := S73728x1x1024) ![256 * (t % 288), 0, 0] S256x1x1024.size (xblk_inb t)) (fun _ => rfl)
    squeezes_S256x1x1024_S256x1024 casts_block f) (ValueIdx.ix2 r k)).trans ?_
  refine (shapeCast_apply _ _ (ValueIdx.ix2 r k) (ValueIdx.ix3 r (0 : Fin 1) k) ?_).trans ?_
  · rw [Shape.rowMajor_val_three, Shape.rowMajor_val_two]
    show (r.val * 1 + 0) * 1024 + k.val = r.val * 1024 + k.val
    omega
  · refine congrArg f ?_
    funext a; fin_cases a
    · exact Fin.ext (show 256 * (t % 288) + 1 * r.val = 256 * t + r.val by rw [hm]; omega)
    · exact Fin.ext (show 0 + 1 * 0 = 0 by omega)
    · exact Fin.ext (show 0 + 1 * k.val = k.val by omega)

theorem read_yfin (e : Env F) (h : e.OK) (t : ℕ) (ht : t < 288) : (xb Y t).view.read (Elt F) (yfin e h) = yv e h t := by
  funext x
  refine (congrArg ((xb Y t).view.read (Elt F) (yfin e h)) (ValueIdx.eq_ix2 x)).trans ((read_xb_main_v53 t ht _ (x 0) (x 1)).trans ?_)
  have hx : (x 0).val < 256 := (x 0).isLt
  have h1 : (256 * t + (x 0).val) / 256 = t := by omega
  have h2 : (256 * t + (x 0).val) % 256 = (x 0).val := by omega
  show yv e h ((256 * t + (x 0).val) / 256) (ValueIdx.ix2 ⟨(256 * t + (x 0).val) % 256, _⟩ (x 1)) = _
  rw [h1]
  exact congrArg (yv e h t) ((congrArg (fun a => ValueIdx.ix2 a (x 1)) (Fin.ext h2)).trans (ValueIdx.eq_ix2 x).symm)

/-! ## Sets of blocks -/

/-- The elements of the blocks `P` holds of. -/
def rset (P : ℕ → Prop) : Finset S73728x1x1024.Idx :=
  @Finset.filter _ (fun j => P ((j 0).val / 256)) (fun _ => Classical.propDecidable _) Finset.univ

theorem mem_rset {P : ℕ → Prop} {j : S73728x1x1024.Idx} : j ∈ rset P ↔ P ((j 0).val / 256) := by
  unfold rset; exact (@Finset.mem_filter _ _ (fun _ => Classical.propDecidable _) _ _).trans ⟨fun h => h.2, fun h => ⟨Finset.mem_univ _, h⟩⟩

theorem row_lt (j : S73728x1x1024.Idx) : (j 0).val / 256 < 288 := by
  have : (j 0).val < 73728 := (j 0).isLt
  omega

theorem rset_congr {P Q : ℕ → Prop} (h : ∀ r, r < 288 → (P r ↔ Q r)) : rset P = rset Q := by
  ext j; rw [mem_rset, mem_rset]; exact h _ (row_lt j)

theorem xb_rset (t : ℕ) (ht : t < 288) : (xb Y t).view.set = rset (· = t) := by
  ext j
  rw [mem_rset]
  refine (mem_xb_main_v53 t j).trans ?_
  rw [Nat.mod_eq_of_lt ht]

theorem xb_rset' (t : ℕ) (ht : t < 288) : (xb X t).view.set = rset (· = t) := by
  ext j
  rw [mem_rset]
  refine (mem_xb_main_arg1 t j).trans ?_
  rw [Nat.mod_eq_of_lt ht]

theorem rset_disj {P Q : ℕ → Prop} (h : ∀ r, P r → ¬ Q r) : Disjoint (rset P) (rset Q) := by
  rw [Finset.disjoint_left]; intro j hj hj'; rw [mem_rset] at hj hj'; exact h _ hj hj'

theorem rset_union (P Q : ℕ → Prop) : rset P ∪ rset Q = rset fun r => P r ∨ Q r := by
  ext j; rw [Finset.mem_union, mem_rset, mem_rset, mem_rset]

theorem rset_sdiff (P Q : ℕ → Prop) : rset P \ rset Q = rset fun r => P r ∧ ¬ Q r := by
  ext j; rw [Finset.mem_sdiff, mem_rset, mem_rset, mem_rset]

theorem rset_sub {P Q : ℕ → Prop} (h : ∀ r, P r → Q r) : rset P ⊆ rset Q := by
  intro j hj; rw [mem_rset] at hj ⊢; exact h _ hj

theorem rset_true : rset (fun _ => True) = Finset.univ := by
  ext j; rw [mem_rset]; exact ⟨fun _ => Finset.mem_univ _, fun _ => trivial⟩

end Cert.KernelIdeal.Own
-- ==== Proof.RowsIn.lean ====
/-
  The rows' transfers in: what a step holds of them before, between and after its start and its wait.
-/
module

public import proofs.«01_k».proof.Proof.State

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

/-! ## What is held -/

/-- A slot of the rows' buffer at rest. -/
def XO (c : Dev nD) (s : ℕ) : sProp 𝕄 := iprop(free (xs Bx s) c ∗ semVal ((c : Thread nD τ), .dma (sq Qx s)) 0)
/-- Block `t` on its way in. -/
def XF (c : Dev nD) (e : Env F) (t : ℕ) : sProp 𝕄 :=
  Transfers.Flight (EC F) (c : Thread nD τ) (.dma (sq Qx t)) () NX (landed (xb X t) (xs Bx t) c e.x)
/-- The rows of the blocks `P` holds of. -/
def XP (c : Dev nD) (e : Env F) (P : ℕ → Prop) : sProp 𝕄 := iprop(X.view.loc (c : Thread nD τ) ↦[rset P]{fullShare} e.x)
def X0 (c : Dev nD) (e : Env F) : sProp 𝕄 := iprop(XO c 0 ∗ XO c 1 ∗ XP c e (fun _ => True))
def XA (c : Dev nD) (e : Env F) (t : ℕ) : sProp 𝕄 := iprop(XF c e t ∗ XO c (t + 1) ∗ XP c e (fun r => True ∧ ¬ r = t))
def XB (c : Dev nD) (e : Env F) (t : ℕ) : sProp 𝕄 :=
  iprop(XF c e t ∗ XF c e (t + 1) ∗ XP c e (fun r => (True ∧ ¬ r = t) ∧ ¬ r = t + 1))
/-- At the beginning of step `t`. -/
def XSt (c : Dev nD) (e : Env F) (t : ℕ) : sProp 𝕄 := if 0 < t ∧ t < e.n then XA c e t else X0 c e
/-- In step `t`, the next block started if there is one. -/
def XM (c : Dev nD) (e : Env F) (t : ℕ) : sProp 𝕄 := if t + 1 < e.n then XB c e t else XA c e t
/-- In step `t`, its own block landed: what is held besides its slot. -/
def XC (c : Dev nD) (e : Env F) (t : ℕ) : sProp 𝕄 :=
  iprop(semVal ((c : Thread nD τ), .dma (sq Qx t)) 0 ∗
    (if t + 1 < e.n then iprop(XF c e (t + 1) ∗ XP c e (fun r => True ∧ ¬ r = t + 1)) else iprop(XO c (t + 1) ∗ XP c e (fun _ => True))))

theorem XO_congr (c : Dev nD) {s s' : ℕ} (h : s % 2 = s' % 2) : (XO c s : sProp 𝕄) = XO c s' := by
  unfold XO; rw [xs_congr Bx h, sq_congr Qx h]

theorem XO_pair (c : Dev nD) (t : ℕ) : iprop(XO c t ∗ XO c (t + 1)) ⊢ (iprop(XO c 0 ∗ XO c 1) : sProp 𝕄) := by
  rcases Nat.mod_two_eq_zero_or_one t with h | h
  · rw [XO_congr c (show t % 2 = 0 % 2 by omega), XO_congr c (show (t + 1) % 2 = 1 % 2 by omega)]
  · rw [XO_congr c (show t % 2 = 1 % 2 by omega), XO_congr c (show (t + 1) % 2 = 0 % 2 by omega)]
    iintro ⟨H, H'⟩
    isplitl [H']; · iexact H'
    iexact H

theorem free_of_holds {sp : Space} {s : Shape} {e : EltTy} {dst : Memref sig .tc sp s e} {c : Dev nD} {V : s.Idx → Elt F e} :
    holds dst c V ⊢ (free dst c : sProp 𝕄) := by
  unfold holds free
  iintro ⟨%f, %hf, H⟩
  iexists f
  iexact H

/-! ## The steps -/

theorem x_start {Q : α → sProp 𝕄} (c : Dev nD) (e : Env F) (t : ℕ) (ht : t < 288) {P : ℕ → Prop} (hP : P t)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst hsem} {k : PUnit → Prog (TpuEff nD τ sig (Elt F) Λ₀ .tc) α} :
    iprop(XO c t ∗ XP c e P) ⊢ iprop((iprop(XF c e t ∗ XP c e (fun r => P r ∧ ¬ r = t)) -∗ WP defs₀ c (k ⟨⟩) Q)
      -∗ WP defs₀ c (opStart (xblk X o3 h3) (xslot Bx o2 h2) (.dma (semq Qx o1 h1)) hsrc hdst hsem k) Q) := by
  have hA : (xb X t).view.set ⊆ rset P := by rw [xb_rset' t ht]; exact rset_sub (fun r h => h ▸ hP)
  have hB : rset P \ (xb X t).view.set = rset (fun r => P r ∧ ¬ r = t) := by rw [xb_rset' t ht]; exact rset_sdiff P (· = t)
  unfold XP XF XO
  rw [← hB]
  iintro ⟨⟨Hf, Hs⟩, HX⟩ Hk
  iapply (rows_start c X Bx Qx t t NX (credit_x t) NX_pos hA e1 e2 e3) $$ [Hf Hs HX]
  · isplitl [HX]; · iexact HX
    isplitl [Hf]; · iexact Hf
    iexact Hs
  iexact Hk

theorem x_wait {Q : α → sProp 𝕄} (c : Dev nD) (e : Env F) (t : ℕ) (ht : t < 288)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst} {k : PUnit → Prog (TpuEff nD τ sig (Elt F) Λ₀ .tc) α} :
    iprop(XF c e t ∗ Ow c) ⊢ iprop((iprop(holds (xs Bx t) c ((xb X t).view.read (Elt F) e.x) ∗ XP c e (· = t)
        ∗ semVal ((c : Thread nD τ), .dma (sq Qx t)) 0 ∗ Ow c) -∗ WP defs₀ c (k ⟨⟩) Q)
      -∗ WP defs₀ c (opWait (semq Qx o1 h1) (xblk X o3 h3) (xslot Bx o2 h2) hsrc hdst k) Q) := by
  unfold XF XP
  rw [← xb_rset' t ht]
  iintro ⟨HF, Ho⟩ Hk
  iapply (rows_wait c X Bx Qx t t NX (credit_x t) e1 e2 e3) $$ [HF Ho]
  · isplitl [HF]; · iexact HF
    iexact Ho
  unfold landed
  iintro ⟨⟨Hh, HX⟩, Hs, Ho⟩
  iapply Hk
  isplitl [Hh]; · iexact Hh
  isplitl [HX]; · iexact HX
  isplitl [Hs]; · iexact Hs
  iexact Ho

theorem XP_join (c : Dev nD) (e : Env F) {P R T : ℕ → Prop} (hd : ∀ r, P r → ¬ R r) (h : ∀ r, r < 288 → (P r ∨ R r ↔ T r)) :
    iprop(XP c e P ∗ XP c e R) ⊢ (XP c e T : sProp 𝕄) := by
  unfold XP
  rw [← rset_congr h, ← rset_union]
  exact (pointsTo_union (rset_disj hd)).2

theorem x_first {Q : α → sProp 𝕄} (c : Dev nD) (e : Env F)
    {o1 : Fin 1 → ℕ} {o2 o3 : Fin 3 → ℕ} (e1 : o1 = ![0 % 2]) (e2 : o2 = ![0 % 2, 0, 0]) (e3 : o3 = ![256 * (0 % 288), 0, 0])
    {h1 h2 h3 hsrc hdst hsem} {k : PUnit → Prog (TpuEff nD τ sig (Elt F) Λ₀ .tc) α} :
    X0 c e ⊢ iprop((XA c e 0 -∗ WP defs₀ c (k ⟨⟩) Q)
      -∗ WP defs₀ c (opStart (xblk X o3 h3) (xslot Bx o2 h2) (.dma (semq Qx o1 h1)) hsrc hdst hsem k) Q) := by
  unfold X0 XA
  iintro ⟨HO, HO', HX⟩ Hk
  iapply (x_start c e 0 (by decide) (P := fun _ => True) trivial e1 e2 e3) $$ [HO HX]
  · isplitl [HO]; · iexact HO
    iexact HX
  iintro ⟨HF, HX⟩
  iapply Hk
  isplitl [HF]; · iexact HF
  isplitl [HO']; · iexact HO'
  iexact HX

theorem x_next {Q : α → sProp 𝕄} (c : Dev nD) (e : Env F) (t : ℕ) (ht : t + 1 < 288)
    {o1 : Fin 1 → ℕ} {o2 o3 : Fin 3 → ℕ} (e1 : o1 = ![(t + 1) % 2]) (e2 : o2 = ![(t + 1) % 2, 0, 0]) (e3 : o3 = ![256 * ((t + 1) % 288), 0, 0])
    {h1 h2 h3 hsrc hdst hsem} {k : PUnit → Prog (TpuEff nD τ sig (Elt F) Λ₀ .tc) α} :
    XA c e t ⊢ iprop((XB c e t -∗ WP defs₀ c (k ⟨⟩) Q)
      -∗ WP defs₀ c (opStart (xblk X o3 h3) (xslot Bx o2 h2) (.dma (semq Qx o1 h1)) hsrc hdst hsem k) Q) := by
  unfold XA XB
  iintro ⟨HF, HO, HX⟩ Hk
  iapply (x_start c e (t + 1) ht (P := fun r => True ∧ ¬ r = t) ⟨trivial, by omega⟩ e1 e2 e3) $$ [HO HX]
  · isplitl [HO]; · iexact HO
    iexact HX
  iintro ⟨HF', HX⟩
  iapply Hk
  isplitl [HF]; · iexact HF
  isplitl [HF']; · iexact HF'
  iexact HX

theorem x_take {Q : α → sProp 𝕄} (c : Dev nD) (e : Env F) (t : ℕ) (ht : t < 288)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst} {k : PUnit → Prog (TpuEff nD τ sig (Elt F) Λ₀ .tc) α} :
    iprop(XM c e t ∗ Ow c) ⊢ iprop((iprop(holds (xs Bx t) c ((xb X t).view.read (Elt F) e.x) ∗ XC c e t ∗ Ow c) -∗ WP defs₀ c (k ⟨⟩) Q)
      -∗ WP defs₀ c (opWait (semq Qx o1 h1) (xblk X o3 h3) (xslot Bx o2 h2) hsrc hdst k) Q) := by
  unfold XM XC
  by_cases hn : t + 1 < e.n
  · rw [if_pos hn, if_pos hn]
    unfold XB
    iintro ⟨⟨HF, HF', HX⟩, Ho⟩ Hk
    iapply (x_wait c e t ht e1 e2 e3) $$ [HF Ho]
    · isplitl [HF]; · iexact HF
      iexact Ho
    iintro ⟨Hh, HX', Hs, Ho⟩
    iapply Hk
    isplitl [Hh]; · iexact Hh
    isplitr [Ho]
    · isplitl [Hs]; · iexact Hs
      isplitl [HF']; · iexact HF'
      iapply (XP_join c e (P := (· = t)) (R := fun r => (True ∧ ¬ r = t) ∧ ¬ r = t + 1) (T := fun r => True ∧ ¬ r = t + 1)
        (fun r h h' => h'.1.2 h) (fun r _ => by beta_reduce; simp only [true_and]; omega))
      isplitl [HX']; · iexact HX'
      iexact HX
    · iexact Ho
  · rw [if_neg hn, if_neg hn]
    unfold XA
    iintro ⟨⟨HF, HO, HX⟩, Ho⟩ Hk
    iapply (x_wait c e t ht e1 e2 e3) $$ [HF Ho]
    · isplitl [HF]; · iexact HF
      iexact Ho
    iintro ⟨Hh, HX', Hs, Ho⟩
    iapply Hk
    isplitl [Hh]; · iexact Hh
    isplitr [Ho]
    · isplitl [Hs]; · iexact Hs
      isplitl [HO]; · iexact HO
      iapply (XP_join c e (P := (· = t)) (R := fun r => True ∧ ¬ r = t) (T := fun _ => True)
        (fun r h h' => h'.2 h) (fun r _ => ⟨fun _ => trivial, fun _ => (Classical.em (r = t)).imp id fun h => ⟨trivial, h⟩⟩))
      isplitl [HX']; · iexact HX'
      iexact HX
    · iexact Ho

theorem x_close (c : Dev nD) (e : Env F) (t : ℕ) {V : S256x1024.Idx → Elt F .f32} :
    iprop(holds (xs Bx t) c V ∗ XC c e t) ⊢ (XSt c e (t + 1) : sProp 𝕄) := by
  unfold XSt XC
  by_cases hn : t + 1 < e.n
  · rw [if_pos hn, if_pos ⟨Nat.succ_pos t, hn⟩]
    unfold XA
    iintro ⟨Hh, Hs, HF, HX⟩
    isplitl [HF]; · iexact HF
    isplitr [HX]
    · rw [XO_congr c (show (t + 1 + 1) % 2 = t % 2 by omega)]
      unfold XO
      isplitl [Hh]; · iapply free_of_holds $$ Hh
      iexact Hs
    · iexact HX
  · rw [if_neg hn, if_neg (fun h => hn h.2)]
    unfold X0
    iintro ⟨Hh, Hs, HO, HX⟩
    ihave H := (XO_pair c t) $$ [Hh Hs HO]
    · isplitr [HO]
      · unfold XO
        isplitl [Hh]; · iapply free_of_holds $$ Hh
        iexact Hs
      · iexact HO
    icases H with ⟨H0, H1⟩
    isplitl [H0]; · iexact H0
    isplitl [H1]; · iexact H1
    iexact HX

end Cert.KernelIdeal.Own
-- ==== Proof.RowsOut.lean ====
/-
  The result's transfers out: what a step holds of them before and after its wait and its start, and the
  zeros of the blocks after the last.
-/
module

public import proofs.«01_k».proof.Proof.RowsIn

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

/-! ## What is held -/

def YO (c : Dev nD) (s : ℕ) : sProp 𝕄 := iprop(free (xs By s) c ∗ semVal ((c : Thread nD τ), .dma (sq Qy s)) 0)
/-- The result's elements in the blocks `P` holds of, at their final values. -/
def YP (c : Dev nD) (e : Env F) (h : e.OK) (P : ℕ → Prop) : sProp 𝕄 := iprop(Y.view.loc (c : Thread nD τ) ↦[rset P]{fullShare} (yfin e h))
/-- The result's elements in the blocks `P` holds of, at their first values. -/
def YR (c : Dev nD) (e : Env F) (P : ℕ → Prop) : sProp 𝕄 := iprop(Y.view.loc (c : Thread nD τ) ↦[rset P]{fullShare} e.y0)
/-- Block `t` on its way out. -/
def YF (c : Dev nD) (e : Env F) (h : e.OK) (t : ℕ) : sProp 𝕄 :=
  Transfers.Flight (EC F) (c : Thread nD τ) (.dma (sq Qy t)) () NY iprop(YP c e h (· = t) ∗ free (xs By t) c)
/-- The slot step `t` uses: at rest, or under way from two steps before. -/
def YQ (c : Dev nD) (e : Env F) (h : e.OK) (t : ℕ) : sProp 𝕄 := if 2 ≤ t then YF c e h (t - 2) else YO c t
/-- At the beginning of step `t`. -/
def YSt (c : Dev nD) (e : Env F) (h : e.OK) (t : ℕ) : sProp 𝕄 :=
  if t < e.n then iprop(YQ c e h t ∗ YQ c e h (t + 1) ∗ YP c e h (· < t - 2) ∗ YR c e (t ≤ ·))
  else iprop(YO c 0 ∗ YO c 1 ∗ YP c e h (fun _ => True))
/-- In step `t`, its slot at rest. -/
def YM (c : Dev nD) (e : Env F) (h : e.OK) (t : ℕ) : sProp 𝕄 :=
  iprop(YO c t ∗ YQ c e h (t + 1) ∗ YP c e h (· < t - 1) ∗ YR c e (t ≤ ·))
/-- In step `t`, its block on its way. -/
def YN (c : Dev nD) (e : Env F) (h : e.OK) (t : ℕ) : sProp 𝕄 :=
  iprop(YF c e h t ∗ YQ c e h (t + 1) ∗ YP c e h (· < t - 1) ∗ YR c e (t + 1 ≤ ·))

theorem YO_congr (c : Dev nD) {s s' : ℕ} (h : s % 2 = s' % 2) : (YO c s : sProp 𝕄) = YO c s' := by
  unfold YO; rw [xs_congr By h, sq_congr Qy h]

theorem YO_pair (c : Dev nD) (t : ℕ) : iprop(YO c t ∗ YO c (t + 1)) ⊢ (iprop(YO c 0 ∗ YO c 1) : sProp 𝕄) := by
  rcases Nat.mod_two_eq_zero_or_one t with h | h
  · rw [YO_congr c (show t % 2 = 0 % 2 by omega), YO_congr c (show (t + 1) % 2 = 1 % 2 by omega)]
  · rw [YO_congr c (show t % 2 = 1 % 2 by omega), YO_congr c (show (t + 1) % 2 = 0 % 2 by omega)]
    iintro ⟨H, H'⟩
    isplitl [H']; · iexact H'
    iexact H

theorem YP_join (c : Dev nD) (e : Env F) (h : e.OK) {P R T : ℕ → Prop} (hd : ∀ r, P r → ¬ R r) (hT : ∀ r, r < 288 → (P r ∨ R r ↔ T r)) :
    iprop(YP c e h P ∗ YP c e h R) ⊢ (YP c e h T : sProp 𝕄) := by
  unfold YP
  rw [← rset_congr hT, ← rset_union]
  exact (pointsTo_union (rset_disj hd)).2

theorem YR_split (c : Dev nD) (e : Env F) {P R T : ℕ → Prop} (hd : ∀ r, P r → ¬ R r) (hT : ∀ r, r < 288 → (P r ∨ R r ↔ T r)) :
    YR c e T ⊢ (iprop(YR c e P ∗ YR c e R) : sProp 𝕄) := by
  unfold YR
  rw [← rset_congr hT, ← rset_union]
  exact (pointsTo_union (rset_disj hd)).1

theorem YR_free (c : Dev nD) (e : Env F) (t : ℕ) (ht : t < 288) : YR c e (· = t) ⊢ (free (xb Y t) c : sProp 𝕄) := by
  unfold YR free
  rw [← xb_rset t ht]
  iintro H
  iexists e.y0
  iexact H

/-- A landed block is the result's. -/
theorem landed_block (c : Dev nD) (e : Env F) (h : e.OK) (t : ℕ) (ht : t < 288) {f : Buf (Elt F) ((xs By t).view.loc (c : Thread nD τ))}
    (hf : (xs By t).view.read (Elt F) f = yv e h t) :
    landed (xs By t) (xb Y t) c f ⊢ (iprop(YP c e h (· = t) ∗ free (xs By t) c) : sProp 𝕄) := by
  unfold landed holds free YP
  rw [← xb_rset t ht]
  iintro ⟨⟨%g, %hg, H⟩, Hs⟩
  isplitl [H]
  · have hr : (xb Y t).view.read (Elt F) g = (xb Y t).view.read (Elt F) (yfin e h) := hg.trans (hf.trans (read_yfin e h t ht).symm)
    iapply (Entails.of_eq (pts_of_read (xb Y t) c fullShare hr)) $$ H
  · iexists f
    iexact Hs

/-! ## The steps -/

theorem y_wait {Q : α → sProp 𝕄} (c : Dev nD) (e : Env F) (h : e.OK) (t : ℕ)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst} {k : PUnit → Prog (TpuEff nD τ sig (Elt F) Λ₀ .tc) α} :
    iprop(YF c e h t ∗ Ow c) ⊢ iprop((iprop(YO c t ∗ YP c e h (· = t) ∗ Ow c) -∗ WP defs₀ c (k ⟨⟩) Q)
      -∗ WP defs₀ c (opWait (semq Qy o1 h1) (xslot By o2 h2) (xblk Y o3 h3) hsrc hdst k) Q) := by
  unfold YF YO
  iintro ⟨HF, Ho⟩ Hk
  iapply (out_wait c Y By Qy t t NY (credit_y t) e1 e2 e3) $$ [HF Ho]
  · isplitl [HF]; · iexact HF
    iexact Ho
  iintro ⟨⟨HY, Hf⟩, Hs, Ho⟩
  iapply Hk
  isplitl [Hf Hs]
  · isplitl [Hf]; · iexact Hf
    iexact Hs
  isplitl [HY]; · iexact HY
  iexact Ho

theorem y_start {Q : α → sProp 𝕄} (c : Dev nD) (e : Env F) (h : e.OK) (t : ℕ) (ht : t < 288)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst hsem} {k : PUnit → Prog (TpuEff nD τ sig (Elt F) Λ₀ .tc) α} :
    iprop(holds (xs By t) c (yv e h t) ∗ semVal ((c : Thread nD τ), .dma (sq Qy t)) 0 ∗ YR c e (t ≤ ·))
      ⊢ iprop((iprop(YF c e h t ∗ YR c e (t + 1 ≤ ·)) -∗ WP defs₀ c (k ⟨⟩) Q)
      -∗ WP defs₀ c (opStart (xslot By o2 h2) (xblk Y o3 h3) (.dma (semq Qy o1 h1)) hsrc hdst hsem k) Q) := by
  unfold holds YF
  iintro ⟨⟨%f, %hf, Hh⟩, Hs, HR⟩ Hk
  ihave HR := (YR_split c e (P := (· = t)) (R := (t + 1 ≤ ·)) (T := (t ≤ ·)) (fun r h h' => by beta_reduce at h h'; omega)
    (fun r _ => by beta_reduce; omega)) $$ HR
  icases HR with ⟨HB, HR⟩
  iapply (out_start c Y By Qy t t NY (credit_y t) NY_pos (Finset.Subset.refl _) (fs := f) e1 e2 e3) $$ [Hh Hs HB]
  · isplitl [Hh]; · iexact Hh
    isplitl [HB]; · iapply (YR_free c e t ht) $$ HB
    iexact Hs
  iintro ⟨HF, -⟩
  iapply Hk
  isplitl [HF]
  · iapply (Transfers.Flight_mono (EC F) (c : Thread nD τ) (landed_block c e h t ht hf)) $$ HF
  · iexact HR

/-- The wait of two steps before. -/
theorem y_old {Q : α → sProp 𝕄} (c : Dev nD) (e : Env F) (h : e.OK) (t : ℕ) (h2t : 2 ≤ t) (hn : t < e.n)
    {o1 : Fin 1 → ℕ} {o2 o3 : Fin 3 → ℕ} (e1 : o1 = ![(t - 2) % 2]) (e2 : o2 = ![(t - 2) % 2, 0, 0]) (e3 : o3 = ![256 * ((t - 2) % 288), 0, 0])
    {h1 h2 h3 hsrc hdst} {k : PUnit → Prog (TpuEff nD τ sig (Elt F) Λ₀ .tc) α} :
    iprop(YSt c e h t ∗ Ow c) ⊢ iprop((iprop(YM c e h t ∗ Ow c) -∗ WP defs₀ c (k ⟨⟩) Q)
      -∗ WP defs₀ c (opWait (semq Qy o1 h1) (xslot By o2 h2) (xblk Y o3 h3) hsrc hdst k) Q) := by
  unfold YSt YM
  rw [if_pos hn]
  have hq : (YQ c e h t : sProp 𝕄) = YF c e h (t - 2) := by unfold YQ; rw [if_pos h2t]
  rw [hq]
  iintro ⟨⟨HF, HQ, HP, HR⟩, Ho⟩ Hk
  iapply (y_wait c e h (t - 2) e1 e2 e3) $$ [HF Ho]
  · isplitl [HF]; · iexact HF
    iexact Ho
  iintro ⟨HO, HB, Ho⟩
  iapply Hk
  isplitr [Ho]
  · isplitl [HO]
    · iapply (Entails.of_eq (YO_congr c (show (t - 2) % 2 = t % 2 by omega))) $$ HO
    isplitl [HQ]; · iexact HQ
    isplitr [HR]
    · iapply (YP_join c e h (P := (· < t - 2)) (R := (· = t - 2)) (T := (· < t - 1)) (fun r h h' => by beta_reduce at h h'; omega)
        (fun r _ => by beta_reduce; omega))
      isplitl [HP]; · iexact HP
      iexact HB
    · iexact HR
  · iexact Ho

theorem y_new (c : Dev nD) (e : Env F) (h : e.OK) (t : ℕ) (h2t : ¬ 2 ≤ t) (hn : t < e.n) : YSt c e h t ⊢ (YM c e h t : sProp 𝕄) := by
  unfold YSt YM
  rw [if_pos hn]
  have hq : (YQ c e h t : sProp 𝕄) = YO c t := by unfold YQ; rw [if_neg h2t]
  rw [hq, show t - 2 = t - 1 by omega]

/-- A step that is not the last ends. -/
theorem y_close (c : Dev nD) (e : Env F) (h : e.OK) (t : ℕ) (hn : t + 1 < e.n) : YN c e h t ⊢ (YSt c e h (t + 1) : sProp 𝕄) := by
  unfold YSt YN
  rw [if_pos hn]
  have hq : (YQ c e h (t + 1 + 1) : sProp 𝕄) = YF c e h t := by unfold YQ; rw [if_pos (by omega)]; rfl
  rw [hq]
  iintro ⟨HF, HQ, HP, HR⟩
  isplitl [HQ]; · iexact HQ
  isplitl [HF]; · iexact HF
  isplitl [HP]; · iexact HP
  iexact HR

end Cert.KernelIdeal.Own
-- ==== Proof.Zeros.lean ====
/-
  The last step: the last two transfers waited for, and the zeros of the blocks the plan does not use.
-/
module

public import proofs.«01_k».proof.Proof.RowsOut

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

/-- The last block's transfer done. -/
def Y1 (c : Dev nD) (e : Env F) (h : e.OK) (t : ℕ) : sProp 𝕄 :=
  iprop(YO c t ∗ YQ c e h (t + 1) ∗ YP c e h (fun r => r < t - 1 ∨ r = t) ∗ YR c e (t + 1 ≤ ·))
/-- Every transfer done. -/
def Y2 (c : Dev nD) (e : Env F) (h : e.OK) (n : ℕ) : sProp 𝕄 :=
  iprop(YO c 0 ∗ YO c 1 ∗ YP c e h (· < n) ∗ YR c e (n ≤ ·))

theorem y_last {Q : α → sProp 𝕄} (c : Dev nD) (e : Env F) (h : e.OK) (t : ℕ)
    {o1 : Fin 1 → ℕ} {o2 o3 : Fin 3 → ℕ} (e1 : o1 = ![t % 2]) (e2 : o2 = ![t % 2, 0, 0]) (e3 : o3 = ![256 * (t % 288), 0, 0])
    {h1 h2 h3 hsrc hdst} {k : PUnit → Prog (TpuEff nD τ sig (Elt F) Λ₀ .tc) α} :
    iprop(YN c e h t ∗ Ow c) ⊢ iprop((iprop(Y1 c e h t ∗ Ow c) -∗ WP defs₀ c (k ⟨⟩) Q)
      -∗ WP defs₀ c (opWait (semq Qy o1 h1) (xslot By o2 h2) (xblk Y o3 h3) hsrc hdst k) Q) := by
  unfold YN Y1
  iintro ⟨⟨HF, HQ, HP, HR⟩, Ho⟩ Hk
  iapply (y_wait c e h t e1 e2 e3) $$ [HF Ho]
  · isplitl [HF]; · iexact HF
    iexact Ho
  iintro ⟨HO, HB, Ho⟩
  iapply Hk
  isplitr [Ho]
  · isplitl [HO]; · iexact HO
    isplitl [HQ]; · iexact HQ
    isplitr [HR]
    · iapply (YP_join c e h (P := (· < t - 1)) (R := (· = t)) (T := fun r => r < t - 1 ∨ r = t) (fun r h h' => by beta_reduce at h h'; omega)
        (fun r _ => Iff.rfl))
      isplitl [HP]; · iexact HP
      iexact HB
    · iexact HR
  · iexact Ho

theorem y_last2 {Q : α → sProp 𝕄} (c : Dev nD) (e : Env F) (h : e.OK) (t : ℕ) (h1t : 1 ≤ t)
    {o1 : Fin 1 → ℕ} {o2 o3 : Fin 3 → ℕ} (e1 : o1 = ![(t - 1) % 2]) (e2 : o2 = ![(t - 1) % 2, 0, 0]) (e3 : o3 = ![256 * ((t - 1) % 288), 0, 0])
    {h1 h2 h3 hsrc hdst} {k : PUnit → Prog (TpuEff nD τ sig (Elt F) Λ₀ .tc) α} :
    iprop(Y1 c e h t ∗ Ow c) ⊢ iprop((iprop(Y2 c e h (t + 1) ∗ Ow c) -∗ WP defs₀ c (k ⟨⟩) Q)
      -∗ WP defs₀ c (opWait (semq Qy o1 h1) (xslot By o2 h2) (xblk Y o3 h3) hsrc hdst k) Q) := by
  unfold Y1 Y2
  have hq : (YQ c e h (t + 1) : sProp 𝕄) = YF c e h (t - 1) := by unfold YQ; rw [if_pos (by omega)]; rfl
  rw [hq]
  iintro ⟨⟨HO, HF, HP, HR⟩, Ho⟩ Hk
  iapply (y_wait c e h (t - 1) e1 e2 e3) $$ [HF Ho]
  · isplitl [HF]; · iexact HF
    iexact Ho
  iintro ⟨HO', HB, Ho⟩
  iapply Hk
  isplitr [Ho]
  · ihave HO' := (Entails.of_eq (YO_congr c (show (t - 1) % 2 = (t + 1) % 2 by omega))) $$ HO'
    ihave H := (YO_pair c t) $$ [HO HO']
    · isplitl [HO]; · iexact HO
      iexact HO'
    icases H with ⟨H0, H1⟩
    isplitl [H0]; · iexact H0
    isplitl [H1]; · iexact H1
    isplitr [HR]
    · iapply (YP_join c e h (P := fun r => r < t - 1 ∨ r = t) (R := (· = t - 1)) (T := (· < t + 1)) (fun r h h' => by beta_reduce at h h'; omega)
        (fun r _ => by beta_reduce; omega))
      isplitl [HP]; · iexact HP
      iexact HB
    · iexact HR
  · iexact Ho

theorem y_last2' (c : Dev nD) (e : Env F) (h : e.OK) (t : ℕ) (h1t : ¬ 1 ≤ t) : Y1 c e h t ⊢ (Y2 c e h (t + 1) : sProp 𝕄) := by
  obtain rfl : t = 0 := by omega
  unfold Y1 Y2
  have hq : (YQ c e h (0 + 1) : sProp 𝕄) = YO c 1 := by unfold YQ; rw [if_neg (by omega)]
  rw [hq]
  iintro ⟨HO, HQ, HP, HR⟩
  isplitl [HO]; · iexact HO
  isplitl [HQ]; · iexact HQ
  isplitl [HP]
  · iapply (Entails.of_eq (show (YP c e h (fun r => r < 0 - 1 ∨ r = 0) : sProp 𝕄) = YP c e h (· < 0 + 1) from by
      unfold YP; rw [rset_congr (P := fun r => r < 0 - 1 ∨ r = 0) (Q := (· < 0 + 1)) (fun r _ => by beta_reduce; omega)])) $$ HP
  · iexact HR

/-! ## The zeros -/

/-- The zeros' slot, a share of it. -/
def ZT (c : Dev nD) (f : Buf (Elt F) ((xs By 0).view.loc (c : Thread nD τ))) (q : PosShare TreeShare) : sProp 𝕄 :=
  iprop((xs By 0).view.loc (c : Thread nD τ) ↦[(xs By 0).view.set]{q} f)

/-- What the transfer of zeros to the `k`th unused block delivers. -/
def ZD (c : Dev nD) (e : Env F) (h : e.OK) (f : Buf (Elt F) ((xs By 0).view.loc (c : Thread nD τ))) (m : ℕ) (k : Fin m) : sProp 𝕄 :=
  iprop(YP c e h (· = e.n + k.val) ∗ ZT c f (Transfers.shareTok fullShare m k))

instance (c : Dev nD) (e : Env F) (h : e.OK) (f : Buf (Elt F) ((xs By 0).view.loc (c : Thread nD τ))) (m : ℕ) (k : Fin m) :
    BI.Storable (upEmb : UEmb _ 𝕄) (ZD c e h f m k) := by
  unfold ZD YP ZT; infer_instance

/-- The batch of the zeros' transfers. -/
def ZB (c : Dev nD) (e : Env F) (h : e.OK) (f : Buf (Elt F) ((xs By 0).view.loc (c : Thread nD τ))) (m j u : ℕ) : sProp 𝕄 :=
  Transfers.Batch (EC F) (c : Thread nD τ) (.dma (sq Qy 0)) () NY (ZD c e h f m) j u

/-- After `j` starts. -/
def ZS (c : Dev nD) (e : Env F) (h : e.OK) (f : Buf (Elt F) ((xs By 0).view.loc (c : Thread nD τ))) (m j : ℕ) : sProp 𝕄 :=
  iprop(ZB c e h f m j 0 ∗ bigSep (Transfers.pending j) (fun k : Fin m => ZT c f (Transfers.shareTok fullShare m k)) ∗ YR c e (e.n + j ≤ ·))

/-- After `j` waits. -/
def ZW (c : Dev nD) (e : Env F) (h : e.OK) (f : Buf (Elt F) ((xs By 0).view.loc (c : Thread nD τ))) (m j : ℕ) : sProp 𝕄 :=
  iprop(ZB c e h f m m (NY * j) ∗ Ow c)

theorem z_open (c : Dev nD) (e : Env F) (h : e.OK) {V : FVec F S256x1024 .f32} :
    iprop(holds (xs By 0) c V ∗ semVal ((c : Thread nD τ), .dma (sq Qy 0)) 0 ∗ YR c e (e.n ≤ ·))
      ⊢ (iprop(|={Set.univ}=> ∃ f, ⌜(xs By 0).view.read (Elt F) f = V⌝ ∗ ZS c e h f (288 - e.n) 0
        ∗ ZT c f (Transfers.shareDrop fullShare (288 - e.n))) : sProp 𝕄) := by
  unfold holds ZS
  iintro ⟨⟨%f, %hf, Hh⟩, Hs, HR⟩
  imod (Transfers.batch_alloc' (EC F) (c : Thread nD τ) (sm := .dma (sq Qy 0)) () NY (ZD c e h f (288 - e.n)) (E := Set.univ)) $$ Hs with HB
  ihave Ht := (Transfers.pointsTo_toks_split fullShare (288 - e.n)) $$ Hh
  icases Ht with ⟨Hd, Ht⟩
  imodintro
  iexists f
  isplitr [HB HR Hd Ht]; · ipureintro; exact hf
  isplitr [Hd]
  · isplitl [HB]; · unfold ZB; iexact HB
    isplitl [Ht]
    · rw [Transfers.pending_zero]; unfold ZT; iexact Ht
    · iexact HR
  · unfold ZT; iexact Hd

theorem z_start {Q : α → sProp 𝕄} (c : Dev nD) (e : Env F) (h : e.OK) (f : Buf (Elt F) ((xs By 0).view.loc (c : Thread nD τ)))
    (hf : (xs By 0).view.read (Elt F) f = constant S256x1024 .f32 0x00000000#32) (j t : ℕ) (hj : j < 288 - e.n) (ht : t = e.n + j)
    {o1 : Fin 1 → ℕ} {o2 o3 : Fin 3 → ℕ} (e1 : o1 = ![0 % 2]) (e2 : o2 = ![0 % 2, 0, 0]) (e3 : o3 = ![256 * (t % 288), 0, 0])
    {h1 h2 h3 hsrc hdst hsem} {k : PUnit → Prog (TpuEff nD τ sig (Elt F) Λ₀ .tc) α} :
    ZS c e h f (288 - e.n) j ⊢ iprop((ZS c e h f (288 - e.n) (j + 1) -∗ WP defs₀ c (k ⟨⟩) Q)
      -∗ WP defs₀ c (opStart (xslot By o2 h2) (xblk Y o3 h3) (.dma (semq Qy o1 h1)) hsrc hdst hsem k) Q) := by
  subst e1 e2 e3
  have ht288 : t < 288 := by omega
  have hy : yv e h t = constant S256x1024 .f32 0x00000000#32 := by unfold yv; rw [if_neg (by omega)]
  have hpend := Transfers.bigSep_pending_step (fun k : Fin (288 - e.n) => ZT c f (Transfers.shareTok fullShare (288 - e.n) k)) j hj
  unfold ZS
  rw [hpend]
  iintro ⟨HB, ⟨Ht, HT⟩, HR⟩ Hk
  ihave HR := (YR_split c e (P := (· = t)) (R := (e.n + (j + 1) ≤ ·)) (T := (e.n + j ≤ ·)) (fun r h h' => by beta_reduce at h h'; omega)
    (fun r _ => by beta_reduce; omega)) $$ HR
  icases HR with ⟨HY, HR⟩
  ihave HY := (YR_free c e t ht288) $$ HY
  unfold free
  icases HY with ⟨%fd, HY⟩
  have hD : iprop(((xb Y t).view.loc (c : Thread nD τ) ↦[(xb Y t).view.set]{fullShare} ((xb Y t).view.write (Elt F) fd ((xs By 0).view.read (Elt F) f) Finset.univ))
      ∗ ((xs By 0).view.loc (c : Thread nD τ) ↦[(xs By 0).view.set]{Transfers.shareTok fullShare (288 - e.n) ⟨j, hj⟩} f))
      ⊢ (ZD c e h f (288 - e.n) ⟨j, hj⟩ : sProp 𝕄) := by
    unfold ZD ZT YP
    show _ ⊢ iprop((Y.view.loc (c : Thread nD τ) ↦[rset (· = e.n + j)]{fullShare} (yfin e h)) ∗ _)
    rw [← ht, ← xb_rset t ht288]
    have hr : (xb Y t).view.read (Elt F) ((xb Y t).view.write (Elt F) fd ((xs By 0).view.read (Elt F) f) Finset.univ)
        = (xb Y t).view.read (Elt F) (yfin e h) :=
      (View.read_write_univ _ _).trans (hf.trans (hy.symm.trans (read_yfin e h t ht288).symm))
    iintro ⟨H, H'⟩
    isplitl [H]
    · iapply (Entails.of_eq (pts_of_read (xb Y t) c fullShare hr)) $$ H
    · iexact H'
  unfold ZB
  iapply (Transfers.wp_dmaBatch (EC F) 𝒱₀ (c : Thread nD τ) none (src := xs By 0) (dst := xb Y t) (sm := .dma (sq Qy 0))
    (q := Transfers.shareTok fullShare (288 - e.n) ⟨j, hj⟩) (fs := f) (fd := fd) (via := .same) (D := ZD c e h f (288 - e.n))
    () NY (credit_y t) (Finset.Subset.refl _) hj (Nat.zero_le _) hD) $$ [Ht HY HB]
  · isplitl [Ht]; · unfold ZT; iexact Ht
    isplitl [HY]; · iexact HY
    iexact HB
  iintro HB
  iapply Hk
  isplitl [HB]; · iexact HB
  isplitl [HT]; · iexact HT
  iexact HR

theorem z_turn (c : Dev nD) (e : Env F) (h : e.OK) (f : Buf (Elt F) ((xs By 0).view.loc (c : Thread nD τ))) :
    iprop(ZS c e h f (288 - e.n) (288 - e.n) ∗ Ow c) ⊢ (ZW c e h f (288 - e.n) 0 : sProp 𝕄) := by
  unfold ZS ZW
  rw [Nat.mul_zero]
  iintro ⟨⟨HB, -, -⟩, Ho⟩
  isplitl [HB]; · iexact HB
  iexact Ho

theorem z_wait {Q : α → sProp 𝕄} (c : Dev nD) (e : Env F) (h : e.OK) (f : Buf (Elt F) ((xs By 0).view.loc (c : Thread nD τ)))
    (j t : ℕ) (hj : j < 288 - e.n)
    {o1 : Fin 1 → ℕ} {o2 o3 : Fin 3 → ℕ} (e1 : o1 = ![0 % 2]) (e2 : o2 = ![0 % 2, 0, 0]) (e3 : o3 = ![256 * (t % 288), 0, 0])
    {h1 h2 h3 hsrc hdst} {k : PUnit → Prog (TpuEff nD τ sig (Elt F) Λ₀ .tc) α} :
    ZW c e h f (288 - e.n) j ⊢ iprop((ZW c e h f (288 - e.n) (j + 1) -∗ WP defs₀ c (k ⟨⟩) Q)
      -∗ WP defs₀ c (opWait (semq Qy o1 h1) (xslot By o2 h2) (xblk Y o3 h3) hsrc hdst k) Q) := by
  subst e1 e2 e3
  unfold ZW ZB
  rw [Nat.mul_succ]
  exact wait_batch (src := xs By 0) (dst := xb Y t) c NY (credit_y t) (288 - e.n) (NY * j)
    (by rw [← Nat.mul_succ]; exact Nat.mul_le_mul_left _ hj)

/-- The unused blocks, together. -/
theorem z_blocks (c : Dev nD) (e : Env F) (h : e.OK) :
    bigSep Finset.univ (fun k : Fin (288 - e.n) => YP c e h (· = e.n + k.val)) ⊢ (YP c e h (e.n ≤ ·) : sProp 𝕄) := by
  have hs : rset (e.n ≤ ·) = (Finset.univ : Finset (Fin (288 - e.n))).biUnion fun k => rset (· = e.n + k.val) := by
    ext j
    rw [Finset.mem_biUnion, mem_rset]
    constructor
    · intro hj
      have hr := row_lt j
      exact ⟨⟨(j 0).val / 256 - e.n, by omega⟩, Finset.mem_univ _, mem_rset.mpr (by show (j 0).val / 256 = e.n + ((j 0).val / 256 - e.n); omega)⟩
    · rintro ⟨k, -, hk⟩
      rw [mem_rset] at hk
      omega
  unfold YP
  rw [hs, pointsTo_biUnion]
  intro a _ b _ hab
  refine rset_disj fun r hr hr' => hab (Fin.ext ?_)
  omega

theorem z_parts (c : Dev nD) (e : Env F) (h : e.OK) (f : Buf (Elt F) ((xs By 0).view.loc (c : Thread nD τ))) (m : ℕ) :
    bigSep Finset.univ (ZD c e h f m) ⊢ (iprop(bigSep Finset.univ (fun k : Fin m => YP c e h (· = e.n + k.val))
      ∗ bigSep Finset.univ (fun k : Fin m => ZT c f (Transfers.shareTok fullShare m k))) : sProp 𝕄) :=
  Entails.of_eq (bigSep_sep Finset.univ (fun k : Fin m => YP c e h (· = e.n + k.val)) (fun k : Fin m => ZT c f (Transfers.shareTok fullShare m k)))

theorem z_close (c : Dev nD) (e : Env F) (h : e.OK) (f : Buf (Elt F) ((xs By 0).view.loc (c : Thread nD τ))) :
    iprop(ZW c e h f (288 - e.n) (288 - e.n) ∗ ZT c f (Transfers.shareDrop fullShare (288 - e.n)) ∗ YO c 1 ∗ YP c e h (· < e.n))
      ⊢ (iprop(|={Set.univ}=> (YSt c e h e.n ∗ Ow c)) : sProp 𝕄) := by
  unfold ZW ZB
  iintro ⟨⟨HB, Ho⟩, Hd, H1, HP⟩
  imod (Transfers.batch_collect' (EC F) (c : Thread nD τ) (sm := .dma (sq Qy 0)) (N := NY) NY_pos (D := ZD c e h f (288 - e.n))) $$ HB with H
  icases H with ⟨HD, Hs⟩
  ihave HD := (z_parts c e h f (288 - e.n)) $$ HD
  icases HD with ⟨HY, HT⟩
  imodintro
  unfold YSt
  rw [if_neg (Nat.lt_irrefl _)]
  isplitr [Ho]
  · isplitl [Hd HT Hs]
    · unfold YO
      isplitr [Hs]
      · unfold free
        iexists f
        iapply (Transfers.pointsTo_toks_join fullShare (288 - e.n))
        unfold ZT
        isplitl [Hd]; · iexact Hd
        iexact HT
      · iexact Hs
    isplitl [H1]; · iexact H1
    iapply (YP_join c e h (P := (· < e.n)) (R := (e.n ≤ ·)) (T := fun _ => True) (fun r h h' => by beta_reduce at h h'; omega)
      (fun r _ => ⟨fun _ => trivial, fun _ => Nat.lt_or_ge r e.n⟩))
    isplitl [HP]; · iexact HP
    iapply (z_blocks c e h) $$ HY
  · iexact Ho

end Cert.KernelIdeal.Own
-- ==== Proof.Weights.lean ====
/-
  The weights' buffers: an expert's three matrices on their way into a slot, waited for, and the next expert's started.
-/
module

public import proofs.«01_k».proof.Proof.Zeros

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

/-! ## What is held -/

/-- A slot of the weights' buffers at rest. -/
def WO (c : Dev nD) (s : ℕ) : sProp 𝕄 :=
  iprop(free (ws Bg s) c ∗ free (ws Bu s) c ∗ free (ws Bd s) c ∗ semVal ((c : Thread nD τ), .dma (sq Qw s)) 0)
/-- An array of weights, whole. -/
def WA (M : Memref sig .tc .hbm S32x1024x1024 .f32) (c : Dev nD) (f : Buf (Elt F) (M.view.loc (c : Thread nD τ))) : sProp 𝕄 :=
  iprop(M.view.loc (c : Thread nD τ) ↦[Finset.univ]{fullShare} f)
/-- An array of weights, but for expert `x`'s. -/
def WR (M : Memref sig .tc .hbm S32x1024x1024 .f32) (c : Dev nD) (f : Buf (Elt F) (M.view.loc (c : Thread nD τ))) (x : ℕ) : sProp 𝕄 :=
  iprop(M.view.loc (c : Thread nD τ) ↦[Finset.univ \ (wb M x).view.set]{fullShare} f)
/-- The three arrays. -/
def WW (c : Dev nD) (e : Env F) : sProp 𝕄 := iprop(WA Wg c e.wg ∗ WA Wu c e.wu ∗ WA Wd c e.wd)
/-- What the three transfers deliver. -/
def WD (c : Dev nD) (e : Env F) (x s : ℕ) : Fin 3 → sProp 𝕄
  | 0 => landed (wb Wg x) (ws Bg s) c e.wg
  | 1 => landed (wb Wu x) (ws Bu s) c e.wu
  | 2 => landed (wb Wd x) (ws Bd s) c e.wd

instance {sp sp' : Space} {s : Shape} {e : EltTy} (src : Memref sig .tc sp s e) (dst : Memref sig .tc sp' s e) (c : Dev nD)
    (fs : Buf (Elt F) (src.view.loc (c : Thread nD τ))) : BI.Storable (upEmb : UEmb _ 𝕄) (landed src dst c fs) := by
  unfold landed holds; infer_instance

instance (c : Dev nD) (e : Env F) (x s : ℕ) (k : Fin 3) : BI.Storable (upEmb : UEmb _ 𝕄) (WD c e x s k) :=
  match k with
  | 0 => inferInstanceAs (BI.Storable (upEmb : UEmb _ 𝕄) (landed (wb Wg x) (ws Bg s) c e.wg))
  | 1 => inferInstanceAs (BI.Storable (upEmb : UEmb _ 𝕄) (landed (wb Wu x) (ws Bu s) c e.wu))
  | 2 => inferInstanceAs (BI.Storable (upEmb : UEmb _ 𝕄) (landed (wb Wd x) (ws Bd s) c e.wd))

/-- The three transfers' batch. -/
def WB (c : Dev nD) (e : Env F) (x s j u : ℕ) : sProp 𝕄 :=
  Transfers.Batch (EC F) (c : Thread nD τ) (.dma (sq Qw s)) () NW (WD c e x s) j u
/-- Expert `x`'s matrices on their way into slot `s`, `u` units waited for. -/
def WF (c : Dev nD) (e : Env F) (x s u : ℕ) : sProp 𝕄 :=
  iprop(WB c e x s 3 u ∗ WR Wg c e.wg x ∗ WR Wu c e.wu x ∗ WR Wd c e.wd x)
/-- One of them started. -/
def W1 (c : Dev nD) (e : Env F) (x s : ℕ) : sProp 𝕄 :=
  iprop(WB c e x s 1 0 ∗ free (ws Bu s) c ∗ free (ws Bd s) c ∗ WR Wg c e.wg x ∗ WA Wu c e.wu ∗ WA Wd c e.wd)
/-- Two of them started. -/
def W2 (c : Dev nD) (e : Env F) (x s : ℕ) : sProp 𝕄 :=
  iprop(WB c e x s 2 0 ∗ free (ws Bd s) c ∗ WR Wg c e.wg x ∗ WR Wu c e.wu x ∗ WA Wd c e.wd)
/-- Expert `x`'s matrices in slot `s`. -/
def WH (c : Dev nD) (e : Env F) (x s : ℕ) : sProp 𝕄 :=
  iprop(holds (ws Bg s) c ((wb Wg x).view.read (Elt F) e.wg) ∗ holds (ws Bu s) c ((wb Wu x).view.read (Elt F) e.wu)
    ∗ holds (ws Bd s) c ((wb Wd x).view.read (Elt F) e.wd) ∗ semVal ((c : Thread nD τ), .dma (sq Qw s)) 0)
/-- The next expert's matrices on their way into the other slot, if there is a next expert. -/
def WG (c : Dev nD) (e : Env F) (w s : ℕ) : sProp 𝕄 := if w < 32 then WF c e w s 0 else iprop(WO c s ∗ WW c e)
/-- The buffers between two experts. -/
def WSt (c : Dev nD) (e : Env F) (w s : ℕ) : sProp 𝕄 := iprop(WG c e w s ∗ WO c (s + 1))
/-- The buffers at the beginning of step `t`. -/
def WT (c : Dev nD) (e : Env F) (t : ℕ) : sProp 𝕄 :=
  if t = 0 then iprop(WO c 0 ∗ WO c 1 ∗ WW c e) else WSt c e (e.W (t - 1)) (e.S (t - 1) + 1)
/-- The buffers in step `t`, the first expert's matrices started. -/
def WK (c : Dev nD) (e : Env F) (t : ℕ) : sProp 𝕄 :=
  if t = 0 ∨ e.E t ≠ e.E (t - 1) then iprop(WF c e (e.E t) (e.S t) 0 ∗ WO c (e.S t + 1)) else WT c e (t + 1)

theorem WO_congr (c : Dev nD) {s s' : ℕ} (h : s % 2 = s' % 2) : (WO c s : sProp 𝕄) = WO c s' := by
  unfold WO; rw [ws_congr Bg h, ws_congr Bu h, ws_congr Bd h, sq_congr Qw h]

theorem WF_congr (c : Dev nD) (e : Env F) (x u : ℕ) {s s' : ℕ} (h : s % 2 = s' % 2) : (WF c e x s u : sProp 𝕄) = WF c e x s' u := by
  have hD : (WD c e x s : Fin 3 → sProp 𝕄) = WD c e x s' := by
    funext k; unfold WD; rw [ws_congr Bg h, ws_congr Bu h, ws_congr Bd h]
  unfold WF WB
  rw [hD, sq_congr Qw h]

theorem WG_congr (c : Dev nD) (e : Env F) (w : ℕ) {s s' : ℕ} (h : s % 2 = s' % 2) : (WG c e w s : sProp 𝕄) = WG c e w s' := by
  unfold WG; rw [WF_congr c e w 0 h, WO_congr c h]

theorem WA_split (M : Memref sig .tc .hbm S32x1024x1024 .f32) (c : Dev nD) (f : Buf (Elt F) (M.view.loc (c : Thread nD τ))) (x : ℕ) :
    iprop((M.view.loc (c : Thread nD τ) ↦[(wb M x).view.set]{fullShare} f) ∗ WR M c f x) ⊢ (WA M c f : sProp 𝕄) := by
  unfold WA WR
  exact (pointsTo_split_subset (q := fullShare) (f := f) (Finset.subset_univ _)).2

/-! ## The three transfers in -/

theorem w_start0 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst hsem} {k : PUnit → Prog (TpuEff nD τ sig (Elt F) Λ₀ .tc) α} :
    iprop(WO c s ∗ WW c e) ⊢ iprop((W1 c e x s -∗ WP defs₀ c (k ⟨⟩) Q)
      -∗ WP defs₀ c (opStart (wblk Wg o3 h3) (wslot Bg o2 h2) (.dma (semq Qw o1 h1)) hsrc hdst hsem k) Q) := by
  unfold WO WW W1
  iintro ⟨⟨Hg, Hu, Hd, Hs⟩, HG, HU, HD⟩ Hk
  imod (Transfers.batch_alloc' (EC F) (c : Thread nD τ) (sm := .dma (sq Qw s)) () NW (WD c e x s) (E := Set.univ)) $$ Hs with HB
  iapply (weights_start c Wg Bg Qw x s NW (credit_g s) (Finset.subset_univ _) (n := 3) (D := WD c e x s) 0 0 (by decide) (Nat.zero_le _)
    (by exact Entails.refl) e1 e2 e3) $$ [HG Hg HB]
  · isplitl [HG]; · unfold WA; iexact HG
    isplitl [Hg]; · iexact Hg
    iexact HB
  iintro ⟨HB, HG⟩
  iapply Hk
  isplitl [HB]; · unfold WB; iexact HB
  isplitl [Hu]; · iexact Hu
  isplitl [Hd]; · iexact Hd
  isplitl [HG]; · unfold WR; iexact HG
  isplitl [HU]; · iexact HU
  iexact HD

theorem w_start1 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst hsem} {k : PUnit → Prog (TpuEff nD τ sig (Elt F) Λ₀ .tc) α} :
    W1 c e x s ⊢ iprop((W2 c e x s -∗ WP defs₀ c (k ⟨⟩) Q)
      -∗ WP defs₀ c (opStart (wblk Wu o3 h3) (wslot Bu o2 h2) (.dma (semq Qw o1 h1)) hsrc hdst hsem k) Q) := by
  unfold W1 W2
  iintro ⟨HB, Hu, Hd, HG, HU, HD⟩ Hk
  iapply (weights_start c Wu Bu Qw x s NW (credit_u s) (Finset.subset_univ _) (n := 3) (D := WD c e x s) 1 0 (by decide) (Nat.zero_le _)
    (by exact Entails.refl) e1 e2 e3) $$ [HU Hu HB]
  · isplitl [HU]; · unfold WA; iexact HU
    isplitl [Hu]; · iexact Hu
    unfold WB; iexact HB
  iintro ⟨HB, HU⟩
  iapply Hk
  isplitl [HB]; · unfold WB; iexact HB
  isplitl [Hd]; · iexact Hd
  isplitl [HG]; · iexact HG
  isplitl [HU]; · unfold WR; iexact HU
  iexact HD

theorem w_start2 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst hsem} {k : PUnit → Prog (TpuEff nD τ sig (Elt F) Λ₀ .tc) α} :
    W2 c e x s ⊢ iprop((WF c e x s 0 -∗ WP defs₀ c (k ⟨⟩) Q)
      -∗ WP defs₀ c (opStart (wblk Wd o3 h3) (wslot Bd o2 h2) (.dma (semq Qw o1 h1)) hsrc hdst hsem k) Q) := by
  unfold W2 WF
  iintro ⟨HB, Hd, HG, HU, HD⟩ Hk
  iapply (weights_start c Wd Bd Qw x s NW (credit_d s) (Finset.subset_univ _) (n := 3) (D := WD c e x s) 2 0 (by decide) (Nat.zero_le _)
    (by exact Entails.refl) e1 e2 e3) $$ [HD Hd HB]
  · isplitl [HD]; · unfold WA; iexact HD
    isplitl [Hd]; · iexact Hd
    unfold WB; iexact HB
  iintro ⟨HB, HD⟩
  iapply Hk
  isplitl [HB]; · unfold WB; iexact HB
  isplitl [HG]; · iexact HG
  isplitl [HU]; · iexact HU
  unfold WR; iexact HD

theorem w_wait0 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst} {k : PUnit → Prog (TpuEff nD τ sig (Elt F) Λ₀ .tc) α} :
    iprop(WF c e x s 0 ∗ Ow c) ⊢ iprop((iprop(WF c e x s (0 + NW) ∗ Ow c) -∗ WP defs₀ c (k ⟨⟩) Q)
      -∗ WP defs₀ c (opWait (semq Qw o1 h1) (wblk Wg o3 h3) (wslot Bg o2 h2) hsrc hdst k) Q) := by
  unfold WF WB
  iintro ⟨⟨HB, HR⟩, Ho⟩ Hk
  iapply (weights_wait c Wg Bg Qw x s NW (credit_g s) 3 0 (by have := NW_pos; omega) e1 e2 e3) $$ [HB Ho]
  · isplitl [HB]; · iexact HB
    iexact Ho
  iintro ⟨HB, Ho⟩
  iapply Hk
  isplitl [HB HR]
  · isplitl [HB]; · iexact HB
    iexact HR
  iexact Ho

theorem w_wait1 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst} {k : PUnit → Prog (TpuEff nD τ sig (Elt F) Λ₀ .tc) α} :
    iprop(WF c e x s (0 + NW) ∗ Ow c) ⊢ iprop((iprop(WF c e x s (0 + NW + NW) ∗ Ow c) -∗ WP defs₀ c (k ⟨⟩) Q)
      -∗ WP defs₀ c (opWait (semq Qw o1 h1) (wblk Wu o3 h3) (wslot Bu o2 h2) hsrc hdst k) Q) := by
  unfold WF WB
  iintro ⟨⟨HB, HR⟩, Ho⟩ Hk
  iapply (weights_wait c Wu Bu Qw x s NW (credit_u s) 3 (0 + NW) (by have := NW_pos; omega) e1 e2 e3) $$ [HB Ho]
  · isplitl [HB]; · iexact HB
    iexact Ho
  iintro ⟨HB, Ho⟩
  iapply Hk
  isplitl [HB HR]
  · isplitl [HB]; · iexact HB
    iexact HR
  iexact Ho

theorem three (Φ : Fin 3 → sProp 𝕄) : bigSep Finset.univ Φ = iprop(Φ 0 ∗ Φ 1 ∗ Φ 2) :=
  bigSep_univ_eq_bigSepL [0, 1, 2] (by decide) (by decide) Φ

theorem w_wait2 {Q : α → sProp 𝕄} (c : Dev nD) (e : Env F) (x s : ℕ)
    {o1 : Fin 1 → ℕ} {o2 o3 : Fin 3 → ℕ} (e1 : o1 = ![s % 2]) (e2 : o2 = ![s % 2, 0, 0]) (e3 : o3 = ![x % 32, 0, 0])
    {h1 h2 h3 hsrc hdst} {k : PUnit → Prog (TpuEff nD τ sig (Elt F) Λ₀ .tc) α} :
    iprop(WF c e x s (0 + NW + NW) ∗ Ow c) ⊢ iprop((iprop(WH c e x s ∗ WW c e ∗ Ow c) -∗ WP defs₀ c (k ⟨⟩) Q)
      -∗ WP defs₀ c (opWait (semq Qw o1 h1) (wblk Wd o3 h3) (wslot Bd o2 h2) hsrc hdst k) Q) := by
  unfold WF WB
  iintro ⟨⟨HB, HG, HU, HD⟩, Ho⟩ Hk
  iapply (weights_wait_last c Wd Bd Qw x s NW (credit_d s) NW_pos (n := 3) (0 + NW + NW) (by omega) e1 e2 e3) $$ [HB Ho]
  · isplitl [HB]; · iexact HB
    iexact Ho
  iintro ⟨HB, Hs, Ho⟩
  ihave HB := (Entails.of_eq (three (WD c e x s))) $$ HB
  unfold WD landed
  icases HB with ⟨⟨Hg, HG'⟩, ⟨Hu, HU'⟩, Hd, HD'⟩
  iapply Hk
  unfold WH WW
  isplitl [Hg Hu Hd Hs]
  · isplitl [Hg]; · iexact Hg
    isplitl [Hu]; · iexact Hu
    isplitl [Hd]; · iexact Hd
    iexact Hs
  isplitr [Ho]
  · isplitl [HG HG']
    · iapply (WA_split Wg c e.wg x)
      isplitl [HG']; · iexact HG'
      iexact HG
    isplitl [HU HU']
    · iapply (WA_split Wu c e.wu x)
      isplitl [HU']; · iexact HU'
      iexact HU
    · iapply (WA_split Wd c e.wd x)
      isplitl [HD']; · iexact HD'
      iexact HD
  iexact Ho

/-! ## The steps -/

theorem WO_pair (c : Dev nD) (s : ℕ) (hs : s < 2) : (iprop(WO c 0 ∗ WO c 1) : sProp 𝕄) ⊢ iprop(WO c s ∗ WO c (s + 1)) := by
  rcases (show s = 0 ∨ s = 1 by omega) with rfl | rfl
  · exact Entails.refl
  · rw [WO_congr c (show (1 + 1) % 2 = 0 % 2 by omega)]
    iintro ⟨H, H'⟩
    isplitl [H']; · iexact H'
    iexact H

/-- The first step begins. -/
theorem w_first (c : Dev nD) (e : Env F) (h : e.OK) (t : ℕ) (ht : t = 0) :
    WT c e t ⊢ (iprop(WO c (e.S 0) ∗ WW c e ∗ WO c (e.S 0 + 1)) : sProp 𝕄) := by
  subst ht
  unfold WT
  rw [if_pos rfl]
  iintro ⟨H0, H1, HW⟩
  ihave H := (WO_pair c (e.S 0) (h.S_lt 0)) $$ [H0 H1]
  · isplitl [H0]; · iexact H0
    iexact H1
  icases H with ⟨H0, H1⟩
  isplitl [H0]; · iexact H0
  isplitl [HW]; · iexact HW
  iexact H1

theorem w_first' (c : Dev nD) (e : Env F) (t : ℕ) (ht : t = 0) :
    iprop(WF c e (e.E 0) (e.S 0) 0 ∗ WO c (e.S 0 + 1)) ⊢ (WK c e t : sProp 𝕄) := by
  subst ht
  unfold WK
  rw [if_pos (Or.inl rfl)]

theorem w_later (c : Dev nD) (e : Env F) (h : e.OK) (t : ℕ) (h0 : ¬ t = 0) (ht : t < e.n) : WT c e t ⊢ (WK c e t : sProp 𝕄) := by
  obtain ⟨r, rfl⟩ : ∃ r, t = r + 1 := ⟨t - 1, by omega⟩
  unfold WT WK
  rw [if_neg h0]
  simp only [Nat.add_sub_cancel]
  by_cases he : e.E (r + 1) = e.E r
  · rw [if_neg (by simp [he])]
    unfold WT
    rw [if_neg (by omega)]
    simp only [Nat.add_sub_cancel]
    rw [(h.same r ht he).1, (h.same r ht he).2]
  · rw [if_pos (Or.inr he)]
    have hn := h.next r ht he
    have hs := h.S_lt r
    have hp : (e.S r + 1) % 2 = e.S (r + 1) % 2 := by rw [hn.2]; omega
    unfold WSt WG
    rw [if_pos (by rw [← hn.1]; exact h.E_lt _), ← hn.1, WF_congr c e _ 0 hp,
      WO_congr c (show (e.S r + 1 + 1) % 2 = (e.S (r + 1) + 1) % 2 by omega)]

/-- The slot read, its place is free again. -/
theorem w_close (c : Dev nD) (e : Env F) (t : ℕ) :
    iprop(WH c e (e.E t) (e.S t) ∗ WG c e (e.W t) (e.S t + 1)) ⊢ (WT c e (t + 1) : sProp 𝕄) := by
  unfold WT
  rw [if_neg (by omega)]
  simp only [Nat.add_sub_cancel]
  unfold WSt WH
  rw [WO_congr c (show (e.S t + 1 + 1) % 2 = e.S t % 2 by omega)]
  iintro ⟨⟨Hg, Hu, Hd, Hs⟩, HG⟩
  isplitl [HG]; · iexact HG
  unfold WO
  isplitl [Hg]; · iapply free_of_holds $$ Hg
  isplitl [Hu]; · iapply free_of_holds $$ Hu
  isplitl [Hd]; · iapply free_of_holds $$ Hd
  iexact Hs

theorem w_done (c : Dev nD) (e : Env F) (h : e.OK) : WT c e e.n ⊢ (iprop(WO c 0 ∗ WO c 1 ∗ WW c e) : sProp 𝕄) := by
  have hn := h.npos
  unfold WT
  rw [if_neg (by omega), h.last]
  unfold WSt WG
  rw [if_neg (by decide)]
  have hs := h.S_lt (e.n - 1)
  rcases (show e.S (e.n - 1) = 0 ∨ e.S (e.n - 1) = 1 by omega) with hz | hz
  · rw [hz, WO_congr c (show (0 + 1 + 1) % 2 = 0 % 2 by omega)]
    iintro ⟨⟨H1, HW⟩, H0⟩
    isplitl [H0]; · iexact H0
    isplitl [H1]; · iexact H1
    iexact HW
  · rw [hz, WO_congr c (show (1 + 1 + 1) % 2 = 1 % 2 by omega), WO_congr c (show (1 + 1) % 2 = 0 % 2 by omega)]
    iintro ⟨⟨H1, HW⟩, H0⟩
    isplitl [H1]; · iexact H1
    isplitl [H0]; · iexact H0
    iexact HW

/-! ## The weights rounded -/

/-- Expert `x`'s weights, rounded, in their buffers. -/
def BS (c : Dev nD) (e : Env F) (x : ℕ) : sProp 𝕄 :=
  iprop(((c : Thread nD τ).loc cc0_scratch8 ↦{fullShare} gv e x) ∗ ((c : Thread nD τ).loc cc0_scratch9 ↦{fullShare} uv e x)
    ∗ ((c : Thread nD τ).loc cc0_scratch10 ↦{fullShare} dv e x))
/-- The three buffers, whatever they hold. -/
def BA (c : Dev nD) : sProp 𝕄 :=
  iprop((∃ f, (c : Thread nD τ).loc cc0_scratch8 ↦{fullShare} f) ∗ (∃ f, (c : Thread nD τ).loc cc0_scratch9 ↦{fullShare} f)
    ∗ (∃ f, (c : Thread nD τ).loc cc0_scratch10 ↦{fullShare} f))
/-- The buffers at the beginning of step `t`. -/
def BT (c : Dev nD) (e : Env F) (t : ℕ) : sProp 𝕄 := if t = 0 then BA c else BS c e (e.E (t - 1))

theorem BA_of_BS (c : Dev nD) (e : Env F) (x : ℕ) : BS c e x ⊢ (BA c : sProp 𝕄) := by
  unfold BS BA
  iintro ⟨H, H', H''⟩
  isplitl [H]; · iexists _; iexact H
  isplitl [H']; · iexists _; iexact H'
  iexists _; iexact H''

theorem BA_of_BT (c : Dev nD) (e : Env F) (t : ℕ) : BT c e t ⊢ (BA c : sProp 𝕄) := by
  unfold BT
  split
  · exact Entails.refl
  · exact BA_of_BS c e _

theorem BT_kept (c : Dev nD) (e : Env F) (t : ℕ) (hc : ¬ (t = 0 ∨ e.E t ≠ e.E (t - 1))) : BT c e t ⊢ (BS c e (e.E t) : sProp 𝕄) := by
  unfold BT
  rw [if_neg (fun h0 => hc (Or.inl h0)), (show e.E t = e.E (t - 1) from by by_contra hne; exact hc (Or.inr hne))]

end Cert.KernelIdeal.Own
-- ==== Proof.Body1.lean ====
/-
  A step's arithmetic: its rows, its expert's weights and biases, and the block of the result.
-/
module

public import proofs.«01_k».proof.Proof.Weights

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

/-- The tables. -/
def TT (c : Dev nD) (e : Env F) : sProp 𝕄 :=
  iprop(((c : Thread nD τ).loc main_v19 ↦{fullShare.right} e.tE) ∗ ((c : Thread nD τ).loc main_v23 ↦{fullShare.right} e.tn)
    ∗ ((c : Thread nD τ).loc main_v50 ↦{fullShare.right} e.tS) ∗ ((c : Thread nD τ).loc main_v52 ↦{fullShare.right} e.tW))
/-- The biases, staged. -/
def BB (c : Dev nD) (e : Env F) : sProp 𝕄 :=
  iprop(((c : Thread nD τ).loc cc0_stg0_0 ↦{fullShare} e.bg) ∗ ((c : Thread nD τ).loc cc0_stg1_0 ↦{fullShare} e.bu)
    ∗ ((c : Thread nD τ).loc cc0_stg2_0 ↦{fullShare} e.bd))

theorem assume_ok {Q : α → sProp 𝕄} {c : Dev nD} {P : Prop} {d : Decidable P} (hP : P) {k : PLift P → Prog (TpuEff nD τ sig (Elt F) Λ₀ .tc) α} :
    WP defs₀ c (k ⟨hP⟩) Q ⊢ WP defs₀ c (.op (.assume P d) k) Q := by
  unfold WP; rw [wp_assume_of _ _ _ _ (d := d) hP]

theorem ret_ok {Q : α → sProp 𝕄} {c : Dev nD} {a : α} : Q a ⊢ WP defs₀ c (.ret a) Q := by
  unfold WP; rw [wp_ret]
  iintro H
  imodintro
  iexact H

theorem bind_ok {β : Type} {Q : β → sProp 𝕄} {c : Dev nD} {p : Prog (TpuEff nD τ sig (Elt F) Λ₀ .tc) α} {k : α → Prog (TpuEff nD τ sig (Elt F) Λ₀ .tc) β} :
    WP defs₀ c p (fun a => WP defs₀ c (k a) Q) ⊢ WP defs₀ c (p >>= k) Q := by
  unfold WP; rw [wp_bind]

/-- A branch whose two sides go on alike, once what the rest needs is named. -/
theorem join_ok {Q : α → sProp 𝕄} {c : Dev nD} (R : sProp 𝕄) {P : Prop} {d : Decidable P} {a : P → Prog (TpuEff nD τ sig (Elt F) Λ₀ .tc) α}
    {p : Prog (TpuEff nD τ sig (Elt F) Λ₀ .tc) α} :
    iprop((R -∗ WP defs₀ c p Q) -∗ WP defs₀ c (@dite _ P d a (fun _ => p)) Q)
      ⊢ iprop((R -∗ WP defs₀ c p Q) -∗ WP defs₀ c (@dite _ P d a (fun _ => p)) Q) := Entails.refl

theorem dite_pos {Q : α → sProp 𝕄} {c : Dev nD} {P : Prop} {d : Decidable P} (h : P) {a : P → Prog (TpuEff nD τ sig (Elt F) Λ₀ .tc) α}
    {b : ¬ P → Prog (TpuEff nD τ sig (Elt F) Λ₀ .tc) α} : WP defs₀ c (a h) Q ⊢ WP defs₀ c (@dite _ P d a b) Q := by
  rw [dif_pos h]

theorem dite_neg {Q : α → sProp 𝕄} {c : Dev nD} {P : Prop} {d : Decidable P} (h : ¬ P) {a : P → Prog (TpuEff nD τ sig (Elt F) Λ₀ .tc) α}
    {b : ¬ P → Prog (TpuEff nD τ sig (Elt F) Λ₀ .tc) α} : WP defs₀ c (b h) Q ⊢ WP defs₀ c (@dite _ P d a b) Q := by
  rw [dif_neg h]

theorem table_E {Q : α → sProp 𝕄} (c : Dev nD) (e : Env F) (h : e.OK) (t : ℕ) (ht : t < 288)
    {o : Fin 1 → ℕ} (ho : o = ![t]) {h' hl} {k : (S1.Idx → Elt F .i32) → Prog (TpuEff nD τ sig (Elt F) Λ₀ .tc) α} :
    TT c e ⊢ iprop((TT c e -∗ WP defs₀ c (k (fun _ => w32 (e.E t))) Q)
      -∗ WP defs₀ c (.op (.load (Memref.whole main_v19) (Rect.unit (s := S288) o S1.size h').toLoadRect hl) k) Q) := by
  unfold TT
  rw [← h.hE t ht]
  iintro ⟨HE, HR⟩ Hk
  iapply (read_main_v19 c t ht ho) $$ HE
  iintro HE
  iapply Hk
  isplitl [HE]; · iexact HE
  iexact HR

theorem table_n {Q : α → sProp 𝕄} (c : Dev nD) (e : Env F) (h : e.OK)
    {h' hl} {k : (S1.Idx → Elt F .i32) → Prog (TpuEff nD τ sig (Elt F) Λ₀ .tc) α} :
    TT c e ⊢ iprop((TT c e -∗ WP defs₀ c (k (fun _ => w32 e.n)) Q)
      -∗ WP defs₀ c (.op (.load (Memref.whole main_v23) (Rect.unit (s := S1) ![0] S1.size h').toLoadRect hl) k) Q) := by
  unfold TT
  rw [← h.hn]
  iintro ⟨HE, Hn, HR⟩ Hk
  iapply (read_main_v23 c) $$ Hn
  iintro Hn
  iapply Hk
  isplitl [HE]; · iexact HE
  isplitl [Hn]; · iexact Hn
  iexact HR

theorem table_S {Q : α → sProp 𝕄} (c : Dev nD) (e : Env F) (h : e.OK) (t : ℕ) (ht : t < 288)
    {o : Fin 1 → ℕ} (ho : o = ![t]) {h' hl} {k : (S1.Idx → Elt F .i32) → Prog (TpuEff nD τ sig (Elt F) Λ₀ .tc) α} :
    TT c e ⊢ iprop((TT c e -∗ WP defs₀ c (k (fun _ => w32 (e.S t))) Q)
      -∗ WP defs₀ c (.op (.load (Memref.whole main_v50) (Rect.unit (s := S288) o S1.size h').toLoadRect hl) k) Q) := by
  unfold TT
  rw [← h.hS t ht]
  iintro ⟨HE, Hn, HS, HW⟩ Hk
  iapply (read_main_v50 c t ht ho) $$ HS
  iintro HS
  iapply Hk
  isplitl [HE]; · iexact HE
  isplitl [Hn]; · iexact Hn
  isplitl [HS]; · iexact HS
  iexact HW

theorem table_W {Q : α → sProp 𝕄} (c : Dev nD) (e : Env F) (h : e.OK) (t : ℕ) (ht : t < 288)
    {o : Fin 1 → ℕ} (ho : o = ![t]) {h' hl} {k : (S1.Idx → Elt F .i32) → Prog (TpuEff nD τ sig (Elt F) Λ₀ .tc) α} :
    TT c e ⊢ iprop((TT c e -∗ WP defs₀ c (k (fun _ => w32 (e.W t))) Q)
      -∗ WP defs₀ c (.op (.load (Memref.whole main_v52) (Rect.unit (s := S288) o S1.size h').toLoadRect hl) k) Q) := by
  unfold TT
  rw [← h.hW t ht]
  iintro ⟨HE, Hn, HS, HW⟩ Hk
  iapply (read_main_v52 c t ht ho) $$ HW
  iintro HW
  iapply Hk
  isplitl [HE]; · iexact HE
  isplitl [Hn]; · iexact Hn
  isplitl [HS]; · iexact HS
  iexact HW

theorem lt32 {x : ℕ} (h : x ≤ 32) : x < 2 ^ 32 := lt_of_le_of_lt h (by decide)

set_option maxHeartbeats 4000000 in
theorem part5_ok (c : Dev nD) (e : Env F) (h : e.OK) (i : grid0.Coords) (t : ℕ)
    (arg0 : BitVec 32) (v0 : Elt F .i32) (k0_h1 : k0_cond1 i v0 = 1#1) (hw : k0_chk8 i v0 (w32 (e.E t)))
    (v66 : FVec F S256x1024 .bf16) (v74 : FVec F S256x1024 .f32) (v75 : Vec F S1024x1024 .bf16) (cst : FVec F S256x1024 .f32)
    {Q : FVec F S256x1024 .f32 → sProp 𝕄} :
    iprop(BB c e ∗ BS c e (e.E t)) ⊢ iprop((iprop(BB c e ∗ BS c e (e.E t)) -∗
        Q (k0_pay7 v66 v74 v75 cst (brow e.bu (e.E t) (h.E_lt t)) (dv e (e.E t)) (brow e.bd (e.E t) (h.E_lt t))))
      -∗ WP defs₀ c (k0_part5 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 v0 k0_h1 v66 (w32 (e.E t)) hw v74 v75 cst) Q) := by
  have hE := h.E_lt t
  have ho : k0_off33 (w32 (e.E t)) = ![e.E t, 0] := off33_eq (by omega)
  rw [k0_part5_eq_skeleton]
  unfold k0_part5_skel
  simp only [Prog.lift, Prog.bind_op, Prog.bind_ret, Prog.pure_eq_ret]
  unfold BB BS
  iintro ⟨⟨H0, H1, H2⟩, H8, H9, H10⟩ Hk
  iapply (read_cc0_stg1_0 c (e.E t) hE ho) $$ H1
  iintro H1
  iapply (read_cc0_scratch10 c) $$ H10
  iintro H10
  iapply (read_cc0_stg2_0 c (e.E t) hE ho) $$ H2
  iintro H2
  iapply ret_ok
  iapply Hk
  isplitl [H0 H1 H2]
  · isplitl [H0]; · iexact H0
    isplitl [H1]; · iexact H1
    iexact H2
  isplitl [H8]; · iexact H8
  isplitl [H9]; · iexact H9
  iexact H10

set_option maxHeartbeats 4000000 in
theorem part4_ok (c : Dev nD) (e : Env F) (h : e.OK) (i : grid0.Coords) (t : ℕ) (ht : (i 0).val = t) (htn : t < e.n)
    (arg0 : BitVec 32) (v0 : Elt F .i32) (k0_h1 : k0_cond1 i v0 = 1#1) (v38 v39 : BitVec 32)
    {Q : (Σ' (v66 : FVec F S256x1024 .bf16) (v68 : Elt F .i32) (k0_hw8 : k0_chk8 i v0 v68) (v74 : FVec F S256x1024 .f32) (v75 : Vec F S1024x1024 .bf16), FVec F S256x1024 .f32) → sProp 𝕄} :
    iprop(XM c e t ∗ Ow c ∗ TT c e ∗ BB c e ∗ BS c e (e.E t)) ⊢ iprop((iprop(XSt c e (t + 1) ∗ Ow c ∗ TT c e ∗ BB c e ∗ BS c e (e.E t)) -∗
        Q ⟨xv e t, w32 (e.E t), chk8_of i v0 (h.E_lt t), gate (xv e t) (gv e (e.E t)) (brow e.bg (e.E t) (h.E_lt t)), uv e (e.E t), constant S256x1024 .f32 0x00000000#32⟩)
      -∗ WP defs₀ c (k0_part4 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 v0 k0_h1 v38 v39) Q) := by
  have hE := h.E_lt t
  have hn := h.nle
  have hm : t % 288 = t := Nat.mod_eq_of_lt (by omega)
  have ho : k0_off33 (w32 (e.E t)) = ![e.E t, 0] := off33_eq (by omega)
  rw [k0_part4_eq_skeleton]
  unfold k0_part4_skel
  simp only [smemLoad, smemLoadElt, Prog.lift, Prog.bind_op, Prog.bind_ret, Prog.pure_eq_ret]
  iintro ⟨HX, Ho, HT, HB, HS⟩ Hk
  iapply (x_take c e t (by omega) (by rw [off28_eq, ht]) (by rw [off29_eq, ht]) (by rw [k0_off30_eq, ht, hm])) $$ [HX Ho]
  · isplitl [HX]; · iexact HX
    iexact Ho
  iintro ⟨Hx, HC, Ho⟩
  iapply (rows_read c Bx t (by rw [off31_eq, ht])) $$ Hx
  iintro %x %hx Hx
  iapply (table_E c e h t (by omega) (by rw [k0_off32_eq, ht])) $$ HT
  iintro HT
  iapply (assume_ok (chk8_of i v0 (h.E_lt t)))
  unfold BB BS
  icases HB with ⟨H0, H1, H2⟩
  icases HS with ⟨H8, H9, H10⟩
  iapply (read_cc0_scratch8 c) $$ H8
  iintro H8
  iapply (read_cc0_stg0_0 c (e.E t) hE ho) $$ H0
  iintro H0
  iapply (read_cc0_scratch9 c) $$ H9
  iintro H9
  iapply ret_ok
  have h5 : k0_pay5 x = xv e t := by unfold k0_pay5 xv; rw [hx]
  have h6 : k0_pay6 x (gv e (e.E t)) (brow e.bg (e.E t) (h.E_lt t)) = gate (xv e t) (gv e (e.E t)) (brow e.bg (e.E t) (h.E_lt t)) := by
    rw [← h5]; rfl
  rw [h5, h6]
  iapply Hk
  isplitl [Hx HC]
  · iapply (x_close c e t)
    isplitl [Hx]; · iexact Hx
    iexact HC
  isplitl [Ho]; · iexact Ho
  isplitl [HT]; · iexact HT
  isplitl [H0 H1 H2]
  · isplitl [H0]; · iexact H0
    isplitl [H1]; · iexact H1
    iexact H2
  isplitl [H8]; · iexact H8
  isplitl [H9]; · iexact H9
  iexact H10

end Cert.KernelIdeal.Own
-- ==== Proof.Body2.lean ====
/-
  A step's transfers: the weights of an expert met for the first time, the next block's rows, and the last step's.
-/
module

public import proofs.«01_k».proof.Proof.Body1

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

set_option maxHeartbeats 4000000 in
theorem part1_ok (c : Dev nD) (e : Env F) (h : e.OK) (i : grid0.Coords) (t : ℕ) (ht : (i 0).val = t) (htn : t < e.n)
    (arg0 : BitVec 32) (v0 : Elt F .i32) (k0_h1 : k0_cond1 i v0 = 1#1) (v13 v17 : Elt F .i32) (k0_h4 : k0_cond4 i v13 v17 = 1#1)
    {Q : (Σ' (v152 : Elt F .i32), k0_chk4 i v0 v13 v17 v152) → sProp 𝕄} :
    iprop(WF c e (e.E t) (e.S t) 0 ∗ WO c (e.S t + 1) ∗ Ow c ∗ TT c e ∗ (∃ f, (c : Thread nD τ).loc cc0_scratch8 ↦{fullShare} f))
      ⊢ iprop((iprop(WH c e (e.E t) (e.S t) ∗ WG c e (e.W t) (e.S t + 1) ∗ Ow c ∗ TT c e ∗ ((c : Thread nD τ).loc cc0_scratch8 ↦{fullShare} gv e (e.E t))) -∗
        Q ⟨w32 (e.S t), chk4_of i v0 v13 v17 (h.S_lt t)⟩)
      -∗ WP defs₀ c (k0_part1 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 v0 k0_h1 v13 v17 k0_h4) Q) := by
  have hE := h.E_lt t
  have hS := h.S_lt t
  have hW := h.W_le t
  have hn := h.nle
  have hs2 : e.S t % 2 = e.S t := Nat.mod_eq_of_lt hS
  have hs3 : (e.S t + 1) % 2 = 1 - e.S t := by omega
  have he3 : e.E t % 32 = e.E t := Nat.mod_eq_of_lt hE
  have hS' : e.S t < 2 ^ 32 := by omega
  have hE' : e.E t < 2 ^ 32 := by omega
  rw [k0_part1_eq_skeleton]
  unfold k0_part1_skel
  simp only [smemLoad, smemLoadElt, Prog.lift, Prog.bind_op, Prog.bind_ret, Prog.pure_eq_ret]
  iintro ⟨HF, HO, Ho, HT, ⟨%f8, H8⟩⟩ Hk
  iapply (table_S c e h t (by omega) (by rw [k0_off11_eq, ht])) $$ HT
  iintro HT
  iapply (assume_ok (chk4_of i v0 v13 v17 hS))
  iapply (table_E c e h t (by omega) (by rw [k0_off11_eq, ht])) $$ HT
  iintro HT
  iapply (assume_ok (chk5_of i v0 v13 v17 hE))
  iapply (w_wait0 c e (e.E t) (e.S t) (by rw [hs2]; exact off12_eq hS') (by rw [hs2]; exact off13_eq hS') (by rw [he3]; exact off14_eq hE')) $$ [HF Ho]
  · isplitl [HF]; · iexact HF
    iexact Ho
  iintro ⟨HF, Ho⟩
  iapply (w_wait1 c e (e.E t) (e.S t) (by rw [hs2]; exact off15_eq hS') (by rw [hs2]; exact off16_eq hS') (by rw [he3]; exact off14_eq hE')) $$ [HF Ho]
  · isplitl [HF]; · iexact HF
    iexact Ho
  iintro ⟨HF, Ho⟩
  iapply (w_wait2 c e (e.E t) (e.S t) (by rw [hs2]; exact off15_eq hS') (by rw [hs2]; exact off16_eq hS') (by rw [he3]; exact off14_eq hE')) $$ [HF Ho]
  · isplitl [HF]; · iexact HF
    iexact Ho
  iintro ⟨HH, HW, Ho⟩
  iapply (table_W c e h t (by omega) (by rw [k0_off17_eq, ht])) $$ HT
  iintro HT
  iapply (assume_ok (chk6_of i v0 v13 v17 (w32 (e.W t)) hS))
  iapply (join_ok iprop(WG c e (e.W t) (e.S t + 1) ∗ TT c e)) $$ [HO HW HT]
  · iintro Hj
    unfold WG
    by_cases hw : e.W t < 32
    · have hw3 : e.W t % 32 = e.W t := Nat.mod_eq_of_lt hw
      rw [if_pos hw]
      iapply (dite_pos ((cond5_iff hW).mpr hw))
      iapply (table_W c e h t (by omega) (by rw [k0_off18_eq, ht])) $$ HT
      iintro HT
      iapply (assume_ok (chk7_of i v0 v13 v17 hW (e := e.W t) id (by omega)))
      iapply (w_start0 c e (e.W t) (e.S t + 1) (by rw [hs3]; exact off19_eq hS) (by rw [hs3]; exact off20_eq hS) (by rw [hw3]; exact off21_eq (by omega))) $$ [HO HW]
      · isplitl [HO]; · iexact HO
        iexact HW
      iintro HF
      iapply (w_start1 c e (e.W t) (e.S t + 1) (by rw [hs3]; exact off22_eq hS) (by rw [hs3]; exact off23_eq hS) (by rw [hw3]; exact off21_eq (by omega))) $$ HF
      iintro HF
      iapply (w_start2 c e (e.W t) (e.S t + 1) (by rw [hs3]; exact off22_eq hS) (by rw [hs3]; exact off23_eq hS) (by rw [hw3]; exact off21_eq (by omega))) $$ HF
      iintro HF
      iapply Hj
      isplitl [HF]; · iexact HF
      iexact HT
    · rw [if_neg hw]
      iapply (dite_neg (mt (cond5_iff hW).mp hw))
      iapply Hj
      isplitl [HO HW]
      · isplitl [HO]; · iexact HO
        iexact HW
      iexact HT
  iintro ⟨HG, HT⟩
  unfold WH
  icases HH with ⟨Hg, HH⟩
  iapply (weights_read c Bg (e.S t) (by rw [hs2]; exact off24_eq hS')) $$ Hg
  iintro %x %hx Hg
  iapply (read_cc0_scratch8 c) $$ H8
  iintro H8
  iapply (write_cc0_scratch8 c) $$ H8
  iintro H8
  iapply ret_ok
  have hp : k0_pay1 x = gv e (e.E t) := by
    unfold k0_pay1 gv
    dsimp only
    rw [shapeCast_self, hx]
  rw [hp]
  iapply Hk
  isplitl [Hg HH]
  · isplitl [Hg]; · iexact Hg
    iexact HH
  isplitl [HG]; · iexact HG
  isplitl [Ho]; · iexact Ho
  isplitl [HT]; · iexact HT
  iexact H8

set_option maxHeartbeats 4000000 in
theorem part2_ok (c : Dev nD) (e : Env F) (h : e.OK) (i : grid0.Coords) (t : ℕ) (ht : (i 0).val = t) (htn : t < e.n)
    (arg0 : BitVec 32) {Q : FVec F S1x256x1024 .f32 → sProp 𝕄} :
    iprop(YN c e h t ∗ Ow c) ⊢ iprop((iprop(Y2 c e h (t + 1) ∗ Ow c) -∗ Q k0_pay2)
      -∗ WP defs₀ c (k0_part2 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0) Q) := by
  have hn := h.nle
  have hm : t % 288 = t := Nat.mod_eq_of_lt (by omega)
  rw [k0_part2_eq_skeleton]
  unfold k0_part2_skel
  simp only [smemLoad, smemLoadElt, Prog.lift, Prog.bind_op, Prog.bind_ret, Prog.pure_eq_ret]
  iintro ⟨HY, Ho⟩ Hk
  iapply (y_last c e h t (by rw [off38_eq, ht]) (by rw [off40_eq, ht]) (by rw [k0_off39_eq, ht, hm])) $$ [HY Ho]
  · isplitl [HY]; · iexact HY
    iexact Ho
  iintro ⟨HY, Ho⟩
  iapply (join_ok iprop(Y2 c e h (t + 1) ∗ Ow c)) $$ [HY Ho]
  · iintro Hj
    by_cases h1t : 1 ≤ t
    · have hm1 : (t - 1) % 288 = t - 1 := Nat.mod_eq_of_lt (by omega)
      iapply (dite_pos ((cond8_iff i).mpr (ht ▸ h1t)))
      iapply (y_last2 c e h t h1t (by rw [off41_eq i (ht ▸ h1t), ht]) (by rw [off43_eq i (ht ▸ h1t), ht]) (by rw [off42_eq i (ht ▸ h1t), ht, hm1])) $$ [HY Ho]
      · isplitl [HY]; · iexact HY
        iexact Ho
      iintro ⟨HY, Ho⟩
      iapply Hj
      isplitl [HY]; · iexact HY
      iexact Ho
    · iapply (dite_neg (mt (cond8_iff i).mp (ht ▸ h1t)))
      iapply Hj
      isplitl [HY]; · iapply (y_last2' c e h t h1t) $$ HY
      iexact Ho
  iintro ⟨HY, Ho⟩
  unfold Y2 YO
  icases HY with ⟨⟨Hf, Hs⟩, HY⟩
  iapply (rows_peek c By 0 rfl) $$ Hf
  iintro %_ Hf
  iapply ret_ok
  iapply Hk
  isplitr [Ho]
  · isplitl [Hf Hs]
    · isplitl [Hf]; · iexact Hf
      iexact Hs
    iexact HY
  iexact Ho

end Cert.KernelIdeal.Own
-- ==== Proof.Body3.lean ====
/-
  A step.
-/
module

public import proofs.«01_k».proof.Proof.Body2

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

theorem XSt_zero (c : Dev nD) (e : Env F) : XSt c e 0 ⊢ (X0 c e : sProp 𝕄) := by
  unfold XSt; rw [if_neg (fun h => Nat.lt_irrefl _ h.1)]

theorem XSt_pos (c : Dev nD) (e : Env F) (t : ℕ) (h : 0 < t) (hn : t < e.n) : XSt c e t ⊢ (XA c e t : sProp 𝕄) := by
  unfold XSt; rw [if_pos ⟨h, hn⟩]

theorem WK_pos (c : Dev nD) (e : Env F) (t : ℕ) (h : t = 0 ∨ e.E t ≠ e.E (t - 1)) :
    WK c e t ⊢ (iprop(WF c e (e.E t) (e.S t) 0 ∗ WO c (e.S t + 1)) : sProp 𝕄) := by
  unfold WK; rw [if_pos h]

theorem WK_neg (c : Dev nD) (e : Env F) (t : ℕ) (h : ¬ (t = 0 ∨ e.E t ≠ e.E (t - 1))) : WK c e t ⊢ (WT c e (t + 1) : sProp 𝕄) := by
  unfold WK; rw [if_neg h]

set_option maxHeartbeats 8000000 in
theorem part3_ok (c : Dev nD) (e : Env F) (h : e.OK) (i : grid0.Coords) (t : ℕ) (ht : (i 0).val = t) (htn : t < e.n)
    (arg0 : BitVec 32) (k0_hw3 : k0_chk3 i (w32 e.n)) (k0_h1 : k0_cond1 i (w32 e.n) = 1#1)
    {Q : (Σ' (v38 : BitVec 32), BitVec 32) → sProp 𝕄} :
    iprop(XSt c e t ∗ WT c e t ∗ BT c e t ∗ YSt c e h t ∗ Ow c ∗ TT c e)
      ⊢ iprop((∀ a b, iprop(XM c e t ∗ WT c e (t + 1) ∗ BS c e (e.E t) ∗ YM c e h t ∗ Ow c ∗ TT c e) -∗ Q ⟨a, b⟩)
      -∗ WP defs₀ c (k0_part3 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1) Q) := by
  have hn := h.nle
  rw [k0_part3_eq_skeleton]
  unfold k0_part3_skel
  simp only [smemLoad, smemLoadElt, Prog.lift, Prog.bind_op, Prog.bind_ret, Prog.pure_eq_ret]
  iintro ⟨HX, HW, HB, HY, Ho, HT⟩ Hk
  iapply (join_ok iprop(XA c e t ∗ WK c e t ∗ TT c e)) $$ [HX HW HT]
  · iintro Hj
    by_cases h0 : t = 0
    · have hE := h.E_lt 0
      have hS := h.S_lt 0
      have hs2 : e.S 0 % 2 = e.S 0 := Nat.mod_eq_of_lt hS
      have he3 : e.E 0 % 32 = e.E 0 := Nat.mod_eq_of_lt hE
      have hS' : e.S 0 < 2 ^ 32 := by omega
      have hE' : e.E 0 < 2 ^ 32 := by omega
      subst h0
      iapply (dite_pos ((cond2_iff i).mpr ht))
      ihave HX := (XSt_zero c e) $$ HX
      iapply (x_first c e rfl rfl rfl) $$ HX
      iintro HX
      iapply (table_E c e h 0 (by omega) rfl) $$ HT
      iintro HT
      iapply (assume_ok (chk2_of i (w32 e.n) hE))
      iapply (table_S c e h 0 (by omega) rfl) $$ HT
      iintro HT
      iapply (assume_ok (chk1_of i (w32 e.n) hS))
      ihave HW := (w_first c e h 0 rfl) $$ HW
      icases HW with ⟨H0, HA, H1⟩
      iapply (w_start0 c e (e.E 0) (e.S 0) (by rw [hs2]; exact off1_eq hS') (by rw [hs2]; exact off2_eq hS') (by rw [he3]; exact off3_eq hE')) $$ [H0 HA]
      · isplitl [H0]; · iexact H0
        iexact HA
      iintro HF
      iapply (w_start1 c e (e.E 0) (e.S 0) (by rw [hs2]; exact off4_eq hS') (by rw [hs2]; exact off5_eq hS') (by rw [he3]; exact off3_eq hE')) $$ HF
      iintro HF
      iapply (w_start2 c e (e.E 0) (e.S 0) (by rw [hs2]; exact off4_eq hS') (by rw [hs2]; exact off5_eq hS') (by rw [he3]; exact off3_eq hE')) $$ HF
      iintro HF
      iapply Hj
      isplitl [HX]; · iexact HX
      isplitr [HT]
      · iapply (w_first' c e 0 rfl)
        isplitl [HF]; · iexact HF
        iexact H1
      iexact HT
    · iapply (dite_neg (fun hc => h0 (ht ▸ (cond2_iff i).mp hc)))
      iapply Hj
      isplitl [HX]; · iapply (XSt_pos c e t (by omega) htn) $$ HX
      isplitl [HW]; · iapply (w_later c e h t h0 htn) $$ HW
      iexact HT
  iintro ⟨HX, HW, HT⟩
  iapply (join_ok iprop(XM c e t)) $$ [HX]
  · iintro Hj
    unfold XM
    by_cases h3 : t + 1 < e.n
    · rw [if_pos h3]
      iapply (dite_pos ((cond3_iff i hn).mpr (ht.symm ▸ h3)))
      iapply (x_next c e t (by omega) (by rw [off6_eq, ht]) (by rw [off7_eq, ht]) (by rw [off8_eq, ht, Nat.mod_eq_of_lt (show t + 1 < 288 by omega)])) $$ HX
      iintro HX
      iapply Hj $$ HX
    · rw [if_neg h3]
      iapply (dite_neg (fun hc => h3 (ht ▸ (cond3_iff i hn).mp hc)))
      iapply Hj $$ HX
  iintro HX
  iapply (table_E c e h t (by omega) (by rw [k0_off9_eq, ht])) $$ HT
  iintro HT
  iapply (table_E c e h (t - 1) (by omega) (by rw [off10_eq, ht])) $$ HT
  iintro HT
  iapply (join_ok iprop(WT c e (t + 1) ∗ BS c e (e.E t) ∗ Ow c ∗ TT c e)) $$ [HW HB Ho HT]
  · iintro Hj
    have hc4 := cond4_iff i (h.E_lt t) (h.E_lt (t - 1))
    rw [ht] at hc4
    have hS := h.S_lt t
    have hs2 : e.S t % 2 = e.S t := Nat.mod_eq_of_lt hS
    have hS' : e.S t < 2 ^ 32 := by omega
    by_cases h4 : t = 0 ∨ e.E t ≠ e.E (t - 1)
    · ihave HW := (WK_pos c e t h4) $$ HW
      iapply (dite_pos (hc4.mpr h4))
      icases HW with ⟨HF, HO⟩
      ihave HB := (BA_of_BT c e t) $$ HB
      unfold BA
      icases HB with ⟨H8, ⟨%f9, H9⟩, ⟨%f10, H10⟩⟩
      iapply bind_ok
      iapply (part1_ok c e h i t ht htn) $$ [HF HO Ho HT H8]
      · isplitl [HF]; · iexact HF
        isplitl [HO]; · iexact HO
        isplitl [Ho]; · iexact Ho
        isplitl [HT]; · iexact HT
        iexact H8
      iintro ⟨HH, HG, Ho, HT, H8⟩
      unfold WH
      icases HH with ⟨Hg, Hu, Hd, Hs⟩
      iapply (weights_read c Bu (e.S t) (by rw [hs2]; exact off24_eq hS')) $$ Hu
      iintro %x %hx Hu
      iapply (read_cc0_scratch9 c) $$ H9
      iintro H9
      iapply (write_cc0_scratch9 c) $$ H9
      iintro H9
      iapply (weights_read c Bd (e.S t) (by rw [hs2]; exact off24_eq hS')) $$ Hd
      iintro %y %hy Hd
      iapply (read_cc0_scratch10 c) $$ H10
      iintro H10
      iapply (write_cc0_scratch10 c) $$ H10
      iintro H10
      iapply Hj
      have hu : k0_pay3 x = uv e (e.E t) := by
        unfold k0_pay3 uv
        dsimp only
        rw [shapeCast_self, hx]
      have hd : k0_pay4 y = dv e (e.E t) := by
        unfold k0_pay4 dv
        dsimp only
        rw [shapeCast_self, hy]
      rw [hu, hd]
      isplitl [Hg Hu Hd Hs HG]
      · iapply (w_close c e t)
        unfold WH
        isplitl [Hg Hu Hd Hs]
        · isplitl [Hg]; · iexact Hg
          isplitl [Hu]; · iexact Hu
          isplitl [Hd]; · iexact Hd
          iexact Hs
        iexact HG
      isplitl [H8 H9 H10]
      · unfold BS
        isplitl [H8]; · iexact H8
        isplitl [H9]; · iexact H9
        iexact H10
      isplitl [Ho]; · iexact Ho
      iexact HT
    · ihave HW := (WK_neg c e t h4) $$ HW
      iapply (dite_neg (mt hc4.mp h4))
      iapply Hj
      isplitl [HW]; · iexact HW
      isplitl [HB]; · iapply (BT_kept c e t h4) $$ HB
      isplitl [Ho]; · iexact Ho
      iexact HT
  iintro ⟨HW, HB, Ho, HT⟩
  iapply (join_ok iprop(YM c e h t ∗ Ow c)) $$ [HY Ho]
  · iintro Hj
    by_cases h6 : 2 ≤ t
    · have h6' : 2 ≤ (i 0).val := ht.symm ▸ h6
      iapply (dite_pos ((cond6_iff i).mpr h6'))
      iapply (y_old c e h t h6 htn (by rw [off25_eq i h6', ht]; congr 1; omega) (by rw [off27_eq i h6', ht]; congr 1; omega)
        (by rw [off26_eq i h6', ht, Nat.mod_eq_of_lt (show t - 2 < 288 by omega)])) $$ [HY Ho]
      · isplitl [HY]; · iexact HY
        iexact Ho
      iintro ⟨HY, Ho⟩
      iapply Hj
      isplitl [HY]; · iexact HY
      iexact Ho
    · iapply (dite_neg (fun hc => h6 (ht ▸ (cond6_iff i).mp hc)))
      iapply Hj
      isplitl [HY]; · iapply (y_new c e h t h6 htn) $$ HY
      iexact Ho
  iintro ⟨HY, Ho⟩
  iapply ret_ok
  iapply Hk
  isplitl [HX]; · iexact HX
  isplitl [HW]; · iexact HW
  isplitl [HB]; · iexact HB
  isplitl [HY]; · iexact HY
  isplitl [Ho]; · iexact Ho
  iexact HT

end Cert.KernelIdeal.Own
-- ==== Proof.Body4.lean ====
/-
  The two loops of the last step, and a step whole.
-/
module

public import proofs.«01_k».proof.Proof.Body3

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {α : Type}

set_option maxHeartbeats 4000000 in
theorem starts_ok {Q : α → sProp 𝕄} (c : Dev nD) (e : Env F) (h : e.OK) (i : grid0.Coords)
    (f : Buf (Elt F) ((xs By 0).view.loc (c : Thread nD τ))) (hf : (xs By 0).view.read (Elt F) f = constant S256x1024 .f32 0x00000000#32)
    (arg0 : BitVec 32) (k0_hw3 : k0_chk3 i (w32 e.n)) (k0_h1 : k0_cond1 i (w32 e.n) = 1#1) (k0_h7 : k0_cond7 i (w32 e.n) = 1#1)
    {hok : (k0_t1_loop (w32 e.n)).OK} {kk : Unit → Prog (TpuEff nD τ sig (Elt F) Λ₀ .tc) α} :
    ZS c e h f (288 - e.n) 0 ⊢ iprop((ZS c e h f (288 - e.n) (288 - e.n) -∗ WP defs₀ c (kk ()) Q)
      -∗ WP defs₀ c (Scf.Loop.for (k0_t1_loop (w32 e.n)) hok () (k0_t1_body i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1 k0_h7) >>= kk) Q) := by
  have hn := h.nle
  have htr := t1_trips e.n hn
  have hb : ∀ (k : Fin (k0_t1_loop (w32 e.n)).trips) (acc : Unit), ZS c e h f (288 - e.n) k.val
      ⊢ WP defs₀ c (k0_t1_body i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1 k0_h7 k acc) (fun _ => ZS c e h f (288 - e.n) (k.val + 1)) := by
    intro k acc
    have hk : k.val < 288 - e.n := lt_of_lt_of_eq k.isLt htr
    unfold k0_t1_body
    simp only [Prog.lift, Prog.bind_op, Prog.bind_ret, Prog.pure_eq_ret]
    iintro HZ
    iapply (z_start c e h f hf k.val (e.n + k.val) hk rfl rfl rfl
      (by rw [off44_eq hn k, Nat.mod_eq_of_lt (show e.n + k.val < 288 by omega)])) $$ HZ
    iintro HZ
    iapply ret_ok
    iexact HZ
  iintro HZ Hk
  iapply (Scf.wp_for_bind frame (wpE defs₀ 𝒱₀ (c : Thread nD τ) none) Set.univ (k0_t1_loop (w32 e.n)).lb (k0_t1_loop (w32 e.n)).ub (k0_t1_loop (w32 e.n)).st
    hok () _ (fun k _ => ZS c e h f (288 - e.n) k) hb) $$ HZ
  iintro %acc HZ
  iapply Hk
  iapply (Entails.of_eq (congrArg (ZS c e h f (288 - e.n)) htr)) $$ HZ

set_option maxHeartbeats 4000000 in
theorem waits_ok {Q : α → sProp 𝕄} (c : Dev nD) (e : Env F) (h : e.OK) (i : grid0.Coords)
    (f : Buf (Elt F) ((xs By 0).view.loc (c : Thread nD τ)))
    (arg0 : BitVec 32) (k0_hw3 : k0_chk3 i (w32 e.n)) (k0_h1 : k0_cond1 i (w32 e.n) = 1#1) (k0_h7 : k0_cond7 i (w32 e.n) = 1#1)
    {hok : (k0_t3_loop (w32 e.n)).OK} {kk : Unit → Prog (TpuEff nD τ sig (Elt F) Λ₀ .tc) α} :
    ZW c e h f (288 - e.n) 0 ⊢ iprop((ZW c e h f (288 - e.n) (288 - e.n) -∗ WP defs₀ c (kk ()) Q)
      -∗ WP defs₀ c (Scf.Loop.for (k0_t3_loop (w32 e.n)) hok () (k0_t3_body i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1 k0_h7) >>= kk) Q) := by
  have hn := h.nle
  have htr := t3_trips e.n hn
  have hb : ∀ (k : Fin (k0_t3_loop (w32 e.n)).trips) (acc : Unit), ZW c e h f (288 - e.n) k.val
      ⊢ WP defs₀ c (k0_t3_body i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1 k0_h7 k acc) (fun _ => ZW c e h f (288 - e.n) (k.val + 1)) := by
    intro k acc
    have hk : k.val < 288 - e.n := lt_of_lt_of_eq k.isLt htr
    unfold k0_t3_body
    simp only [Prog.lift, Prog.bind_op, Prog.bind_ret, Prog.pure_eq_ret]
    iintro HZ
    iapply (z_wait c e h f k.val (e.n + k.val) hk rfl rfl
      (by rw [off46_eq hn k, Nat.mod_eq_of_lt (show e.n + k.val < 288 by omega)])) $$ HZ
    iintro HZ
    iapply ret_ok
    iexact HZ
  iintro HZ Hk
  iapply (Scf.wp_for_bind frame (wpE defs₀ 𝒱₀ (c : Thread nD τ) none) Set.univ (k0_t3_loop (w32 e.n)).lb (k0_t3_loop (w32 e.n)).ub (k0_t3_loop (w32 e.n)).st
    hok () _ (fun k _ => ZW c e h f (288 - e.n) k) hb) $$ HZ
  iintro %acc HZ
  iapply Hk
  iapply (Entails.of_eq (congrArg (ZW c e h f (288 - e.n)) htr)) $$ HZ

theorem none_ok {Q : α → sProp 𝕄} (c : Dev nD) {l : Scf.Loop 32} {hok : l.OK} (hl : l.trips = 0) {body : Fin l.trips → Unit → Prog (TpuEff nD τ sig (Elt F) Λ₀ .tc) Unit}
    {kk : Unit → Prog (TpuEff nD τ sig (Elt F) Λ₀ .tc) α} : WP defs₀ c (kk ()) Q ⊢ WP defs₀ c (Scf.Loop.for l hok () body >>= kk) Q :=
  Scf.wp_for0_bind' frame (wpE defs₀ 𝒱₀ (c : Thread nD τ) none) Set.univ l.lb l.ub l.st hok () body hl kk Q _ Entails.refl

set_option maxHeartbeats 8000000 in
theorem part6_ok (c : Dev nD) (e : Env F) (h : e.OK) (i : grid0.Coords) (t : ℕ) (ht : (i 0).val = t) (htn : t < e.n)
    (arg0 : BitVec 32) (k0_hw3 : k0_chk3 i (w32 e.n)) (k0_h1 : k0_cond1 i (w32 e.n) = 1#1) {Q : Unit → sProp 𝕄} :
    iprop(XSt c e t ∗ WT c e t ∗ BT c e t ∗ YSt c e h t ∗ Ow c ∗ TT c e ∗ BB c e)
      ⊢ iprop((iprop(XSt c e (t + 1) ∗ WT c e (t + 1) ∗ BT c e (t + 1) ∗ YSt c e h (t + 1) ∗ Ow c ∗ TT c e ∗ BB c e) -∗ Q ())
      -∗ WP defs₀ c (k0_part6 i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _) arg0 (w32 e.n) k0_hw3 k0_h1) Q) := by
  have hn := h.nle
  have hm : t % 288 = t := Nat.mod_eq_of_lt (by omega)
  rw [k0_part6_eq_skeleton]
  unfold k0_part6_skel
  simp only [Prog.lift, Prog.bind_op, Prog.bind_ret, Prog.pure_eq_ret]
  iintro ⟨HX, HW, HB, HY, Ho, HT, HS⟩ Hk
  iapply bind_ok
  iapply (part3_ok c e h i t ht htn) $$ [HX HW HB HY Ho HT]
  · isplitl [HX]; · iexact HX
    isplitl [HW]; · iexact HW
    isplitl [HB]; · iexact HB
    isplitl [HY]; · iexact HY
    isplitl [Ho]; · iexact Ho
    iexact HT
  iintro %a %b ⟨HX, HW, HB, HY, Ho, HT⟩
  dsimp only
  iapply bind_ok
  iapply (part4_ok c e h i t ht htn) $$ [HX Ho HT HS HB]
  · isplitl [HX]; · iexact HX
    isplitl [Ho]; · iexact Ho
    isplitl [HT]; · iexact HT
    isplitl [HS]; · iexact HS
    iexact HB
  iintro ⟨HX, Ho, HT, HS, HB⟩
  dsimp only
  iapply bind_ok
  iapply (part5_ok c e h i t) $$ [HS HB]
  · isplitl [HS]; · iexact HS
    iexact HB
  iintro ⟨HS, HB⟩
  unfold YM YO
  icases HY with ⟨⟨Hf, Hs⟩, HQ, HP, HR⟩
  iapply (rows_peek c By t (by rw [off34_eq, ht])) $$ Hf
  iintro %_ Hf
  iapply (rows_write c By t (by rw [off34_eq, ht])) $$ Hf
  have hv : ∀ v : FVec F S256x1024 .f32, shapeCast S256x1024 (k0_pay8 v) shapeCasts_S1x256x1024_S256x1024 = v := by
    intro v
    unfold k0_pay8
    dsimp only
    rw [shapeCast_shapeCast]
  rw [hv]
  iintro Hh
  have hy : k0_pay7 (xv e t) (gate (xv e t) (gv e (e.E t)) (brow e.bg (e.E t) (h.E_lt t))) (uv e (e.E t)) (constant S256x1024 .f32 0x00000000#32)
      (brow e.bu (e.E t) (h.E_lt t)) (dv e (e.E t)) (brow e.bd (e.E t) (h.E_lt t)) = yv e h t := by
    unfold yv; rw [if_pos htn]; rfl
  iapply (y_start c e h t (by omega) (by rw [off35_eq, ht]) (by rw [off37_eq, ht]) (by rw [k0_off36_eq, ht, hm])) $$ [Hh Hs HR]
  · isplitl [Hh]; · iapply (Entails.of_eq (congrArg (holds (xs By t) c) hy)) $$ Hh
    isplitl [Hs]; · iexact Hs
    iexact HR
  iintro ⟨HF, HR⟩
  have hBT : (BT c e (t + 1) : sProp 𝕄) = BS c e (e.E t) := by unfold BT; rw [if_neg (by omega)]; rfl
  rw [hBT]
  by_cases h7 : t + 1 = e.n
  · iapply (dite_pos ((cond7_iff i h.npos hn).mpr (ht.symm ▸ h7)))
    iapply bind_ok
    iapply (part2_ok c e h i t ht htn) $$ [HF HQ HP HR Ho]
    · isplitr [Ho]
      · unfold YN
        isplitl [HF]; · iexact HF
        isplitl [HQ]; · iexact HQ
        isplitl [HP]; · iexact HP
        iexact HR
      iexact Ho
    iintro ⟨HY, Ho⟩
    unfold Y2
    icases HY with ⟨H0, H1, HP, HR⟩
    unfold YO
    icases H0 with ⟨Hf, Hs⟩
    iapply (rows_write c By 0 rfl) $$ Hf
    have hz : shapeCast S256x1024 (k0_pay2 (F := F)) shapeCasts_S1x256x1024_S256x1024 = constant S256x1024 .f32 0x00000000#32 := by
      unfold k0_pay2
      dsimp only
      rw [shapeCast_shapeCast]
      rfl
    rw [hz, h7]
    iintro Hh
    imod (z_open c e h) $$ [Hh Hs HR] with H
    · isplitl [Hh]; · iexact Hh
      isplitl [Hs]; · iexact Hs
      iexact HR
    icases H with ⟨%f, %hf, HZ, HD⟩
    iapply (starts_ok c e h i f hf) $$ HZ
    iintro HZ
    iapply (none_ok c (t2_trips e.n hn))
    ihave HZ := (z_turn c e h f) $$ [HZ Ho]
    · isplitl [HZ]; · iexact HZ
      iexact Ho
    iapply (waits_ok c e h i f) $$ HZ
    iintro HZ
    iapply (none_ok c (t4_trips e.n hn))
    imod (z_close c e h f) $$ [HZ HD H1 HP] with H
    · isplitl [HZ]; · iexact HZ
      isplitl [HD]; · iexact HD
      isplitl [H1]; · unfold YO; iexact H1
      iexact HP
    icases H with ⟨HY, Ho⟩
    iapply ret_ok
    iapply Hk
    isplitl [HX]; · iexact HX
    isplitl [HW]; · iexact HW
    isplitl [HB]; · iexact HB
    isplitl [HY]; · iexact HY
    isplitl [Ho]; · iexact Ho
    isplitl [HT]; · iexact HT
    iexact HS
  · iapply (dite_neg (fun hc => h7 (ht ▸ (cond7_iff i h.npos hn).mp hc)))
    iapply ret_ok
    iapply Hk
    isplitl [HX]; · iexact HX
    isplitl [HW]; · iexact HW
    isplitl [HB]; · iexact HB
    isplitl [HF HQ HP HR]
    · iapply (y_close c e h t (by omega))
      unfold YN
      isplitl [HF]; · iexact HF
      isplitl [HQ]; · iexact HQ
      isplitl [HP]; · iexact HP
      iexact HR
    isplitl [Ho]; · iexact Ho
    isplitl [HT]; · iexact HT
    iexact HS

end Cert.KernelIdeal.Own
-- ==== Proof.Body5.lean ====
/-
  The body whole: a step of the plan, or (past its last step) a reading of one table.
-/
module

public import proofs.«01_k».proof.Proof.Body4

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the body holds between steps, the tables apart. -/
def INV (c : Dev nD) (e : Env F) (h : e.OK) (t : ℕ) : sProp 𝕄 :=
  iprop(XSt c e t ∗ WT c e t ∗ BT c e t ∗ YSt c e h t)

set_option maxHeartbeats 4000000 in
theorem body_ok (c : Dev nD) (e : Env F) (h : e.OK) (i : grid0.Coords) (t : ℕ) (ht : (i 0).val = t) {Q : PUnit → sProp 𝕄} :
    iprop(INV c e h (min t e.n) ∗ Ow c ∗ TT c e ∗ BB c e)
      ⊢ iprop((iprop(INV c e h (min (t + 1) e.n) ∗ Ow c ∗ TT c e ∗ BB c e) -∗ Q ⟨⟩)
      -∗ WP defs₀ c (cc0_moe_experts i (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _)) Q) := by
  have hn := h.nle
  rw [cc0_moe_experts_eq_skeleton]
  unfold cc0_moe_experts_skel
  simp only [smemLoad, smemLoadElt, Prog.lift, Prog.bind_op, Prog.bind_ret, Prog.pure_eq_ret]
  iintro ⟨HI, Ho, HT, HS⟩ Hk
  iapply (table_n c e h) $$ HT
  iintro HT
  iapply (assume_ok (chk3_of i hn))
  dsimp only
  by_cases hc : t < e.n
  · iapply (dite_pos ((cond1_iff i hn).mpr (ht ▸ hc)))
    have h1 : min t e.n = t := Nat.min_eq_left (Nat.le_of_lt hc)
    have h2 : min (t + 1) e.n = t + 1 := Nat.min_eq_left hc
    ihave HI := (Entails.of_eq (congrArg (INV c e h) h1)) $$ HI
    unfold INV
    icases HI with ⟨HX, HW, HB, HY⟩
    iapply bind_ok
    iapply (part6_ok c e h i t ht hc) $$ [HX HW HB HY Ho HT HS]
    · isplitl [HX]; · iexact HX
      isplitl [HW]; · iexact HW
      isplitl [HB]; · iexact HB
      isplitl [HY]; · iexact HY
      isplitl [Ho]; · iexact Ho
      isplitl [HT]; · iexact HT
      iexact HS
    iintro ⟨HX, HW, HB, HY, Ho, HT, HS⟩
    iapply ret_ok
    iapply Hk
    isplitl [HX HW HB HY]
    · iapply (Entails.of_eq (show iprop(XSt c e (t + 1) ∗ WT c e (t + 1) ∗ BT c e (t + 1) ∗ YSt c e h (t + 1))
        = (iprop(XSt c e (min (t + 1) e.n) ∗ WT c e (min (t + 1) e.n) ∗ BT c e (min (t + 1) e.n) ∗ YSt c e h (min (t + 1) e.n)) : sProp 𝕄) by rw [h2]))
      isplitl [HX]; · iexact HX
      isplitl [HW]; · iexact HW
      isplitl [HB]; · iexact HB
      iexact HY
    isplitl [Ho]; · iexact Ho
    isplitl [HT]; · iexact HT
    iexact HS
  · iapply (dite_neg (fun hh => hc (ht ▸ (cond1_iff i hn).mp hh)))
    have h1 : min t e.n = min (t + 1) e.n := by omega
    iapply ret_ok
    iapply Hk
    isplitl [HI]; · iapply (Entails.of_eq (congrArg (INV c e h) h1)) $$ HI
    isplitl [Ho]; · iexact Ho
    isplitl [HT]; · iexact HT
    iexact HS

end Cert.KernelIdeal.Own
-- ==== Proof.Ends.lean ====
/-
  From what the launch hands over to the body's invariant, and back.
-/
module

public import proofs.«01_k».proof.Proof.Body5
public import Idealize.ShloMosaic.Lib.Pipeline.FrameSuffixV
public import Idealize.ShloMosaic.Lib.Pipeline.Frame
public import proofs.«01_k».proof.Proof.Gen.KernelIdeal.Launch

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer's two slots -/

theorem compl_cc0_scratch0 : (Finset.univ \ (xs Bx 0).view.set : Finset S2x256x1024.Idx) = (xs Bx 1).view.set := by
  ext j
  have hj : (j 0).val < 2 := (j 0).isLt
  rw [Finset.mem_sdiff]
  refine ⟨fun h => (mem_slot_cc0_scratch0 1 j).mpr ?_, fun h => ⟨Finset.mem_univ j, fun h' => ?_⟩⟩
  · have h3 : ¬ (j 0).val = 0 % 2 := fun h0 => h.2 ((mem_slot_cc0_scratch0 0 j).mpr h0)
    omega
  · have h1 := (mem_slot_cc0_scratch0 1 j).mp h
    have h2 := (mem_slot_cc0_scratch0 0 j).mp h'
    omega

theorem open_cc0_scratch0 (c : Dev nD) : (iprop(∃ f : Buf (Elt F) ((c : Thread nD τ).loc cc0_scratch0), ((c : Thread nD τ).loc cc0_scratch0) ↦{fullShare} f) : sProp 𝕄)
    ⊢ iprop(free (xs Bx 0) c ∗ free (xs Bx 1) c) := by
  iintro ⟨%f, H⟩
  ihave H := (pointsTo_split_subset (q := fullShare) (f := f) (Finset.subset_univ (xs Bx 0).view.set)).1 $$ H
  icases H with ⟨H0, H1⟩
  ihave H1 := (Entails.of_eq (congrArg (fun S => (((c : Thread nD τ).loc cc0_scratch0) ↦[S]{fullShare} f : sProp 𝕄)) (compl_cc0_scratch0))) $$ H1
  unfold free
  isplitl [H0]
  · iexists f; iexact H0
  · iexists f; iexact H1

theorem close_cc0_scratch0 (c : Dev nD) : iprop(free (xs Bx 0) c ∗ free (xs Bx 1) c)
    ⊢ (iprop(∃ f : Buf (Elt F) ((c : Thread nD τ).loc cc0_scratch0), ((c : Thread nD τ).loc cc0_scratch0) ↦{fullShare} f) : sProp 𝕄) := by
  unfold free
  iintro ⟨⟨%f, H0⟩, ⟨%g, H1⟩⟩
  iexists _
  iapply (pointsTo_join_subset (q := fullShare) (ℓ := (c : Thread nD τ).loc cc0_scratch0) (I := (xs Bx 0).view.set) (S := Finset.univ) (g := f) (f := g) (Finset.subset_univ _))
  isplitl [H0]; · iexact H0
  iapply (Entails.of_eq (congrArg (fun S => (((c : Thread nD τ).loc cc0_scratch0) ↦[S]{fullShare} g : sProp 𝕄)) (compl_cc0_scratch0).symm)) $$ H1

theorem compl_cc0_scratch1 : (Finset.univ \ (xs By 0).view.set : Finset S2x256x1024.Idx) = (xs By 1).view.set := by
  ext j
  have hj : (j 0).val < 2 := (j 0).isLt
  rw [Finset.mem_sdiff]
  refine ⟨fun h => (mem_slot_cc0_scratch1 1 j).mpr ?_, fun h => ⟨Finset.mem_univ j, fun h' => ?_⟩⟩
  · have h3 : ¬ (j 0).val = 0 % 2 := fun h0 => h.2 ((mem_slot_cc0_scratch1 0 j).mpr h0)
    omega
  · have h1 := (mem_slot_cc0_scratch1 1 j).mp h
    have h2 := (mem_slot_cc0_scratch1 0 j).mp h'
    omega

theorem open_cc0_scratch1 (c : Dev nD) : (iprop(∃ f : Buf (Elt F) ((c : Thread nD τ).loc cc0_scratch1), ((c : Thread nD τ).loc cc0_scratch1) ↦{fullShare} f) : sProp 𝕄)
    ⊢ iprop(free (xs By 0) c ∗ free (xs By 1) c) := by
  iintro ⟨%f, H⟩
  ihave H := (pointsTo_split_subset (q := fullShare) (f := f) (Finset.subset_univ (xs By 0).view.set)).1 $$ H
  icases H with ⟨H0, H1⟩
  ihave H1 := (Entails.of_eq (congrArg (fun S => (((c : Thread nD τ).loc cc0_scratch1) ↦[S]{fullShare} f : sProp 𝕄)) (compl_cc0_scratch1))) $$ H1
  unfold free
  isplitl [H0]
  · iexists f; iexact H0
  · iexists f; iexact H1

theorem close_cc0_scratch1 (c : Dev nD) : iprop(free (xs By 0) c ∗ free (xs By 1) c)
    ⊢ (iprop(∃ f : Buf (Elt F) ((c : Thread nD τ).loc cc0_scratch1), ((c : Thread nD τ).loc cc0_scratch1) ↦{fullShare} f) : sProp 𝕄) := by
  unfold free
  iintro ⟨⟨%f, H0⟩, ⟨%g, H1⟩⟩
  iexists _
  iapply (pointsTo_join_subset (q := fullShare) (ℓ := (c : Thread nD τ).loc cc0_scratch1) (I := (xs By 0).view.set) (S := Finset.univ) (g := f) (f := g) (Finset.subset_univ _))
  isplitl [H0]; · iexact H0
  iapply (Entails.of_eq (congrArg (fun S => (((c : Thread nD τ).loc cc0_scratch1) ↦[S]{fullShare} g : sProp 𝕄)) (compl_cc0_scratch1).symm)) $$ H1

theorem compl_cc0_scratch4 : (Finset.univ \ (ws Bg 0).view.set : Finset S2x1024x1024.Idx) = (ws Bg 1).view.set := by
  ext j
  have hj : (j 0).val < 2 := (j 0).isLt
  rw [Finset.mem_sdiff]
  refine ⟨fun h => (mem_slot_cc0_scratch4 1 j).mpr ?_, fun h => ⟨Finset.mem_univ j, fun h' => ?_⟩⟩
  · have h3 : ¬ (j 0).val = 0 % 2 := fun h0 => h.2 ((mem_slot_cc0_scratch4 0 j).mpr h0)
    omega
  · have h1 := (mem_slot_cc0_scratch4 1 j).mp h
    have h2 := (mem_slot_cc0_scratch4 0 j).mp h'
    omega

theorem open_cc0_scratch4 (c : Dev nD) : (iprop(∃ f : Buf (Elt F) ((c : Thread nD τ).loc cc0_scratch4), ((c : Thread nD τ).loc cc0_scratch4) ↦{fullShare} f) : sProp 𝕄)
    ⊢ iprop(free (ws Bg 0) c ∗ free (ws Bg 1) c) := by
  iintro ⟨%f, H⟩
  ihave H := (pointsTo_split_subset (q := fullShare) (f := f) (Finset.subset_univ (ws Bg 0).view.set)).1 $$ H
  icases H with ⟨H0, H1⟩
  ihave H1 := (Entails.of_eq (congrArg (fun S => (((c : Thread nD τ).loc cc0_scratch4) ↦[S]{fullShare} f : sProp 𝕄)) (compl_cc0_scratch4))) $$ H1
  unfold free
  isplitl [H0]
  · iexists f; iexact H0
  · iexists f; iexact H1

theorem close_cc0_scratch4 (c : Dev nD) : iprop(free (ws Bg 0) c ∗ free (ws Bg 1) c)
    ⊢ (iprop(∃ f : Buf (Elt F) ((c : Thread nD τ).loc cc0_scratch4), ((c : Thread nD τ).loc cc0_scratch4) ↦{fullShare} f) : sProp 𝕄) := by
  unfold free
  iintro ⟨⟨%f, H0⟩, ⟨%g, H1⟩⟩
  iexists _
  iapply (pointsTo_join_subset (q := fullShare) (ℓ := (c : Thread nD τ).loc cc0_scratch4) (I := (ws Bg 0).view.set) (S := Finset.univ) (g := f) (f := g) (Finset.subset_univ _))
  isplitl [H0]; · iexact H0
  iapply (Entails.of_eq (congrArg (fun S => (((c : Thread nD τ).loc cc0_scratch4) ↦[S]{fullShare} g : sProp 𝕄)) (compl_cc0_scratch4).symm)) $$ H1

theorem compl_cc0_scratch5 : (Finset.univ \ (ws Bu 0).view.set : Finset S2x1024x1024.Idx) = (ws Bu 1).view.set := by
  ext j
  have hj : (j 0).val < 2 := (j 0).isLt
  rw [Finset.mem_sdiff]
  refine ⟨fun h => (mem_slot_cc0_scratch5 1 j).mpr ?_, fun h => ⟨Finset.mem_univ j, fun h' => ?_⟩⟩
  · have h3 : ¬ (j 0).val = 0 % 2 := fun h0 => h.2 ((mem_slot_cc0_scratch5 0 j).mpr h0)
    omega
  · have h1 := (mem_slot_cc0_scratch5 1 j).mp h
    have h2 := (mem_slot_cc0_scratch5 0 j).mp h'
    omega

theorem open_cc0_scratch5 (c : Dev nD) : (iprop(∃ f : Buf (Elt F) ((c : Thread nD τ).loc cc0_scratch5), ((c : Thread nD τ).loc cc0_scratch5) ↦{fullShare} f) : sProp 𝕄)
    ⊢ iprop(free (ws Bu 0) c ∗ free (ws Bu 1) c) := by
  iintro ⟨%f, H⟩
  ihave H := (pointsTo_split_subset (q := fullShare) (f := f) (Finset.subset_univ (ws Bu 0).view.set)).1 $$ H
  icases H with ⟨H0, H1⟩
  ihave H1 := (Entails.of_eq (congrArg (fun S => (((c : Thread nD τ).loc cc0_scratch5) ↦[S]{fullShare} f : sProp 𝕄)) (compl_cc0_scratch5))) $$ H1
  unfold free
  isplitl [H0]
  · iexists f; iexact H0
  · iexists f; iexact H1

theorem close_cc0_scratch5 (c : Dev nD) : iprop(free (ws Bu 0) c ∗ free (ws Bu 1) c)
    ⊢ (iprop(∃ f : Buf (Elt F) ((c : Thread nD τ).loc cc0_scratch5), ((c : Thread nD τ).loc cc0_scratch5) ↦{fullShare} f) : sProp 𝕄) := by
  unfold free
  iintro ⟨⟨%f, H0⟩, ⟨%g, H1⟩⟩
  iexists _
  iapply (pointsTo_join_subset (q := fullShare) (ℓ := (c : Thread nD τ).loc cc0_scratch5) (I := (ws Bu 0).view.set) (S := Finset.univ) (g := f) (f := g) (Finset.subset_univ _))
  isplitl [H0]; · iexact H0
  iapply (Entails.of_eq (congrArg (fun S => (((c : Thread nD τ).loc cc0_scratch5) ↦[S]{fullShare} g : sProp 𝕄)) (compl_cc0_scratch5).symm)) $$ H1

theorem compl_cc0_scratch6 : (Finset.univ \ (ws Bd 0).view.set : Finset S2x1024x1024.Idx) = (ws Bd 1).view.set := by
  ext j
  have hj : (j 0).val < 2 := (j 0).isLt
  rw [Finset.mem_sdiff]
  refine ⟨fun h => (mem_slot_cc0_scratch6 1 j).mpr ?_, fun h => ⟨Finset.mem_univ j, fun h' => ?_⟩⟩
  · have h3 : ¬ (j 0).val = 0 % 2 := fun h0 => h.2 ((mem_slot_cc0_scratch6 0 j).mpr h0)
    omega
  · have h1 := (mem_slot_cc0_scratch6 1 j).mp h
    have h2 := (mem_slot_cc0_scratch6 0 j).mp h'
    omega

theorem open_cc0_scratch6 (c : Dev nD) : (iprop(∃ f : Buf (Elt F) ((c : Thread nD τ).loc cc0_scratch6), ((c : Thread nD τ).loc cc0_scratch6) ↦{fullShare} f) : sProp 𝕄)
    ⊢ iprop(free (ws Bd 0) c ∗ free (ws Bd 1) c) := by
  iintro ⟨%f, H⟩
  ihave H := (pointsTo_split_subset (q := fullShare) (f := f) (Finset.subset_univ (ws Bd 0).view.set)).1 $$ H
  icases H with ⟨H0, H1⟩
  ihave H1 := (Entails.of_eq (congrArg (fun S => (((c : Thread nD τ).loc cc0_scratch6) ↦[S]{fullShare} f : sProp 𝕄)) (compl_cc0_scratch6))) $$ H1
  unfold free
  isplitl [H0]
  · iexists f; iexact H0
  · iexists f; iexact H1

theorem close_cc0_scratch6 (c : Dev nD) : iprop(free (ws Bd 0) c ∗ free (ws Bd 1) c)
    ⊢ (iprop(∃ f : Buf (Elt F) ((c : Thread nD τ).loc cc0_scratch6), ((c : Thread nD τ).loc cc0_scratch6) ↦{fullShare} f) : sProp 𝕄) := by
  unfold free
  iintro ⟨⟨%f, H0⟩, ⟨%g, H1⟩⟩
  iexists _
  iapply (pointsTo_join_subset (q := fullShare) (ℓ := (c : Thread nD τ).loc cc0_scratch6) (I := (ws Bd 0).view.set) (S := Finset.univ) (g := f) (f := g) (Finset.subset_univ _))
  isplitl [H0]; · iexact H0
  iapply (Entails.of_eq (congrArg (fun S => (((c : Thread nD τ).loc cc0_scratch6) ↦[S]{fullShare} g : sProp 𝕄)) (compl_cc0_scratch6).symm)) $$ H1

/-! ## What the launch hands over -/

/-- The body's own semaphores. -/
def osem : Fin 6 → SemLoc sig := ![.dma (sq Qx 0), .dma (sq Qx 1), .dma (sq Qy 0), .dma (sq Qy 1), .dma (sq Qw 0), .dma (sq Qw 1)]

theorem osem_ok : Pipeline.OwnSemFacts spec0 osem := by decide

theorem own_eq (c : Dev nD) : (Pipeline.ownSems0 (Ix := Unit) (Name := ℕ) (U := Pipeline.UD sig nD τ) (Lvl := ℕ) (Val := Elt F) (τ := τ) osem c : sProp 𝕄)
    = iprop(semVal ((c : Thread nD τ), .dma (sq Qx 0)) 0 ∗ semVal ((c : Thread nD τ), .dma (sq Qx 1)) 0
      ∗ semVal ((c : Thread nD τ), .dma (sq Qy 0)) 0 ∗ semVal ((c : Thread nD τ), .dma (sq Qy 1)) 0
      ∗ semVal ((c : Thread nD τ), .dma (sq Qw 0)) 0 ∗ semVal ((c : Thread nD τ), .dma (sq Qw 1)) 0) :=
  bigSep_univ_eq_bigSepL [0, 1, 2, 3, 4, 5] (by decide) (by decide) _

/-- The arrays the body reads by its own transfers. -/
def H0 : Finset (Ref sig .tc) := {main_arg1, main_arg2, main_arg4, main_arg6}
/-- The array it writes by its own transfers. -/
def R0 : Finset (Ref sig .tc) := {main_v53}

theorem H0_sub : H0 ⊆ Pipeline.restRefsP sig pre0 spec0 := by decide
theorem R0_sub : R0 ⊆ Pipeline.restRefsP sig pre0 spec0 \ H0 := by decide

variable (V G : (c : Dev nD) → (b : Ref sig .tc) → Buf (Elt F) ((c : Thread nD τ).loc b))

theorem H0_eq (c : Dev nD) : (bigSep H0 fun b => ((c : Thread nD τ).loc b) ↦{fullShare} V c b : sProp 𝕄)
    = iprop(((c : Thread nD τ).loc main_arg1 ↦{fullShare} V c main_arg1) ∗ ((c : Thread nD τ).loc main_arg2 ↦{fullShare} V c main_arg2)
      ∗ ((c : Thread nD τ).loc main_arg4 ↦{fullShare} V c main_arg4) ∗ ((c : Thread nD τ).loc main_arg6 ↦{fullShare} V c main_arg6)) :=
  bigSep_eq_bigSepL_of_eq [main_arg1, main_arg2, main_arg4, main_arg6] (by decide) (by decide) _

theorem R0_eq (c : Dev nD) : (bigSep R0 fun b => ((c : Thread nD τ).loc b) ↦{fullShare} V c b : sProp 𝕄)
    = iprop((c : Thread nD τ).loc main_v53 ↦{fullShare} V c main_v53) :=
  bigSep_eq_bigSepL_of_eq [main_v53] (by decide) (by decide) _

theorem T_eq (c : Dev nD) (v : pre0.Contents (Elt F)) : (Pipeline.ΦT (U := Pipeline.UD sig nD τ) pre0 v c : sProp 𝕄)
    = iprop(((c : Thread nD τ).loc main_v19 ↦{fullShare.right} v 0) ∗ ((c : Thread nD τ).loc main_v23 ↦{fullShare.right} v 1)
      ∗ ((c : Thread nD τ).loc main_v50 ↦{fullShare.right} v 2) ∗ ((c : Thread nD τ).loc main_v52 ↦{fullShare.right} v 3)) :=
  bigSep_univ_eq_bigSepL [0, 1, 2, 3] (by decide) (by decide) _

/-- The contents the environment names. -/
structure Names (c : Dev nD) (e : Env F) (v : pre0.Contents (Elt F)) : Prop where
  x : V c main_arg1 = e.x
  wg : V c main_arg2 = e.wg
  wu : V c main_arg4 = e.wu
  wd : V c main_arg6 = e.wd
  y0 : V c main_v53 = e.y0
  tE : v 0 = e.tE
  tn : v 1 = e.tn
  tS : v 2 = e.tS
  tW : v 3 = e.tW

theorem YSt_open (c : Dev nD) (e : Env F) (h : e.OK) :
    iprop(YO c 0 ∗ YO c 1 ∗ ((c : Thread nD τ).loc main_v53 ↦{fullShare} e.y0)) ⊢ (YSt c e h 0 : sProp 𝕄) := by
  have h1 := h.npos
  unfold YSt
  rw [if_pos (by omega)]
  unfold YQ
  rw [if_neg (by omega), if_neg (by omega)]
  iintro ⟨H0, H1, HY⟩
  isplitl [H0]; · iexact H0
  isplitl [H1]; · iexact H1
  isplitr
  · unfold YP
    rw [show rset (· < 0 - 2) = ∅ from Finset.eq_empty_of_forall_notMem fun j hj => by have := mem_rset.mp hj; omega, pointsTo_empty]
    iempintro
  · unfold YR
    rw [show rset (0 ≤ ·) = Finset.univ from (rset_congr fun r _ => ⟨fun _ => trivial, fun _ => Nat.zero_le r⟩).trans rset_true]
    iexact HY

theorem YSt_close (c : Dev nD) (e : Env F) (h : e.OK) :
    (YSt c e h e.n : sProp 𝕄) ⊢ iprop(YO c 0 ∗ YO c 1 ∗ ((c : Thread nD τ).loc main_v53 ↦{fullShare} yfin e h)) := by
  unfold YSt
  rw [if_neg (by omega)]
  unfold YP
  rw [rset_true]

theorem XSt_open (c : Dev nD) (e : Env F) :
    iprop(XO c 0 ∗ XO c 1 ∗ ((c : Thread nD τ).loc main_arg1 ↦{fullShare} e.x)) ⊢ (XSt c e 0 : sProp 𝕄) := by
  unfold XSt
  rw [if_neg (by omega)]
  unfold X0 XP
  rw [rset_true]

theorem XSt_close (c : Dev nD) (e : Env F) :
    (XSt c e e.n : sProp 𝕄) ⊢ iprop(XO c 0 ∗ XO c 1 ∗ ((c : Thread nD τ).loc main_arg1 ↦{fullShare} e.x)) := by
  unfold XSt
  rw [if_neg (by omega)]
  unfold X0 XP
  rw [rset_true]

theorem WT_open (c : Dev nD) (e : Env F) : iprop(WO c 0 ∗ WO c 1 ∗ WW c e) ⊢ (WT c e 0 : sProp 𝕄) := by
  unfold WT
  rw [if_pos rfl]

theorem BT_open (c : Dev nD) (e : Env F) : BA c ⊢ (BT c e 0 : sProp 𝕄) := by
  unfold BT
  rw [if_pos rfl]

set_option maxHeartbeats 4000000 in
theorem open_ok (c : Dev nD) (e : Env F) (h : e.OK) (v : pre0.Contents (Elt F)) (hv : Names V c e v) :
    iprop(Pipeline.ΦDRV osem spec0 H0 R0 V V c ∗ Pipeline.ΦT pre0 v c) ⊢ (iprop(INV c e h 0 ∗ TT c e) : sProp 𝕄) := by
  unfold Pipeline.ΦDRV
  rw [own_eq, H0_eq, R0_eq, T_eq, hv.x, hv.wg, hv.wu, hv.wd, hv.y0, hv.tE, hv.tn, hv.tS, hv.tW]
  rw [scopedRest0_eq c]
  unfold INV TT
  iintro ⟨⟨⟨S0, S1, S4, S5, S6, S8, S9, S10⟩, ⟨Q0, Q1, Q2, Q3, Q4, Q5⟩, ⟨A1, A2, A4, A6⟩, AY⟩, HT⟩
  ihave S0 := (open_cc0_scratch0 c) $$ S0
  icases S0 with ⟨S00, S01⟩
  ihave S1 := (open_cc0_scratch1 c) $$ S1
  icases S1 with ⟨S10', S11⟩
  ihave S4 := (open_cc0_scratch4 c) $$ S4
  icases S4 with ⟨S40, S41⟩
  ihave S5 := (open_cc0_scratch5 c) $$ S5
  icases S5 with ⟨S50, S51⟩
  ihave S6 := (open_cc0_scratch6 c) $$ S6
  icases S6 with ⟨S60, S61⟩
  isplitr [HT]
  · isplitl [S00 S01 Q0 Q1 A1]
    · iapply (XSt_open c e)
      unfold XO
      isplitl [S00 Q0]
      · isplitl [S00]; · iexact S00
        iexact Q0
      isplitl [S01 Q1]
      · isplitl [S01]; · iexact S01
        iexact Q1
      iexact A1
    isplitl [S40 S41 S50 S51 S60 S61 Q4 Q5 A2 A4 A6]
    · iapply (WT_open c e)
      unfold WO WW WA
      isplitl [S40 S50 S60 Q4]
      · isplitl [S40]; · iexact S40
        isplitl [S50]; · iexact S50
        isplitl [S60]; · iexact S60
        iexact Q4
      isplitl [S41 S51 S61 Q5]
      · isplitl [S41]; · iexact S41
        isplitl [S51]; · iexact S51
        isplitl [S61]; · iexact S61
        iexact Q5
      isplitl [A2]; · iexact A2
      isplitl [A4]; · iexact A4
      iexact A6
    isplitl [S8 S9 S10]
    · iapply (BT_open c e)
      unfold BA
      isplitl [S8]; · iexact S8
      isplitl [S9]; · iexact S9
      iexact S10
    iapply (YSt_open c e h)
    unfold YO
    isplitl [S10' Q2]
    · isplitl [S10']; · iexact S10'
      iexact Q2
    isplitl [S11 Q3]
    · isplitl [S11]; · iexact S11
      iexact Q3
    iexact AY
  · iexact HT

set_option maxHeartbeats 4000000 in
theorem close_ok (c : Dev nD) (e : Env F) (h : e.OK) (v : pre0.Contents (Elt F)) (hv : Names V c e v) (hG : G c main_v53 = yfin e h) :
    (iprop(INV c e h e.n ∗ TT c e) : sProp 𝕄) ⊢ Pipeline.ΦDRV osem spec0 H0 R0 V G c := by
  unfold Pipeline.ΦDRV
  rw [own_eq, H0_eq, R0_eq, hv.x, hv.wg, hv.wu, hv.wd, hG]
  rw [scopedRest0_eq c]
  unfold INV
  iintro ⟨⟨HX, HW, HB, HY⟩, HT⟩
  ihave HX := (XSt_close c e) $$ HX
  ihave HW := (w_done c e h) $$ HW
  ihave HB := (BA_of_BT c e e.n) $$ HB
  ihave HY := (YSt_close c e h) $$ HY
  unfold XO WO WW WA BA YO
  icases HX with ⟨⟨S00, Q0⟩, ⟨S01, Q1⟩, A1⟩
  icases HW with ⟨⟨S40, S50, S60, Q4⟩, ⟨S41, S51, S61, Q5⟩, A2, A4, A6⟩
  icases HB with ⟨S8, S9, S10⟩
  icases HY with ⟨⟨S10', Q2⟩, ⟨S11, Q3⟩, AY⟩
  isplitl [S00 S01 S10' S11 S40 S41 S50 S51 S60 S61 S8 S9 S10]
  · isplitl [S00 S01]
    · iapply (close_cc0_scratch0 c)
      isplitl [S00]; · iexact S00
      iexact S01
    isplitl [S10' S11]
    · iapply (close_cc0_scratch1 c)
      isplitl [S10']; · iexact S10'
      iexact S11
    isplitl [S40 S41]
    · iapply (close_cc0_scratch4 c)
      isplitl [S40]; · iexact S40
      iexact S41
    isplitl [S50 S51]
    · iapply (close_cc0_scratch5 c)
      isplitl [S50]; · iexact S50
      iexact S51
    isplitl [S60 S61]
    · iapply (close_cc0_scratch6 c)
      isplitl [S60]; · iexact S60
      iexact S61
    isplitl [S8]; · iexact S8
    isplitl [S9]; · iexact S9
    iexact S10
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [A1 A2 A4 A6]
  · isplitl [A1]; · iexact A1
    isplitl [A2]; · iexact A2
    isplitl [A4]; · iexact A4
    iexact A6
  iexact AY

end Cert.KernelIdeal.Own
-- ==== Proof.Points.lean ====
/-
  The launch: the proof data of the pipeline, its body obligation, and the run of the program.
-/
module

public import proofs.«01_k».proof.Proof.Ends
public import Idealize.ShloMosaic.Lib.Pipeline.FrameSuffix

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the region finds -/

/-- The tables and arrays at the region's entry, and the plan read off the tables. -/
def envV (V : Valuation τ sig (Elt F)) : Env F where
  tE := V (Proc.devRef .tc main_v19)
  tS := V (Proc.devRef .tc main_v50)
  tW := V (Proc.devRef .tc main_v52)
  tn := V (Proc.devRef .tc main_v23)
  E t := if h : t < 288 then (V (Proc.devRef .tc main_v19) (at1 288 t h) : BitVec 32).toNat else 0
  S t := if h : t < 288 then (V (Proc.devRef .tc main_v50) (at1 288 t h) : BitVec 32).toNat else 0
  W t := if h : t < 288 then (V (Proc.devRef .tc main_v52) (at1 288 t h) : BitVec 32).toNat else 0
  n := (V (Proc.devRef .tc main_v23) (at1 1 0 Nat.one_pos) : BitVec 32).toNat
  x := V (Proc.devRef .tc main_arg1)
  y0 := V (Proc.devRef .tc main_v53)
  wg := V (Proc.devRef .tc main_arg2)
  wu := V (Proc.devRef .tc main_arg4)
  wd := V (Proc.devRef .tc main_arg6)
  bg := V (Proc.devRef .tc main_arg3)
  bu := V (Proc.devRef .tc main_arg5)
  bd := V (Proc.devRef .tc main_arg7)

def tabs (V : Valuation τ sig (Elt F)) : pre0.Contents (Elt F) := fun k => V (Proc.devRef .tc (pre0.ref k))

def adm (V : Valuation τ sig (Elt F)) : (p : Fin 1) → (pcfgs (F := F) p).Adm := fun _ => ⟨tabs V, trivial⟩

def refV (V : Dev nD → Valuation τ sig (Elt F)) (c : Dev nD) (b : Ref sig .tc) : Buf (Elt F) ((c : Thread nD τ).loc b) := V c (Proc.devRef .tc b)

theorem names (V : Dev nD → Valuation τ sig (Elt F)) (c : Dev nD) : Names (refV V) c (envV (V c)) (tabs (V c)) :=
  ⟨rfl, rfl, rfl, rfl, rfl, rfl, rfl, rfl, rfl⟩

variable (V : Dev nD → Valuation τ sig (Elt F))

abbrev cfgV : Pipeline.Cfg sig Λ₀ := Pipeline.pin (pcfgs (F := F)) (adm (V 0)) 0

/-! ## The proof data -/

def dats (h : ∀ c, (envV (V c)).OK) (p : Fin 1) (c : Dev nD) :
    Pipeline.Dat τ (Elt F) Unit ℕ (Pipeline.UD sig nD τ) ℕ (Pipeline.pin (pcfgs (F := F)) (adm (V 0)) p) c where
  A w := V c (Proc.devRef .tc (Pipeline.arrRef spec0 w))
  after w _ := match w with
    | 0 => (envV (V c)).bg
    | 1 => (envV (V c)).bu
    | 2 => (envV (V c)).bd
    | ⟨_ + 3, hh⟩ => absurd hh (Nat.not_lt.2 (Nat.le_add_left _ _))
  Φ t := iprop(INV c (envV (V c)) (h c) (min t.val (envV (V c)).n) ∗ TT c (envV (V c)))
  q _ := fullShare
  owed _ := 0

theorem kept_eq (h : ∀ c, (envV (V c)).OK) (c : Dev nD) (w : Fin 3) (t : Fin (cfgV V).N) (d) :
    (dats V h 0 c).kept w t d = (dats V h 0 c).after w t := by
  match w with
  | 0 => rfl
  | 1 => rfl
  | 2 => rfl

theorem fetched_0 (h : ∀ c, (envV (V c)).OK) (c : Dev nD) (t : Fin (cfgV V).N) (d) :
    (dats V h 0 c).fetched 0 t d = (envV (V c)).bg := by
  refine funext (α := S32x1024.Idx) fun j => ?_
  show (envV (V c)).bg _ = (envV (V c)).bg j
  congr 1
  funext a
  apply Fin.ext
  fin_cases a
  · show 0 * 32 + 1 * (j 0).val = (j 0).val; omega
  · show 0 * 1024 + 1 * (j 1).val = (j 1).val; omega

theorem before_0 (h : ∀ c, (envV (V c)).OK) (c : Dev nD) (t : Fin (cfgV V).N) (d) :
    (dats V h 0 c).before 0 t d = (envV (V c)).bg := by
  by_cases hf : ((cfgV V).win 0).fetch t = true
  · rw [(dats V h 0 c).before_fetched 0 t hf]; exact fetched_0 V h c t d
  · rw [(dats V h 0 c).before_unfetched_in 0 rfl t (Bool.eq_false_iff.mpr hf) (fun _ => rfl)]
    exact kept_eq V h c 0 _ d

theorem fetched_1 (h : ∀ c, (envV (V c)).OK) (c : Dev nD) (t : Fin (cfgV V).N) (d) :
    (dats V h 0 c).fetched 1 t d = (envV (V c)).bu := by
  refine funext (α := S32x1024.Idx) fun j => ?_
  show (envV (V c)).bu _ = (envV (V c)).bu j
  congr 1
  funext a
  apply Fin.ext
  fin_cases a
  · show 0 * 32 + 1 * (j 0).val = (j 0).val; omega
  · show 0 * 1024 + 1 * (j 1).val = (j 1).val; omega

theorem before_1 (h : ∀ c, (envV (V c)).OK) (c : Dev nD) (t : Fin (cfgV V).N) (d) :
    (dats V h 0 c).before 1 t d = (envV (V c)).bu := by
  by_cases hf : ((cfgV V).win 1).fetch t = true
  · rw [(dats V h 0 c).before_fetched 1 t hf]; exact fetched_1 V h c t d
  · rw [(dats V h 0 c).before_unfetched_in 1 rfl t (Bool.eq_false_iff.mpr hf) (fun _ => rfl)]
    exact kept_eq V h c 1 _ d

theorem fetched_2 (h : ∀ c, (envV (V c)).OK) (c : Dev nD) (t : Fin (cfgV V).N) (d) :
    (dats V h 0 c).fetched 2 t d = (envV (V c)).bd := by
  refine funext (α := S32x1024.Idx) fun j => ?_
  show (envV (V c)).bd _ = (envV (V c)).bd j
  congr 1
  funext a
  apply Fin.ext
  fin_cases a
  · show 0 * 32 + 1 * (j 0).val = (j 0).val; omega
  · show 0 * 1024 + 1 * (j 1).val = (j 1).val; omega

theorem before_2 (h : ∀ c, (envV (V c)).OK) (c : Dev nD) (t : Fin (cfgV V).N) (d) :
    (dats V h 0 c).before 2 t d = (envV (V c)).bd := by
  by_cases hf : ((cfgV V).win 2).fetch t = true
  · rw [(dats V h 0 c).before_fetched 2 t hf]; exact fetched_2 V h c t d
  · rw [(dats V h 0 c).before_unfetched_in 2 rfl t (Bool.eq_false_iff.mpr hf) (fun _ => rfl)]
    exact kept_eq V h c 2 _ d

theorem point (t : Fin grid0.N) : ((grid0.coords t) 0).val = t.val := by
  have ht : t.val < 288 := lt_of_lt_of_eq t.isLt N_0
  rw [Pipeline.Grid.coords_val t 0 (S := 1) (B := 288) (by decide) rfl, Nat.div_one, Nat.mod_eq_of_lt ht]

theorem stg_in (c : Dev nD) (b : Ref sig .tc) (X : b.ty.Contents (Elt F)) :
    owns (c : Thread nD τ) (Memref.whole b) fullShare X ⊢ ((c : Thread nD τ).loc b ↦{fullShare} X : sProp 𝕄) := by
  rw [owns_whole_eq]
  iintro ⟨%f, %hf, H⟩
  subst hf
  iexact H

theorem stg_out (c : Dev nD) (b : Ref sig .tc) (X : b.ty.Contents (Elt F)) :
    ((c : Thread nD τ).loc b ↦{fullShare} X : sProp 𝕄) ⊢ owns (c : Thread nD τ) (Memref.whole b) fullShare X := by
  rw [owns_whole_eq]
  iintro H
  iexists X
  isplitr
  · ipureintro; rfl
  · iexact H

theorem take_0 (h : ∀ c, (envV (V c)).OK) (c : Dev nD) (t : Fin (cfgV V).N) (d) :
    owns (c : Thread nD τ) (Memref.whole cc0_stg0_0) fullShare ((dats V h 0 c).before 0 t d)
      ⊢ ((c : Thread nD τ).loc cc0_stg0_0 ↦{fullShare} (envV (V c)).bg : sProp 𝕄) :=
  (Entails.of_eq (congrArg (owns (c : Thread nD τ) (Memref.whole cc0_stg0_0) fullShare) (before_0 V h c t d))).trans (stg_in c cc0_stg0_0 _)

theorem take_1 (h : ∀ c, (envV (V c)).OK) (c : Dev nD) (t : Fin (cfgV V).N) (d) :
    owns (c : Thread nD τ) (Memref.whole cc0_stg1_0) fullShare ((dats V h 0 c).before 1 t d)
      ⊢ ((c : Thread nD τ).loc cc0_stg1_0 ↦{fullShare} (envV (V c)).bu : sProp 𝕄) :=
  (Entails.of_eq (congrArg (owns (c : Thread nD τ) (Memref.whole cc0_stg1_0) fullShare) (before_1 V h c t d))).trans (stg_in c cc0_stg1_0 _)

theorem take_2 (h : ∀ c, (envV (V c)).OK) (c : Dev nD) (t : Fin (cfgV V).N) (d) :
    owns (c : Thread nD τ) (Memref.whole cc0_stg2_0) fullShare ((dats V h 0 c).before 2 t d)
      ⊢ ((c : Thread nD τ).loc cc0_stg2_0 ↦{fullShare} (envV (V c)).bd : sProp 𝕄) :=
  (Entails.of_eq (congrArg (owns (c : Thread nD τ) (Memref.whole cc0_stg2_0) fullShare) (before_2 V h c t d))).trans (stg_in c cc0_stg2_0 _)

set_option maxHeartbeats 4000000 in
theorem body_obl (h : ∀ c, (envV (V c)).OK) (c : Dev nD) :
    Pipeline.BodyObligationLoose (dats V h 0 c) (defs₀ (F := F)) 𝒱₀ () Set.univ := by
  intro t
  rw [bigSep_W0, bigSep_W0]
  generalize hs : (cfgV V).slots t = s
  have hs' : s = fun | 0 => (0 : Fin 1) | 1 => (0 : Fin 1) | 2 => (0 : Fin 1) | ⟨_ + 3, hh⟩ => absurd hh (Nat.not_lt.2 (Nat.le_add_left _ _)) := by
    funext w
    match w with
    | 0 => exact Subsingleton.elim (α := Fin 1) _ _
    | 1 => exact Subsingleton.elim (α := Fin 1) _ _
    | 2 => exact Subsingleton.elim (α := Fin 1) _ _
  clear hs
  subst hs'
  show iprop(iprop(INV c (envV (V c)) (h c) (min t.val (envV (V c)).n) ∗ TT c (envV (V c)))
      ∗ iprop(∃ W : Waits sig Unit, ⌜(↑W : Set (SemLoc sig × Unit)) ⊆ (dats V h 0 c).bound () t.castSucc⌝ ∗ owes (c : Thread nD τ) 0 W)
      ∗ iprop(∃ d : S32x1024.Idx → Elt F .f32, owns (c : Thread nD τ) (Memref.whole cc0_stg0_0) fullShare ((dats V h 0 c).before 0 t d))
      ∗ iprop(∃ d : S32x1024.Idx → Elt F .f32, owns (c : Thread nD τ) (Memref.whole cc0_stg1_0) fullShare ((dats V h 0 c).before 1 t d))
      ∗ iprop(∃ d : S32x1024.Idx → Elt F .f32, owns (c : Thread nD τ) (Memref.whole cc0_stg2_0) fullShare ((dats V h 0 c).before 2 t d)))
    ⊢ WP (defs₀ (F := F)) c (cc0_moe_experts (grid0.coords t) (Memref.whole main_v19) (Memref.isWhole_whole _) (Memref.whole main_v23) (Memref.isWhole_whole _) (Memref.whole main_v50) (Memref.isWhole_whole _) (Memref.whole main_v52) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole main_arg6) (Memref.isWhole_whole _) (Memref.whole cc0_stg2_0) (Memref.isWhole_whole _) (Memref.whole main_v53) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) cc0_scratch7 (Memref.whole cc0_scratch8) (Memref.isWhole_whole _) (Memref.whole cc0_scratch9) (Memref.isWhole_whole _) (Memref.whole cc0_scratch10) (Memref.isWhole_whole _))
      (fun _ => iprop(iprop(INV c (envV (V c)) (h c) (min (t.val + 1) (envV (V c)).n) ∗ TT c (envV (V c)))
      ∗ iprop(∃ W : Waits sig Unit, ⌜(↑W : Set (SemLoc sig × Unit)) ⊆ (dats V h 0 c).bound () t.succ⌝ ∗ owes (c : Thread nD τ) 0 W)
      ∗ owns (c : Thread nD τ) (Memref.whole cc0_stg0_0) fullShare (envV (V c)).bg
      ∗ owns (c : Thread nD τ) (Memref.whole cc0_stg1_0) fullShare (envV (V c)).bu
      ∗ owns (c : Thread nD τ) (Memref.whole cc0_stg2_0) fullShare (envV (V c)).bd))
  iintro ⟨⟨HI, HT⟩, ⟨%W, %hW, Ho⟩, ⟨%d0, H0⟩, ⟨%d1, H1⟩, ⟨%d2, H2⟩⟩
  ihave H0 := (take_0 V h c t d0) $$ H0
  ihave H1 := (take_1 V h c t d1) $$ H1
  ihave H2 := (take_2 V h c t d2) $$ H2
  iapply (body_ok c (envV (V c)) (h c) (grid0.coords t) t.val (point t)) $$ [HI HT Ho H0 H1 H2]
  · isplitl [HI]; · iexact HI
    isplitl [Ho]; · unfold Ow; iexists W; iexact Ho
    isplitl [HT]; · iexact HT
    unfold BB
    isplitl [H0]; · iexact H0
    isplitl [H1]; · iexact H1
    iexact H2
  unfold Ow BB
  iintro ⟨HI, ⟨%W', Ho⟩, HT, H0, H1, H2⟩
  isplitl [HI HT]
  · isplitl [HI]; · iexact HI
    iexact HT
  isplitl [Ho]
  · iexists W'
    isplitr
    · ipureintro; exact fun x _ => Or.inl trivial
    · iexact Ho
  isplitl [H0]; · iapply (stg_out c cc0_stg0_0 _) $$ H0
  isplitl [H1]; · iapply (stg_out c cc0_stg1_0 _) $$ H1
  iapply (stg_out c cc0_stg2_0 _) $$ H2

end Cert.KernelIdeal.Own
-- ==== Proof.Run.lean ====
/-
  The run of the program.
-/
module

public import proofs.«01_k».proof.Proof.Points

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The run -/

/-- The lines before the region. -/
def opss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

/-- The buffers at the region's entry. -/
def entry (m : (ℓ : Loc nD τ sig) → Buf (Elt F) ℓ) (c : Dev nD) : Valuation τ sig (Elt F) :=
  StableHlo.after opss.flatten (fun b => m (c, b))

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub, hostOps0_12_sub, hostOps0_13_sub, hostOps0_14_sub⟩

theorem opss_fresh : (opss (F := F)).Forall fun ops => ops.Forall fun op => op.fresh = ∅ := by
  unfold opss
  simp only [List.forall_cons, List.Forall]
  refine ⟨?_, ?_, ?_, ?_, ?_, ?_, ?_, ?_, ?_, ?_, ?_, ?_, ?_, ?_, ?_⟩ <;> (repeat' constructor)

theorem y_rest : main_v53 ∈ Pipeline.restRefsP sig pre0 spec0 := by decide

theorem defs_eq : (defs (F := F)) = Pipeline.defs pcfgs defs₀ := rfl

variable (V : Dev nD → Valuation τ sig (Elt F))

/-- The contents the region leaves in the result. -/
def gfin (h : ∀ c, (envV (V c)).OK) (c : Dev nD) (b : Ref sig .tc) : Buf (Elt F) ((c : Thread nD τ).loc b) :=
  if hb : b = main_v53 then hb ▸ (yfin (envV (V c)) (h c) : Buf (Elt F) ((c : Thread nD τ).loc main_v53)) else V c (Proc.devRef .tc b)

theorem gfin_y (h : ∀ c, (envV (V c)).OK) (c : Dev nD) : gfin V h c main_v53 = yfin (envV (V c)) (h c) := dif_pos rfl

set_option maxHeartbeats 4000000 in
theorem run_main (m : (ℓ : Loc nD τ sig) → Buf (Elt F) ℓ) (g : Dev nD → PrngReg) (h : ∀ c, (envV (entry m c)).OK) :
    θ_run (defs (F := F)) (onTc (τ := τ) (main (F := F))) ⟨m, fun _ => 0, g⟩ (fun r => (∀ c : Dev nD,
      r.2.mem ((c : Thread nD τ).loc main_v53) = yfin (envV (entry m c)) (h c)
      ∧ r.2.mem ((c : Thread nD τ).loc main_arg0) = entry m c (Proc.devRef .tc main_arg0)
      ∧ r.2.mem ((c : Thread nD τ).loc main_arg1) = entry m c (Proc.devRef .tc main_arg1)
      ∧ r.2.mem ((c : Thread nD τ).loc main_arg2) = entry m c (Proc.devRef .tc main_arg2)
      ∧ r.2.mem ((c : Thread nD τ).loc main_arg3) = entry m c (Proc.devRef .tc main_arg3)
      ∧ r.2.mem ((c : Thread nD τ).loc main_arg4) = entry m c (Proc.devRef .tc main_arg4)
      ∧ r.2.mem ((c : Thread nD τ).loc main_arg5) = entry m c (Proc.devRef .tc main_arg5)
      ∧ r.2.mem ((c : Thread nD τ).loc main_arg6) = entry m c (Proc.devRef .tc main_arg6)
      ∧ r.2.mem ((c : Thread nD τ).loc main_arg7) = entry m c (Proc.devRef .tc main_arg7))
      ∧ r.2.sem = fun _ => 0) := by
  refine Pipeline.θ_run_frameP_dmaR_aroundV pcfgs (adm (entry m 0)) (dats (entry m) h) 0 launch0 osem defs₀ 𝒱₀ osem_ok H0 R0 H0_sub R0_sub
    m g main (body_obl (entry m) h) ?_ (fun _ _ => rfl) (entry m) [] (fun _ hh => absurd hh List.not_mem_nil) (fun _ hh => absurd hh List.not_mem_nil)
    (fun _ hh => absurd hh List.not_mem_nil) (gfin (entry m) h) ?_ (fun _ _ => rfl) ?_ ?_ ?_ _ ?_
  · intro c w
    unfold Pipeline.Dat.share
    split <;> rfl
  · exact Pipeline.hmainP_around pcfgs 0 defs₀ 𝒱₀ m main opss [] opss_sub opss_fresh (fun c => main_chain c)
  · intro c k
    rw [Subsingleton.elim c 0]; rfl
  · intro c
    rw [Subsingleton.elim c 0]
    refine (open_ok (refV (entry m)) 0 (envV (entry m 0)) (h 0) (tabs (entry m 0)) (names (entry m) 0)).trans ?_
    exact sep_mono (Entails.of_eq (congrArg (INV 0 (envV (entry m 0)) (h 0)) (Nat.zero_min _).symm)) .rfl
  · intro c
    refine BIBase.Entails.trans ?_ (close_ok (refV (entry m)) (gfin (entry m) h) c (envV (entry m c)) (h c) (tabs (entry m c)) (names (entry m) c)
      (gfin_y (entry m) h c))
    exact sep_mono (Entails.of_eq (congrArg (INV c (envV (entry m c)) (h c)) (by
      exact (Nat.min_eq_right (show (envV (entry m c)).n ≤ grid0.N from le_of_le_of_eq (h c).nle N_0.symm))))) .rfl
  · intro r hr
    refine ⟨fun c => ?_, hr.2⟩
    have hw := (hr.1 c).1
    have hb : ∀ b, b ∈ Pipeline.restRefsP sig pre0 spec0 → b ∉ R0 → (∀ w, Pipeline.arrRef spec0 w ≠ b) →
        r.2.mem ((c : Thread nD τ).loc b) = entry m c (Proc.devRef .tc b) := fun b h1 h2 h3 =>
      ((hr.1 c).2 b h1).trans ((Pipeline.withArrays_of_ne spec0 c _ _ b h3).trans (Pipeline.withR_of_not_mem _ _ c _ b h2))
    have ha : ∀ w : Fin 3, r.2.mem ((c : Thread nD τ).loc (Pipeline.arrRef spec0 w)) = entry m c (Proc.devRef .tc (Pipeline.arrRef spec0 w)) := fun w =>
      (hw w).trans ((dats (entry m) h 0 c).arrAt_in w (by match w with | 0 => rfl | 1 => rfl | 2 => rfl) _)
    refine ⟨?_, hb _ (by decide) (by decide) (by decide), hb _ (by decide) (by decide) (by decide), hb _ (by decide) (by decide) (by decide), ha 0,
      hb _ (by decide) (by decide) (by decide), ha 1, hb _ (by decide) (by decide) (by decide), ha 2⟩
    refine ((hr.1 c).2 main_v53 y_rest).trans ?_
    refine (Pipeline.withArrays_of_ne spec0 c _ _ main_v53 (by decide)).trans ((Pipeline.withR_of_mem _ _ c _ main_v53 (by decide)).trans ?_)
    exact gfin_y (entry m) h c

end Cert.KernelIdeal.Own
-- ==== Proof.Reads.lean ====
/- What the host lines before the launch leave in the buffers the launch's tables are computed through: each stretch of
   lines read at the few buffers that later stretches use, over any contents before it. -/
module

public import proofs.«01_k».proof.Proof.Run
public import Idealize.ShloMosaic.Lib.StableHlo.RunRead
public import Idealize.ShloMosaic.Lib.Routing.OpsSearch

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.StableHlo Idealize.ShloMosaic.Routing

/-! ## The buffers each stretch writes -/

theorem wr0 : (hostOps0 (F := F)).map HloOp.writes = [main_c, main_v0, main_v1, main_c_0, main_v2, main_v3, main_c_1].map fun w => {Proc.devRef (τ := τ) .tc w} := rfl

theorem wr1 : (hostOps0_1 (F := F)).map HloOp.writes = [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4].map fun w => {Proc.devRef (τ := τ) .tc w} := rfl

theorem wr2 : (hostOps0_2 (F := F)).map HloOp.writes = [main_c_2, main_v5, main_v6].map fun w => {Proc.devRef (τ := τ) .tc w} := rfl

theorem wr3 : (hostOps0_3 (F := F)).map HloOp.writes = [main_call1_call0_c, main_call1_call0_v0, main_v7].map fun w => {Proc.devRef (τ := τ) .tc w} := rfl

theorem wr4 : (hostOps0_4 (F := F)).map HloOp.writes = [main_v8, main_c_3, main_v9, main_v10, main_v11, main_v12, main_v13, main_v14, main_v15, main_v16, main_c_4, main_v17, main_c_5, main_v18, main_v19, main_v20, main_v21, main_c_6].map fun w => {Proc.devRef (τ := τ) .tc w} := rfl

theorem wr5 : (hostOps0_5 (F := F)).map HloOp.writes = [main_call2_v0, main_call2_v1, main_call2_v2, main_call2_v3, main_call2_v4, main_call2_v5, main_call2_c, main_call2_v6, main_call2_v7, main_call2_c_0, main_call2_v8, main_v22].map fun w => {Proc.devRef (τ := τ) .tc w} := rfl

theorem wr6 : (hostOps0_6 (F := F)).map HloOp.writes = [main_v23, main_v24, main_c_7, main_v25, main_v26, main_v27].map fun w => {Proc.devRef (τ := τ) .tc w} := rfl

theorem wr7 : (hostOps0_7 (F := F)).map HloOp.writes = [main_call3_call0_c, main_call3_call0_v0, main_v28].map fun w => {Proc.devRef (τ := τ) .tc w} := rfl

theorem wr8 : (hostOps0_8 (F := F)).map HloOp.writes = [main_v29, main_v30, main_v31, main_v32, main_v33, main_v34, main_v35, main_v36, main_v37, main_v38, main_v39, main_c_8].map fun w => {Proc.devRef (τ := τ) .tc w} := rfl

theorem wr9 : (hostOps0_9 (F := F)).map HloOp.writes = [main_call4_v0, main_call4_v1, main_call4_v2, main_v40].map fun w => {Proc.devRef (τ := τ) .tc w} := rfl

theorem wr10 : (hostOps0_10 (F := F)).map HloOp.writes = [main_c_9, main_v41, main_v42, main_v43, main_v44, main_v45, main_v46, main_c_10, main_v47, main_v48, main_c_11].map fun w => {Proc.devRef (τ := τ) .tc w} := rfl

theorem wr11 : (hostOps0_11 (F := F)).map HloOp.writes = [main_call5_v0, main_call5_v1, main_call5_v2, main_v49].map fun w => {Proc.devRef (τ := τ) .tc w} := rfl

theorem wr12 : (hostOps0_12 (F := F)).map HloOp.writes = [main_c_12, main_v50, main_c_13].map fun w => {Proc.devRef (τ := τ) .tc w} := rfl

theorem wr13 : (hostOps0_13 (F := F)).map HloOp.writes = [main_call6_v0, main_call6_v1, main_call6_v2, main_v51].map fun w => {Proc.devRef (τ := τ) .tc w} := rfl

theorem wr14 : (hostOps0_14 (F := F)).map HloOp.writes = [main_c_14, main_v52].map fun w => {Proc.devRef (τ := τ) .tc w} := rfl

/-! ## Their values -/

variable (V : Valuation τ sig (Elt F))

theorem r0_v3 : (after hostOps0 V (Proc.devRef .tc main_v3) : (⟨S32, .i32⟩ : BufTy).Contents (Elt F)) = subi (addi (V (Proc.devRef .tc main_arg0) : (⟨S32, .i32⟩ : BufTy).Contents (Elt F)) (broadcastInDim S32 ![] bcast_S_S32 (constantI S_ 32 256#32))) (broadcastInDim S32 ![] bcast_S_S32 (constantI S_ 32 1#32)) := by
  after_reads_simp
  all_goals rfl

theorem r0_c1 : (after hostOps0 V (Proc.devRef .tc main_c_1) : (⟨S_, .i32⟩ : BufTy).Contents (Elt F)) = (constantI S_ 32 256#32) := by
  after_reads_simp
  all_goals rfl

theorem r1_v4 : (after hostOps0_1 V (Proc.devRef .tc main_v4) : (⟨S32, .i32⟩ : BufTy).Contents (Elt F)) = pyDiv bcast_S_S32 (V (Proc.devRef .tc main_v3) : (⟨S32, .i32⟩ : BufTy).Contents (Elt F)) (V (Proc.devRef .tc main_c_1) : (⟨S_, .i32⟩ : BufTy).Contents (Elt F)) := by
  unfold pyDiv
  after_reads_simp
  all_goals rfl

theorem r2_v6 : (after hostOps0_2 V (Proc.devRef .tc main_v6) : (⟨S32, .i32⟩ : BufTy).Contents (Elt F)) = muli (V (Proc.devRef .tc main_v4) : (⟨S32, .i32⟩ : BufTy).Contents (Elt F)) (broadcastInDim S32 ![] bcast_S_S32 (constantI S_ 32 256#32)) := by
  after_reads_simp
  all_goals rfl

theorem r3_v7 : (after hostOps0_3 V (Proc.devRef .tc main_v7) : (⟨S32, .i32⟩ : BufTy).Contents (Elt F)) = Host.reduceWindow IntOp.addi ![32] ![1] ![31] ![0] (V (Proc.devRef .tc main_v6) : (⟨S32, .i32⟩ : BufTy).Contents (Elt F)) (broadcastInDim S_ ![] bcast_S_S_ (constantI S_ 32 0#32)) reduceWindows_S32_S32_w32s1p31_0 h_S_ := by
  after_reads_simp
  simp only [TRef.toBuf, TRef.ofBuf, cast_cast]
  refine (cast_eq _ _).trans ?_
  simp only [cast_eq]

theorem r4_v19 : (after hostOps0_4 V (Proc.devRef .tc main_v19) : (⟨S288, .i32⟩ : BufTy).Contents (Elt F)) = minsi (Host.reduce IntOp.addi (extui 32 (cmpi .sle (broadcastInDim S288x32 ![0, 1] bcast_S1x32_S288x32_0_1 (broadcastInDim S1x32 ![1] bcast_S32_S1x32_1 (V (Proc.devRef .tc main_v7) : (⟨S32, .i32⟩ : BufTy).Contents (Elt F)))) (broadcastInDim S288x32 ![0, 1] bcast_S288x1_S288x32_0_1 (broadcastInDim S288x1 ![0] bcast_S288_S288x1_0 (muli (iotaInDim S288 32 0) (broadcastInDim S288 ![] bcast_S_S288 (constantI S_ 32 256#32)))))) natLt_1_32) (constantI S_ 32 0#32) reducesTo_S288x32_S288_d1 h_S_) (broadcastInDim S288 ![] bcast_S_S288 (constantI S_ 32 31#32)) := by
  after_reads_simp
  all_goals rfl

theorem r4_v21 : (after hostOps0_4 V (Proc.devRef .tc main_v21) : (⟨S_, .i32⟩ : BufTy).Contents (Elt F)) = shapeCast S_ (extractStridedSlice S1 ![31] (V (Proc.devRef .tc main_v7) : (⟨S32, .i32⟩ : BufTy).Contents (Elt F)) slices_S32_S1_31) shapeCasts_S1_S_ := by
  after_reads_simp
  all_goals rfl

theorem r4_c6 : (after hostOps0_4 V (Proc.devRef .tc main_c_6) : (⟨S_, .i32⟩ : BufTy).Contents (Elt F)) = (constantI S_ 32 256#32) := by
  after_reads_simp
  all_goals rfl

theorem r5_v22 : (after hostOps0_5 V (Proc.devRef .tc main_v22) : (⟨S_, .i32⟩ : BufTy).Contents (Elt F)) = pyDiv0 (V (Proc.devRef .tc main_v21) : (⟨S_, .i32⟩ : BufTy).Contents (Elt F)) (V (Proc.devRef .tc main_c_6) : (⟨S_, .i32⟩ : BufTy).Contents (Elt F)) := by
  unfold pyDiv0
  after_reads_simp
  all_goals rfl

theorem r6_v23 : (after hostOps0_6 V (Proc.devRef .tc main_v23) : (⟨S1, .i32⟩ : BufTy).Contents (Elt F)) = shapeCast S1 (V (Proc.devRef .tc main_v22) : (⟨S_, .i32⟩ : BufTy).Contents (Elt F)) shapeCasts_S_S1 := by
  after_reads_simp
  all_goals rfl

theorem r6_v24 : (after hostOps0_6 V (Proc.devRef .tc main_v24) : (⟨S32, .i32⟩ : BufTy).Contents (Elt F)) = iotaInDim S32 32 0 := by
  after_reads_simp
  all_goals rfl

theorem r6_v26 : (after hostOps0_6 V (Proc.devRef .tc main_v26) : (⟨S32, .i1⟩ : BufTy).Contents (Elt F)) = cmpi .sgt (V (Proc.devRef .tc main_arg0) : (⟨S32, .i32⟩ : BufTy).Contents (Elt F)) (broadcastInDim S32 ![] bcast_S_S32 (constantI S_ 32 0#32)) := by
  after_reads_simp
  all_goals rfl

theorem r6_v27 : (after hostOps0_6 V (Proc.devRef .tc main_v27) : (⟨S32, .i32⟩ : BufTy).Contents (Elt F)) = extui 32 (cmpi .sgt (V (Proc.devRef .tc main_arg0) : (⟨S32, .i32⟩ : BufTy).Contents (Elt F)) (broadcastInDim S32 ![] bcast_S_S32 (constantI S_ 32 0#32))) natLt_1_32 := by
  after_reads_simp
  all_goals rfl

theorem r7_v28 : (after hostOps0_7 V (Proc.devRef .tc main_v28) : (⟨S32, .i32⟩ : BufTy).Contents (Elt F)) = Host.reduceWindow IntOp.addi ![32] ![1] ![31] ![0] (V (Proc.devRef .tc main_v27) : (⟨S32, .i32⟩ : BufTy).Contents (Elt F)) (broadcastInDim S_ ![] bcast_S_S_ (constantI S_ 32 0#32)) reduceWindows_S32_S32_w32s1p31_0 h_S_ := by
  after_reads_simp
  simp only [TRef.toBuf, TRef.ofBuf, cast_cast]
  refine (cast_eq _ _).trans ?_
  simp only [cast_eq]

theorem r8_v30 : (after hostOps0_8 V (Proc.devRef .tc main_v30) : (⟨S32, .i32⟩ : BufTy).Contents (Elt F)) = subi (V (Proc.devRef .tc main_v28) : (⟨S32, .i32⟩ : BufTy).Contents (Elt F)) (extui 32 (V (Proc.devRef .tc main_v26) : (⟨S32, .i1⟩ : BufTy).Contents (Elt F)) natLt_1_32) := by
  after_reads_simp
  all_goals rfl

theorem r8_v38 : (after hostOps0_8 V (Proc.devRef .tc main_v38) : (⟨S32x32, .i1⟩ : BufTy).Contents (Elt F)) = andi (cmpi .sgt (broadcastInDim S32x32 ![0, 1] bcast_S1x32_S32x32_0_1 (broadcastInDim S1x32 ![1] bcast_S32_S1x32_1 (V (Proc.devRef .tc main_v24) : (⟨S32, .i32⟩ : BufTy).Contents (Elt F)))) (broadcastInDim S32x32 ![0, 1] bcast_S32x1_S32x32_0_1 (broadcastInDim S32x1 ![0] bcast_S32_S32x1_0 (V (Proc.devRef .tc main_v24) : (⟨S32, .i32⟩ : BufTy).Contents (Elt F))))) (broadcastInDim S32x32 ![0, 1] bcast_S1x32_S32x32_0_1 (broadcastInDim S1x32 ![1] bcast_S32_S1x32_1 (V (Proc.devRef .tc main_v26) : (⟨S32, .i1⟩ : BufTy).Contents (Elt F)))) := by
  after_reads_simp
  all_goals rfl

theorem r8_v39 : (after hostOps0_8 V (Proc.devRef .tc main_v39) : (⟨S1x32, .i32⟩ : BufTy).Contents (Elt F)) = broadcastInDim S1x32 ![1] bcast_S32_S1x32_1 (V (Proc.devRef .tc main_v24) : (⟨S32, .i32⟩ : BufTy).Contents (Elt F)) := by
  after_reads_simp
  all_goals rfl

theorem r8_c8 : (after hostOps0_8 V (Proc.devRef .tc main_c_8) : (⟨S_, .i32⟩ : BufTy).Contents (Elt F)) = (constantI S_ 32 32#32) := by
  after_reads_simp
  all_goals rfl

theorem r9_v40 : (after hostOps0_9 V (Proc.devRef .tc main_v40) : (⟨S32x32, .i32⟩ : BufTy).Contents (Elt F)) = select (V (Proc.devRef .tc main_v38) : (⟨S32x32, .i1⟩ : BufTy).Contents (Elt F)) (broadcastInDim S32x32 ![0, 1] bcast_S1x32_S32x32_0_1 (V (Proc.devRef .tc main_v39) : (⟨S1x32, .i32⟩ : BufTy).Contents (Elt F))) (broadcastInDim S32x32 ![] bcast_S_S32x32 (V (Proc.devRef .tc main_c_8) : (⟨S_, .i32⟩ : BufTy).Contents (Elt F))) := by
  after_reads_simp
  all_goals rfl

theorem r10_v41 : (after hostOps0_10 V (Proc.devRef .tc main_v41) : (⟨S32, .i32⟩ : BufTy).Contents (Elt F)) = Host.reduce IntOp.minsi (V (Proc.devRef .tc main_v40) : (⟨S32x32, .i32⟩ : BufTy).Contents (Elt F)) (constantI S_ 32 2147483647#32) reducesTo_S32x32_S32_d1 h_S_ := by
  after_reads_simp
  all_goals rfl

theorem r10_v46 : (after hostOps0_10 V (Proc.devRef .tc main_v46) : (⟨S288x32, .i1⟩ : BufTy).Contents (Elt F)) = cmpi .eq (broadcastInDim S288x32 ![0, 1] bcast_S288x1_S288x32_0_1 (broadcastInDim S288x1 ![0] bcast_S288_S288x1_0 (V (Proc.devRef .tc main_v19) : (⟨S288, .i32⟩ : BufTy).Contents (Elt F)))) (broadcastInDim S288x32 ![0, 1] bcast_S1x32_S288x32_0_1 (broadcastInDim S1x32 ![1] bcast_S32_S1x32_1 (V (Proc.devRef .tc main_v24) : (⟨S32, .i32⟩ : BufTy).Contents (Elt F)))) := by
  after_reads_simp
  all_goals rfl

theorem r10_v48 : (after hostOps0_10 V (Proc.devRef .tc main_v48) : (⟨S32, .i32⟩ : BufTy).Contents (Elt F)) = andi (V (Proc.devRef .tc main_v30) : (⟨S32, .i32⟩ : BufTy).Contents (Elt F)) (broadcastInDim S32 ![] bcast_S_S32 (constantI S_ 32 1#32)) := by
  after_reads_simp
  all_goals rfl

theorem r10_c11 : (after hostOps0_10 V (Proc.devRef .tc main_c_11) : (⟨S_, .i32⟩ : BufTy).Contents (Elt F)) = (constantI S_ 32 0#32) := by
  after_reads_simp
  all_goals rfl

theorem r11_v49 : (after hostOps0_11 V (Proc.devRef .tc main_v49) : (⟨S288x32, .i32⟩ : BufTy).Contents (Elt F)) = select (V (Proc.devRef .tc main_v46) : (⟨S288x32, .i1⟩ : BufTy).Contents (Elt F)) (broadcastInDim S288x32 ![1] bcast_S32_S288x32_1 (V (Proc.devRef .tc main_v48) : (⟨S32, .i32⟩ : BufTy).Contents (Elt F))) (broadcastInDim S288x32 ![] bcast_S_S288x32 (V (Proc.devRef .tc main_c_11) : (⟨S_, .i32⟩ : BufTy).Contents (Elt F))) := by
  after_reads_simp
  all_goals rfl

theorem r12_v50 : (after hostOps0_12 V (Proc.devRef .tc main_v50) : (⟨S288, .i32⟩ : BufTy).Contents (Elt F)) = Host.reduce IntOp.addi (V (Proc.devRef .tc main_v49) : (⟨S288x32, .i32⟩ : BufTy).Contents (Elt F)) (constantI S_ 32 0#32) reducesTo_S288x32_S288_d1 h_S_ := by
  after_reads_simp
  all_goals rfl

theorem r12_c13 : (after hostOps0_12 V (Proc.devRef .tc main_c_13) : (⟨S_, .i32⟩ : BufTy).Contents (Elt F)) = (constantI S_ 32 0#32) := by
  after_reads_simp
  all_goals rfl

theorem r13_v51 : (after hostOps0_13 V (Proc.devRef .tc main_v51) : (⟨S288x32, .i32⟩ : BufTy).Contents (Elt F)) = select (V (Proc.devRef .tc main_v46) : (⟨S288x32, .i1⟩ : BufTy).Contents (Elt F)) (broadcastInDim S288x32 ![1] bcast_S32_S288x32_1 (V (Proc.devRef .tc main_v41) : (⟨S32, .i32⟩ : BufTy).Contents (Elt F))) (broadcastInDim S288x32 ![] bcast_S_S288x32 (V (Proc.devRef .tc main_c_13) : (⟨S_, .i32⟩ : BufTy).Contents (Elt F))) := by
  after_reads_simp
  all_goals rfl

theorem r14_v52 : (after hostOps0_14 V (Proc.devRef .tc main_v52) : (⟨S288, .i32⟩ : BufTy).Contents (Elt F)) = Host.reduce IntOp.addi (V (Proc.devRef .tc main_v51) : (⟨S288x32, .i32⟩ : BufTy).Contents (Elt F)) (constantI S_ 32 0#32) reducesTo_S288x32_S288_d1 h_S_ := by
  after_reads_simp
  all_goals rfl

/-! ## The contents after each stretch -/

variable (m : (ℓ : Loc nD τ sig) → Buf (Elt F) ℓ) (c : Dev nD)

/-- The contents at the start. -/
abbrev U0 : Valuation τ sig (Elt F) := fun b => m (c, b)
abbrev U1 : Valuation τ sig (Elt F) := after hostOps0 (U0 m c)
abbrev U2 : Valuation τ sig (Elt F) := after hostOps0_1 (U1 m c)
abbrev U3 : Valuation τ sig (Elt F) := after hostOps0_2 (U2 m c)
abbrev U4 : Valuation τ sig (Elt F) := after hostOps0_3 (U3 m c)
abbrev U5 : Valuation τ sig (Elt F) := after hostOps0_4 (U4 m c)
abbrev U6 : Valuation τ sig (Elt F) := after hostOps0_5 (U5 m c)
abbrev U7 : Valuation τ sig (Elt F) := after hostOps0_6 (U6 m c)
abbrev U8 : Valuation τ sig (Elt F) := after hostOps0_7 (U7 m c)
abbrev U9 : Valuation τ sig (Elt F) := after hostOps0_8 (U8 m c)
abbrev U10 : Valuation τ sig (Elt F) := after hostOps0_9 (U9 m c)
abbrev U11 : Valuation τ sig (Elt F) := after hostOps0_10 (U10 m c)
abbrev U12 : Valuation τ sig (Elt F) := after hostOps0_11 (U11 m c)
abbrev U13 : Valuation τ sig (Elt F) := after hostOps0_12 (U12 m c)
abbrev U14 : Valuation τ sig (Elt F) := after hostOps0_13 (U13 m c)
abbrev U15 : Valuation τ sig (Elt F) := after hostOps0_14 (U14 m c)

theorem entry_eq : entry m c = U15 m c := by
  unfold entry opss
  simp only [List.flatten_cons, List.flatten_nil, List.append_nil, after_append]

/-- The buffers any stretch writes. -/
abbrev allW : List (Ref sig .tc) := [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_2, main_v5, main_v6, main_call1_call0_c, main_call1_call0_v0, main_v7, main_v8, main_c_3, main_v9, main_v10, main_v11, main_v12, main_v13, main_v14, main_v15, main_v16, main_c_4, main_v17, main_c_5, main_v18, main_v19, main_v20, main_v21, main_c_6, main_call2_v0, main_call2_v1, main_call2_v2, main_call2_v3, main_call2_v4, main_call2_v5, main_call2_c, main_call2_v6, main_call2_v7, main_call2_c_0, main_call2_v8, main_v22, main_v23, main_v24, main_c_7, main_v25, main_v26, main_v27, main_call3_call0_c, main_call3_call0_v0, main_v28, main_v29, main_v30, main_v31, main_v32, main_v33, main_v34, main_v35, main_v36, main_v37, main_v38, main_v39, main_c_8, main_call4_v0, main_call4_v1, main_call4_v2, main_v40, main_c_9, main_v41, main_v42, main_v43, main_v44, main_v45, main_v46, main_c_10, main_v47, main_v48, main_c_11, main_call5_v0, main_call5_v1, main_call5_v2, main_v49, main_c_12, main_v50, main_c_13, main_call6_v0, main_call6_v1, main_call6_v2, main_v51, main_c_14, main_v52]

theorem kp0 {r : Ref sig .tc} (h : r ∉ [main_c, main_v0, main_v1, main_c_0, main_v2, main_v3, main_c_1]) : after hostOps0 V (Proc.devRef .tc r) = V (Proc.devRef .tc r) := after_unwritten _ wr0 h V
theorem kp1 {r : Ref sig .tc} (h : r ∉ [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]) : after hostOps0_1 V (Proc.devRef .tc r) = V (Proc.devRef .tc r) := after_unwritten _ wr1 h V
theorem kp2 {r : Ref sig .tc} (h : r ∉ [main_c_2, main_v5, main_v6]) : after hostOps0_2 V (Proc.devRef .tc r) = V (Proc.devRef .tc r) := after_unwritten _ wr2 h V
theorem kp3 {r : Ref sig .tc} (h : r ∉ [main_call1_call0_c, main_call1_call0_v0, main_v7]) : after hostOps0_3 V (Proc.devRef .tc r) = V (Proc.devRef .tc r) := after_unwritten _ wr3 h V
theorem kp4 {r : Ref sig .tc} (h : r ∉ [main_v8, main_c_3, main_v9, main_v10, main_v11, main_v12, main_v13, main_v14, main_v15, main_v16, main_c_4, main_v17, main_c_5, main_v18, main_v19, main_v20, main_v21, main_c_6]) : after hostOps0_4 V (Proc.devRef .tc r) = V (Proc.devRef .tc r) := after_unwritten _ wr4 h V
theorem kp5 {r : Ref sig .tc} (h : r ∉ [main_call2_v0, main_call2_v1, main_call2_v2, main_call2_v3, main_call2_v4, main_call2_v5, main_call2_c, main_call2_v6, main_call2_v7, main_call2_c_0, main_call2_v8, main_v22]) : after hostOps0_5 V (Proc.devRef .tc r) = V (Proc.devRef .tc r) := after_unwritten _ wr5 h V
theorem kp6 {r : Ref sig .tc} (h : r ∉ [main_v23, main_v24, main_c_7, main_v25, main_v26, main_v27]) : after hostOps0_6 V (Proc.devRef .tc r) = V (Proc.devRef .tc r) := after_unwritten _ wr6 h V
theorem kp7 {r : Ref sig .tc} (h : r ∉ [main_call3_call0_c, main_call3_call0_v0, main_v28]) : after hostOps0_7 V (Proc.devRef .tc r) = V (Proc.devRef .tc r) := after_unwritten _ wr7 h V
theorem kp8 {r : Ref sig .tc} (h : r ∉ [main_v29, main_v30, main_v31, main_v32, main_v33, main_v34, main_v35, main_v36, main_v37, main_v38, main_v39, main_c_8]) : after hostOps0_8 V (Proc.devRef .tc r) = V (Proc.devRef .tc r) := after_unwritten _ wr8 h V
theorem kp9 {r : Ref sig .tc} (h : r ∉ [main_call4_v0, main_call4_v1, main_call4_v2, main_v40]) : after hostOps0_9 V (Proc.devRef .tc r) = V (Proc.devRef .tc r) := after_unwritten _ wr9 h V
theorem kp10 {r : Ref sig .tc} (h : r ∉ [main_c_9, main_v41, main_v42, main_v43, main_v44, main_v45, main_v46, main_c_10, main_v47, main_v48, main_c_11]) : after hostOps0_10 V (Proc.devRef .tc r) = V (Proc.devRef .tc r) := after_unwritten _ wr10 h V
theorem kp11 {r : Ref sig .tc} (h : r ∉ [main_call5_v0, main_call5_v1, main_call5_v2, main_v49]) : after hostOps0_11 V (Proc.devRef .tc r) = V (Proc.devRef .tc r) := after_unwritten _ wr11 h V
theorem kp12 {r : Ref sig .tc} (h : r ∉ [main_c_12, main_v50, main_c_13]) : after hostOps0_12 V (Proc.devRef .tc r) = V (Proc.devRef .tc r) := after_unwritten _ wr12 h V
theorem kp13 {r : Ref sig .tc} (h : r ∉ [main_call6_v0, main_call6_v1, main_call6_v2, main_v51]) : after hostOps0_13 V (Proc.devRef .tc r) = V (Proc.devRef .tc r) := after_unwritten _ wr13 h V
theorem kp14 {r : Ref sig .tc} (h : r ∉ [main_c_14, main_v52]) : after hostOps0_14 V (Proc.devRef .tc r) = V (Proc.devRef .tc r) := after_unwritten _ wr14 h V

theorem entry_arg0 : entry m c (Proc.devRef .tc main_arg0) = m ((c : Thread nD τ).loc main_arg0) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg1 : entry m c (Proc.devRef .tc main_arg1) = m ((c : Thread nD τ).loc main_arg1) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg2 : entry m c (Proc.devRef .tc main_arg2) = m ((c : Thread nD τ).loc main_arg2) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg3 : entry m c (Proc.devRef .tc main_arg3) = m ((c : Thread nD τ).loc main_arg3) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg4 : entry m c (Proc.devRef .tc main_arg4) = m ((c : Thread nD τ).loc main_arg4) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg5 : entry m c (Proc.devRef .tc main_arg5) = m ((c : Thread nD τ).loc main_arg5) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg6 : entry m c (Proc.devRef .tc main_arg6) = m ((c : Thread nD τ).loc main_arg6) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

theorem entry_arg7 : entry m c (Proc.devRef .tc main_arg7) = m ((c : Thread nD τ).loc main_arg7) := by
  rw [entry_eq]
  exact (kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans ((kp4 _ (by decide)).trans ((kp3 _ (by decide)).trans ((kp2 _ (by decide)).trans ((kp1 _ (by decide)).trans ((kp0 _ (by decide)).trans (rfl)))))))))))))))

end Cert.KernelIdeal.Own
-- ==== Proof.Plan.lean ====
/- The plan of the experts' call over the naturals: from the number of rows of each expert, the blocks of 256 rows each
   takes, the expert of each block, the slot its weights lie in and the expert that follows it. -/
module

public import Mathlib.Data.Nat.Count
public import Mathlib.Algebra.BigOperators.Fin
public import Mathlib.Data.Finset.Fold
public import Mathlib.Algebra.Order.BigOperators.Group.Finset

@[expose] public section

namespace Cert.Plan

/-- The numbers of rows the experts have: at most 65536 each, 65536 in all. -/
structure Counts (C : ℕ → ℕ) : Prop where
  le : ∀ e, C e ≤ 65536
  sum : ((List.range 32).map C).sum = 65536

variable (C : ℕ → ℕ)

/-- Blocks of expert `e`. -/
def nb (e : ℕ) : ℕ := (C e + 255) / 256
/-- Blocks before expert `e`. -/
def lo (e : ℕ) : ℕ := ((List.range e).map (nb C)).sum
/-- Experts with rows before expert `e`. -/
def rank (e : ℕ) : ℕ := ((List.range e).map fun i => if 0 < C i then 1 else 0).sum
/-- The expert with rows that follows expert `e`, 32 when there is none. -/
def follow (e : ℕ) : ℕ := (Finset.univ : Finset (Fin 32)).fold min 2147483647 fun j => if e < j.val ∧ 0 < C j.val then j.val else 32
/-- The expert of block `t`. -/
def ex (t : ℕ) : ℕ := min (Nat.count (fun e => lo C (e + 1) ≤ t) 32) 31

theorem lo_succ (e : ℕ) : lo C (e + 1) = lo C e + nb C e := by
  unfold lo
  rw [List.range_succ, List.map_append, List.sum_append, List.map_singleton, List.sum_singleton]

theorem rank_succ (e : ℕ) : rank C (e + 1) = rank C e + if 0 < C e then 1 else 0 := by
  unfold rank
  rw [List.range_succ, List.map_append, List.sum_append, List.map_singleton, List.sum_singleton]

theorem lo_mono {a b : ℕ} (h : a ≤ b) : lo C a ≤ lo C b := by
  induction b, h using Nat.le_induction with
  | base => exact le_rfl
  | succ b _ ih => rw [lo_succ]; omega

/-- The blocks' rows in steps of 256. -/
theorem lo_rows (e : ℕ) : ((List.range e).map fun i => nb C i * 256).sum = lo C e * 256 := by
  induction e with
  | zero => rfl
  | succ e ih =>
    rw [List.range_succ, List.map_append, List.sum_append, List.map_singleton, List.sum_singleton, ih, lo_succ, Nat.add_mul]

theorem lo_bound (e : ℕ) : ((List.range e).map C).sum ≤ 256 * lo C e ∧ 256 * lo C e ≤ ((List.range e).map C).sum + 255 * e := by
  induction e with
  | zero => exact ⟨le_rfl, le_rfl⟩
  | succ e ih =>
    rw [List.range_succ, List.map_append, List.sum_append, List.map_singleton, List.sum_singleton, lo_succ]
    unfold nb
    omega

theorem pos_of_nb {e : ℕ} (h : 0 < nb C e) : 0 < C e := by
  unfold nb at h
  omega

theorem nb_of_pos {e : ℕ} (h : nb C e = 0) : ¬ 0 < C e := by
  unfold nb at h
  omega

theorem n_pos (h : Counts C) : 1 ≤ lo C 32 := by
  have := (lo_bound C 32).1
  rw [h.sum] at this
  omega

theorem n_le (h : Counts C) : lo C 32 ≤ 288 := by
  have := (lo_bound C 32).2
  rw [h.sum] at this
  omega

theorem ex_lt (t : ℕ) : ex C t < 32 := by
  unfold ex
  omega

theorem count_of_cut (p : ℕ → Prop) [DecidablePred p] (k : ℕ) (hk : ∀ e, e < k → p e) (n : ℕ) (hn : ∀ e, k ≤ e → e < n → ¬ p e) :
    Nat.count p n = min k n := by
  induction n with
  | zero => simp
  | succ n ih =>
    rw [Nat.count_succ, ih fun e h1 h2 => hn e h1 (by omega)]
    by_cases h : n < k
    · rw [if_pos (hk n h)]; omega
    · rw [if_neg (hn n (by omega) (by omega))]; omega

/-- A block of the plan lies among its expert's. -/
theorem ex_spec {t : ℕ} (ht : t < lo C 32) : lo C (ex C t) ≤ t ∧ t < lo C (ex C t + 1) := by
  have key : ∃ k, k < 32 ∧ lo C k ≤ t ∧ t < lo C (k + 1) := by
    have : ∀ m, t < lo C m → ∃ k, k < m ∧ lo C k ≤ t ∧ t < lo C (k + 1) := by
      intro m
      induction m with
      | zero => intro h; exact absurd h (Nat.not_lt_zero _)
      | succ m ih =>
        intro h
        by_cases h2 : t < lo C m
        · obtain ⟨k, h3, h4⟩ := ih h2
          exact ⟨k, by omega, h4⟩
        · exact ⟨m, Nat.lt_succ_self m, by omega, h⟩
    exact this 32 ht
  obtain ⟨k, hk, h1, h2⟩ := key
  have e : ex C t = k := by
    unfold ex
    rw [count_of_cut (fun e => lo C (e + 1) ≤ t) k (fun e he => le_trans (lo_mono C he) h1) 32 (fun e he _ => by
      have : lo C (k + 1) ≤ lo C (e + 1) := lo_mono C (by omega)
      omega)]
    omega
  rw [e]
  exact ⟨h1, h2⟩

theorem ex_pos {t : ℕ} (ht : t < lo C 32) : 0 < C (ex C t) := by
  refine pos_of_nb C ?_
  have := ex_spec C ht
  rw [lo_succ] at this
  omega

theorem follow_le (e : ℕ) : follow C e ≤ 32 := by
  unfold follow
  refine (Finset.fold_min_le (s := Finset.univ) (f := fun j : Fin 32 => if e < j.val ∧ 0 < C j.val then j.val else 32) 32).2 (Or.inr ⟨0, Finset.mem_univ _, ?_⟩)
  split <;> simp

theorem follow_le_of {e j : ℕ} (hj : j < 32) (h1 : e < j) (h2 : 0 < C j) : follow C e ≤ j := by
  unfold follow
  refine (Finset.fold_min_le (s := Finset.univ) (f := fun j : Fin 32 => if e < j.val ∧ 0 < C j.val then j.val else 32) j).2 (Or.inr ⟨⟨j, hj⟩, Finset.mem_univ _, ?_⟩)
  show (if e < j ∧ 0 < C j then j else 32) ≤ j
  rw [if_pos ⟨h1, h2⟩]

theorem le_follow {e k : ℕ} (hk : k ≤ 32) (h : ∀ j, j < 32 → e < j → 0 < C j → k ≤ j) : k ≤ follow C e := by
  unfold follow
  refine (Finset.le_fold_min (s := Finset.univ) (f := fun j : Fin 32 => if e < j.val ∧ 0 < C j.val then j.val else 32) k).2 ⟨by omega, fun j _ => ?_⟩
  split
  · rename_i hj
    exact h j.val j.isLt hj.1 hj.2
  · exact hk

/-- No expert strictly between two neighbouring blocks' experts has rows. -/
theorem gap {t : ℕ} (ht : t + 1 < lo C 32) {e : ℕ} (h1 : ex C t < e) (h2 : e < ex C (t + 1)) : ¬ 0 < C e := by
  refine nb_of_pos C ?_
  have a := ex_spec C (show t < lo C 32 by omega)
  have b := ex_spec C ht
  have c1 := lo_mono C (show ex C t + 1 ≤ e by omega)
  have c2 := lo_mono C (show e + 1 ≤ ex C (t + 1) by omega)
  have c3 := lo_succ C e
  omega

theorem ex_mono {t : ℕ} (ht : t + 1 < lo C 32) : ex C t ≤ ex C (t + 1) := by
  have a := ex_spec C (show t < lo C 32 by omega)
  have b := ex_spec C ht
  by_contra hc
  have := lo_mono C (show ex C (t + 1) + 1 ≤ ex C t by omega)
  omega

theorem follow_next {t : ℕ} (ht : t + 1 < lo C 32) (h : ex C (t + 1) ≠ ex C t) : ex C (t + 1) = follow C (ex C t) := by
  have hm := ex_mono C ht
  refine le_antisymm (le_follow C (ex_lt C _).le fun j _ h1 h2 => ?_) (follow_le_of C (ex_lt C _) (by omega) (ex_pos C ht))
  by_contra hc
  exact gap C ht h1 (by omega) h2

theorem rank_gap (a : ℕ) : ∀ b, a ≤ b → (∀ e, a ≤ e → e < b → ¬ 0 < C e) → rank C b = rank C a := by
  intro b hb
  induction b, hb using Nat.le_induction with
  | base => intro _; rfl
  | succ b hb ih =>
    intro h
    rw [rank_succ, ih fun e h1 h2 => h e h1 (by omega), if_neg (h b hb (by omega))]
    rfl

theorem rank_next {t : ℕ} (ht : t + 1 < lo C 32) (h : ex C (t + 1) ≠ ex C t) : rank C (ex C (t + 1)) % 2 = 1 - rank C (ex C t) % 2 := by
  have hm := ex_mono C ht
  rw [rank_gap C (ex C t + 1) (ex C (t + 1)) (by omega) fun e h1 h2 => gap C ht (by omega) h2, rank_succ,
    if_pos (ex_pos C (show t < lo C 32 by omega))]
  omega

theorem follow_last (h : Counts C) : follow C (ex C (lo C 32 - 1)) = 32 := by
  have hn := n_pos C h
  have a := ex_spec C (show lo C 32 - 1 < lo C 32 by omega)
  refine le_antisymm (follow_le C _) (le_follow C le_rfl fun j hj h1 h2 => absurd h2 (nb_of_pos C ?_))
  have c1 := lo_mono C (show ex C (lo C 32 - 1) + 1 ≤ j by omega)
  have c2 := lo_mono C (show j + 1 ≤ 32 by omega)
  have c3 := lo_succ C j
  omega

theorem lo_small (h : Counts C) {e : ℕ} (he : e ≤ 32) : lo C e * 256 < 2 ^ 31 := by
  have := lo_mono C he
  have := n_le C h
  omega

theorem rank_le (e : ℕ) : rank C e ≤ e := by
  induction e with
  | zero => exact le_rfl
  | succ e ih =>
    rw [rank_succ]
    split <;> omega

end Cert.Plan
-- ==== Proof.Words.lean ====
/- The plan's words: what the host's integer lines compute at an index, when the counts are words of small numbers. Stated
   over the plain shapes, so that the kernel's host code and the reference share them. -/
module

public import proofs.«01_k».proof.Proof.Plan
public import Idealize.ShloMosaic.Lib.Routing.OpsSearch
public import Idealize.ShloMosaic.Lib.Routing.Words

@[expose] public section

noncomputable section

namespace Cert.Plan

open Idealize.ShloMosaic Idealize.ShloMosaic.ValueIdx Idealize.ShloMosaic.Routing Idealize.ShloMosaic.WordCmp

theorem lift_row {n m : ℕ} (h : (shape2 n m).Reduces [1] (shape1 n)) (i : Fin n) (q : Fin ((shape2 n m).size 1)) :
    h.lift (ix1 i) q = ix2 i (⟨q.val, q.isLt⟩ : Fin m) := by
  funext c; apply Fin.ext
  fin_cases c <;> rfl

theorem fold_add (s : Finset (Fin 32)) (f : Fin 32 → ℕ) :
    s.fold IntOp.addi (0#32) (fun q => BitVec.ofNat 32 (f q)) = BitVec.ofNat 32 (∑ q ∈ s, f q) := by
  induction s using Finset.induction_on with
  | empty => rfl
  | insert a s ha ih =>
    rw [Finset.fold_insert ha, Finset.sum_insert ha, ih, BitVec.ofNat_add]
    rfl

theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left h.le]
  · rw [if_neg (fun e => h (of_decide_eq_true e)), Nat.min_eq_right (by omega)]

theorem fold_minsi (s : Finset (Fin 32)) (f : Fin 32 → ℕ) (hf : ∀ q, f q < 2 ^ 31) :
    s.fold IntOp.minsi (2147483647#32) (fun q => BitVec.ofNat 32 (f q)) = BitVec.ofNat 32 (s.fold min 2147483647 f)
      ∧ s.fold min 2147483647 f < 2 ^ 31 := by
  induction s using Finset.induction_on with
  | empty => exact ⟨rfl, show (2147483647 : ℕ) < 2 ^ 31 by decide⟩
  | insert a s ha ih =>
    rw [Finset.fold_insert ha, Finset.fold_insert ha, ih.1, minsi_word (hf a) ih.2]
    exact ⟨rfl, lt_of_le_of_lt (Nat.min_le_left _ _) (hf a)⟩

/-- The sum of a row of words. -/
theorem row_sum {n : ℕ} (x : IVec (shape2 n 32) 32) (h' : (shape2 n 32).ReducesTo [1] (shape1 n)) (h : (shape2 n 32).Reduces [1] (shape1 n))
    (hu : 0 < shape0.numel) (i : Fin n) (f : Fin 32 → ℕ) (hx : ∀ q, x (ix2 i q) = BitVec.ofNat 32 (f q)) :
    Host.reduce IntOp.addi x (constantI shape0 32 0#32) h' hu (ix1 i) = BitVec.ofNat 32 (∑ q, f q) := by
  rw [Host.reduce_eq_fold_single IntOp.addi x _ h' h hu (ix1 i)]
  refine (congrArg (fun g => Finset.fold IntOp.addi (0#32) g Finset.univ) (funext fun q => ?_)).trans (fold_add Finset.univ f)
  exact (congrArg x (lift_row h i q)).trans (hx _)

/-- The least of a row of words. -/
theorem row_min {n : ℕ} (x : IVec (shape2 n 32) 32) (h' : (shape2 n 32).ReducesTo [1] (shape1 n)) (h : (shape2 n 32).Reduces [1] (shape1 n))
    (hu : 0 < shape0.numel) (i : Fin n) (f : Fin 32 → ℕ) (hf : ∀ q, f q < 2 ^ 31) (hx : ∀ q, x (ix2 i q) = BitVec.ofNat 32 (f q)) :
    Host.reduce IntOp.minsi x (constantI shape0 32 2147483647#32) h' hu (ix1 i)
      = BitVec.ofNat 32 ((Finset.univ : Finset (Fin 32)).fold min 2147483647 f) := by
  rw [Host.reduce_eq_fold_single IntOp.minsi x _ h' h hu (ix1 i)]
  refine (congrArg (fun g => Finset.fold IntOp.minsi (2147483647#32) g Finset.univ) (funext fun q => ?_)).trans (fold_minsi Finset.univ f hf).1
  exact (congrArg x (lift_row h i q)).trans (hx _)

variable {C : ℕ → ℕ} (hC : Counts C)

section
include hC

/-- Blocks of each expert. -/
theorem blocks_word (x : IVec (shape1 32) 32) (hb : shape0.BroadcastsInDim (shape1 32) (![] : Fin 0 → Fin 1))
    (d : IVec shape0 32) (hd : d ix0 = BitVec.ofNat 32 256) (e : Fin 32) (hx : x (ix1 e) = BitVec.ofNat 32 (C e.val + 255)) :
    pyDiv hb x d (ix1 e) = BitVec.ofNat 32 (nb C e.val) :=
  pyDiv_ap hb x d (ix1 e) hx hd (by have := hC.le e.val; omega) (by decide) (by decide)

/-- The ends of the experts' rows. -/
theorem ends_word (x : IVec (shape1 32) 32) (hx : ∀ e : Fin 32, x (ix1 e) = BitVec.ofNat 32 (nb C e.val * 256)) (init : IVec shape0 32)
    (hi : init ix0 = 0#32) (h : (shape1 32).ReduceWindows (![32] : Fin 1 → Nat) ![1] ![31] ![0] (shape1 32)) (hu : 0 < shape0.numel) (e : Fin 32) :
    Host.reduceWindow IntOp.addi ![32] ![1] ![31] ![0] x init h hu (ix1 e) = BitVec.ofNat 32 (lo C (e.val + 1) * 256) := by
  rw [cumsum1 (N := 32) (Nm1 := 31) rfl x (fun i => nb C i * 256) hx init hi h hu e, lo_rows]

/-- The expert of a block. -/
theorem ex_word (x : IVec (shape1 32) 32) (hx : ∀ e : Fin 32, x (ix1 e) = BitVec.ofNat 32 (lo C (e.val + 1) * 256))
    (y : IVec (shape1 288) 32) (hy : ∀ t : Fin 288, y (ix1 t) = BitVec.ofNat 32 (t.val * 256))
    (b1 : (shape1 32).BroadcastsInDim (shape2 1 32) (![1] : Fin 1 → Fin 2)) (b2 : (shape2 1 32).BroadcastsInDim (shape2 288 32) (![0, 1] : Fin 2 → Fin 2))
    (b3 : (shape1 288).BroadcastsInDim (shape2 288 1) (![0] : Fin 1 → Fin 2)) (b4 : (shape2 288 1).BroadcastsInDim (shape2 288 32) (![0, 1] : Fin 2 → Fin 2))
    (b5 : shape0.BroadcastsInDim (shape1 288) (![] : Fin 0 → Fin 1)) (hw : 1 < 32) (h : (shape2 288 32).ReducesTo [1] (shape1 288)) (hu : 0 < shape0.numel)
    (t : Fin 288) :
    minsi (Host.reduce IntOp.addi (extui 32 (cmpi .sle (broadcastInDim (shape2 288 32) ![0, 1] b2 (broadcastInDim (shape2 1 32) ![1] b1 x))
      (broadcastInDim (shape2 288 32) ![0, 1] b4 (broadcastInDim (shape2 288 1) ![0] b3 y))) hw) (constantI shape0 32 0#32) h hu)
      (broadcastInDim (shape1 288) ![] b5 (constantI shape0 32 31#32)) (ix1 t) = BitVec.ofNat 32 (ex C t.val) := by
  show IntOp.minsi _ _ = _
  rw [reduce_count (by decide) _ hw h hu t (fun e => lo C (e + 1) ≤ t.val) (fun q => by
    rw [cmpi_at, bcCols, bcRows, hx, hy, cmpi_sle_ofNat_eq_one_iff (lo_small C hC q.isLt) (by have := t.isLt; omega)]
    omega), bc0, constantI_at]
  exact minsi_word (lt_of_le_of_lt (Nat.count_le _) (by decide)) (by decide)

end

end Cert.Plan
-- ==== Proof.Tables.lean ====
/- The launch's tables as the host lines leave them, read at an index: the plan over the naturals (`Plan`) of the counts,
   and that the launch's contents are then those the body was proved at (`Env.OK`). -/
module

public import proofs.«01_k».proof.Proof.Reads
public import proofs.«01_k».proof.Proof.Words

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.StableHlo Idealize.ShloMosaic.Routing Idealize.ShloMosaic.ValueIdx Idealize.ShloMosaic.WordCmp Cert.Plan

variable (m : (ℓ : Loc nD τ sig) → Buf (Elt F) ℓ) (c : Dev nD) (C : ℕ → ℕ)

/-- The counts' words. -/
def Holds : Prop := ∀ e : Fin 32, (m ((c : Thread nD τ).loc main_arg0) : IVec S32 32) (ix1 e) = BitVec.ofNat 32 (C e.val)

variable (hC : Counts C) (hm : Holds m c C)

theorem arg0_6 : (U6 m c (Proc.devRef .tc main_arg0) : (⟨S32, .i32⟩ : BufTy).Contents (Elt F)) = U0 m c (Proc.devRef .tc main_arg0) := ((kp5 _ (by decide)).trans ((kp4 _ (by decide)).trans ((kp3 _ (by decide)).trans ((kp2 _ (by decide)).trans ((kp1 _ (by decide)).trans ((kp0 _ (by decide)).trans (rfl)))))))
theorem v19_10 : (U10 m c (Proc.devRef .tc main_v19) : (⟨S288, .i32⟩ : BufTy).Contents (Elt F)) = U5 m c (Proc.devRef .tc main_v19) := ((kp9 _ (by decide)).trans ((kp8 _ (by decide)).trans ((kp7 _ (by decide)).trans ((kp6 _ (by decide)).trans ((kp5 _ (by decide)).trans (rfl))))))
theorem v19_15 : (U15 m c (Proc.devRef .tc main_v19) : (⟨S288, .i32⟩ : BufTy).Contents (Elt F)) = U5 m c (Proc.devRef .tc main_v19) := ((kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans ((kp6 _ (by decide)).trans ((kp5 _ (by decide)).trans (rfl)))))))))))
theorem v23_15 : (U15 m c (Proc.devRef .tc main_v23) : (⟨S1, .i32⟩ : BufTy).Contents (Elt F)) = U7 m c (Proc.devRef .tc main_v23) := ((kp14 _ (by decide)).trans ((kp13 _ (by decide)).trans ((kp12 _ (by decide)).trans ((kp11 _ (by decide)).trans ((kp10 _ (by decide)).trans ((kp9 _ (by decide)).trans ((kp8 _ (by decide)).trans ((kp7 _ (by decide)).trans (rfl)))))))))
theorem v50_15 : (U15 m c (Proc.devRef .tc main_v50) : (⟨S288, .i32⟩ : BufTy).Contents (Elt F)) = U13 m c (Proc.devRef .tc main_v50) := ((kp14 _ (by decide)).trans ((kp13 _ (by decide)).trans (rfl)))
theorem v26_8 : (U8 m c (Proc.devRef .tc main_v26) : (⟨S32, .i1⟩ : BufTy).Contents (Elt F)) = U7 m c (Proc.devRef .tc main_v26) := ((kp7 _ (by decide)).trans (rfl))
theorem v24_8 : (U8 m c (Proc.devRef .tc main_v24) : (⟨S32, .i32⟩ : BufTy).Contents (Elt F)) = U7 m c (Proc.devRef .tc main_v24) := ((kp7 _ (by decide)).trans (rfl))
theorem v24_10 : (U10 m c (Proc.devRef .tc main_v24) : (⟨S32, .i32⟩ : BufTy).Contents (Elt F)) = U7 m c (Proc.devRef .tc main_v24) := ((kp9 _ (by decide)).trans ((kp8 _ (by decide)).trans ((kp7 _ (by decide)).trans (rfl))))
theorem v30_10 : (U10 m c (Proc.devRef .tc main_v30) : (⟨S32, .i32⟩ : BufTy).Contents (Elt F)) = U9 m c (Proc.devRef .tc main_v30) := ((kp9 _ (by decide)).trans (rfl))
theorem v38_9 : (U9 m c (Proc.devRef .tc main_v38) : (⟨S32x32, .i1⟩ : BufTy).Contents (Elt F)) = U9 m c (Proc.devRef .tc main_v38) := (rfl)
theorem v46_11 : (U11 m c (Proc.devRef .tc main_v46) : (⟨S288x32, .i1⟩ : BufTy).Contents (Elt F)) = U11 m c (Proc.devRef .tc main_v46) := (rfl)
theorem v46_13 : (U13 m c (Proc.devRef .tc main_v46) : (⟨S288x32, .i1⟩ : BufTy).Contents (Elt F)) = U11 m c (Proc.devRef .tc main_v46) := ((kp12 _ (by decide)).trans ((kp11 _ (by decide)).trans (rfl)))
theorem v41_13 : (U13 m c (Proc.devRef .tc main_v41) : (⟨S32, .i32⟩ : BufTy).Contents (Elt F)) = U11 m c (Proc.devRef .tc main_v41) := ((kp12 _ (by decide)).trans ((kp11 _ (by decide)).trans (rfl)))

section
include hC hm

theorem t3 (e : Fin 32) : (U1 m c (Proc.devRef .tc main_v3) : IVec S32 32) (ix1 e) = BitVec.ofNat 32 (C e.val + 255) := by
  refine (congrFun (r0_v3 (U0 m c)) (ix1 e)).trans ?_
  have h : (U0 m c (Proc.devRef .tc main_arg0) : IVec S32 32) (ix1 e) = _ := hm e
  rw [subi_ap, addi_ap, bc0, bc0, constantI_at, constantI_at, h, show (256#32 : BitVec 32) = BitVec.ofNat 32 256 from rfl, ← BitVec.ofNat_add, show (1#32 : BitVec 32) = BitVec.ofNat 32 1 from rfl,
    ofNat32_sub (by omega)]
  rfl

theorem t4 (e : Fin 32) : (U2 m c (Proc.devRef .tc main_v4) : IVec S32 32) (ix1 e) = BitVec.ofNat 32 (nb C e.val) :=
  (congrFun (r1_v4 (U1 m c)) (ix1 e)).trans (blocks_word hC _ _ _ (congrFun (r0_c1 (U0 m c)) ValueIdx.ix0) e (t3 m c C hC hm e))

theorem t6 (e : Fin 32) : (U3 m c (Proc.devRef .tc main_v6) : IVec S32 32) (ix1 e) = BitVec.ofNat 32 (nb C e.val * 256) := by
  refine (congrFun (r2_v6 (U2 m c)) (ix1 e)).trans ?_
  rw [muli_ap, bc0, constantI_at, t4 m c C hC hm e, BitVec.ofNat_mul]

theorem t7 (e : Fin 32) : (U4 m c (Proc.devRef .tc main_v7) : IVec S32 32) (ix1 e) = BitVec.ofNat 32 (lo C (e.val + 1) * 256) :=
  (congrFun (r3_v7 (U3 m c)) (ix1 e)).trans (ends_word hC _ (t6 m c C hC hm) _ rfl _ _ e)

theorem t19 (t : Fin 288) : (U5 m c (Proc.devRef .tc main_v19) : IVec S288 32) (ix1 t) = BitVec.ofNat 32 (ex C t.val) :=
  (congrFun (r4_v19 (U4 m c)) (ix1 t)).trans (ex_word hC _ (t7 m c C hC hm) _ (fun t => (BitVec.ofNat_mul _ _).symm) _ _ _ _ _ _ _ _ t)

theorem t21 : (U5 m c (Proc.devRef .tc main_v21) : IVec S_ 32) ValueIdx.ix0 = BitVec.ofNat 32 (lo C 32 * 256) := by
  refine (congrFun (r4_v21 (U4 m c)) ValueIdx.ix0).trans ((shapeCast_apply _ _ _ (ix1 (0 : Fin 1)) rfl).trans ?_)
  exact (slice1 31 _ _ (0 : Fin 1) (by decide)).trans (t7 m c C hC hm 31)

theorem t22 : (U6 m c (Proc.devRef .tc main_v22) : IVec S_ 32) ValueIdx.ix0 = BitVec.ofNat 32 (lo C 32) := by
  refine (congrFun (r5_v22 (U5 m c)) ValueIdx.ix0).trans ?_
  rw [pyDiv0_ap _ _ (t21 m c C hC hm) (show _ = BitVec.ofNat 32 256 from congrFun (r4_c6 (U4 m c)) ValueIdx.ix0) (lo_small C hC le_rfl) (by decide) (by decide),
    Nat.mul_div_cancel _ (by decide)]

theorem t23 : (U7 m c (Proc.devRef .tc main_v23) : IVec S1 32) (ix1 (0 : Fin 1)) = BitVec.ofNat 32 (lo C 32) :=
  (congrFun (r6_v23 (U6 m c)) (ix1 (0 : Fin 1))).trans ((shapeCast_apply _ _ _ ValueIdx.ix0 rfl).trans (t22 m c C hC hm))

theorem t26 (e : Fin 32) : (U7 m c (Proc.devRef .tc main_v26) : IVec S32 1) (ix1 e) = BitVec.ofBool (decide (0 < C e.val)) := by
  refine (congrFun (r6_v26 (U6 m c)) (ix1 e)).trans ?_
  rw [cmpi_at, arg0_6]
  show IntOp.cmpi .sgt ((m ((c : Thread nD τ).loc main_arg0) : IVec S32 32) (ix1 e)) (BitVec.ofNat 32 0) = _
  rw [hm e, cmpi_sgt_ofNat (by have := hC.le e.val; omega) (by decide)]

theorem t27 (e : Fin 32) : (U7 m c (Proc.devRef .tc main_v27) : IVec S32 32) (ix1 e) = BitVec.ofNat 32 (if 0 < C e.val then 1 else 0) := by
  have h := t26 m c C hC hm e
  refine (congrFun (r6_v27 (U6 m c)) (ix1 e)).trans (Eq.trans ?_ (setWidth_ofBool (0 < C e.val)))
  exact congrArg (BitVec.setWidth 32) ((congrFun (r6_v26 (U6 m c)) (ix1 e)).symm.trans h)

theorem t28 (e : Fin 32) : (U8 m c (Proc.devRef .tc main_v28) : IVec S32 32) (ix1 e) = BitVec.ofNat 32 (rank C (e.val + 1)) :=
  (congrFun (r7_v28 (U7 m c)) (ix1 e)).trans
    (cumsum1 (N := 32) (Nm1 := 31) rfl _ (fun i => if 0 < C i then 1 else 0) (t27 m c C hC hm) _ rfl _ _ e)

theorem t30 (e : Fin 32) : (U9 m c (Proc.devRef .tc main_v30) : IVec S32 32) (ix1 e) = BitVec.ofNat 32 (rank C e.val) := by
  refine (congrFun (r8_v30 (U8 m c)) (ix1 e)).trans ?_
  rw [subi_ap, t28 m c C hC hm e, extui_at, v26_8, t26 m c C hC hm e, setWidth_ofBool, ofNat32_sub (by rw [rank_succ]; omega), rank_succ,
    Nat.add_sub_cancel]

theorem t24 (e : Fin 32) : (U7 m c (Proc.devRef .tc main_v24) : IVec S32 32) (ix1 e) = BitVec.ofNat 32 e.val :=
  congrFun (r6_v24 (U6 m c)) (ix1 e)

theorem t38 (e j : Fin 32) : (U9 m c (Proc.devRef .tc main_v38) : IVec S32x32 1) (ix2 e j) = BitVec.ofBool (decide (e.val < j.val ∧ 0 < C j.val)) := by
  refine (congrFun (r8_v38 (U8 m c)) (ix2 e j)).trans ?_
  rw [andi_at, cmpi_at, bcCols, bcCols, bcRows, v24_8, v26_8, t24 m c C hC hm, t24 m c C hC hm, t26 m c C hC hm,
    cmpi_sgt_ofNat (by have := j.isLt; omega) (by have := e.isLt; omega), Bool.decide_and]
  cases decide (e.val < j.val) <;> cases decide (0 < C j.val) <;> rfl

theorem t40 (e j : Fin 32) : (U10 m c (Proc.devRef .tc main_v40) : IVec S32x32 32) (ix2 e j)
    = BitVec.ofNat 32 (if e.val < j.val ∧ 0 < C j.val then j.val else 32) := by
  refine (congrFun (r9_v40 (U9 m c)) (ix2 e j)).trans ?_
  have h39 : (U9 m c (Proc.devRef .tc main_v39) : IVec S1x32 32) = broadcastInDim S1x32 ![1] bcast_S32_S1x32_1 (U8 m c (Proc.devRef .tc main_v24)) :=
    r8_v39 (U8 m c)
  have h8 : (U9 m c (Proc.devRef .tc main_c_8) : IVec S_ 32) = constantI S_ 32 32#32 := r8_c8 (U8 m c)
  rw [select_at, t38 m c C hC hm e j, h39, bcCols, bc0, h8, v24_8, t24 m c C hC hm, select_decide, constantI_at]
  split <;> rfl

theorem t41 (e : Fin 32) : (U11 m c (Proc.devRef .tc main_v41) : IVec S32 32) (ix1 e) = BitVec.ofNat 32 (follow C e.val) :=
  (congrFun (r10_v41 (U10 m c)) (ix1 e)).trans (row_min _ _ (by decide) _ e (fun j => if e.val < j.val ∧ 0 < C j.val then j.val else 32)
    (fun j => by have := j.isLt; split <;> omega) (t40 m c C hC hm e))

theorem t46 (t : Fin 288) (e : Fin 32) : (U11 m c (Proc.devRef .tc main_v46) : IVec S288x32 1) (ix2 t e) = BitVec.ofBool (decide (ex C t.val = e.val)) := by
  refine (congrFun (r10_v46 (U10 m c)) (ix2 t e)).trans ?_
  rw [cmpi_at, bcCols, bcRows, v19_10, v24_10, t24 m c C hC hm, t19 m c C hC hm,
    cmpi_eq_ofNat (by have := ex_lt C t.val; omega) (by have := e.isLt; omega)]

theorem t48 (e : Fin 32) : (U11 m c (Proc.devRef .tc main_v48) : IVec S32 32) (ix1 e) = BitVec.ofNat 32 (rank C e.val % 2) := by
  refine (congrFun (r10_v48 (U10 m c)) (ix1 e)).trans ?_
  have hr := rank_le C e.val
  have he := e.isLt
  rw [andi_at, v30_10, t30 m c C hC hm e]
  show BitVec.ofNat 32 (rank C e.val) &&& 1#32 = _
  refine BitVec.eq_of_toNat_eq ?_
  rw [BitVec.toNat_and, BitVec.toNat_ofNat, BitVec.toNat_ofNat, BitVec.toNat_ofNat, Nat.mod_eq_of_lt (show rank C e.val < 2 ^ 32 by omega),
    Nat.mod_eq_of_lt (show 1 < 2 ^ 32 by decide), Nat.and_one_is_mod, Nat.mod_eq_of_lt (show rank C e.val % 2 < 2 ^ 32 by omega)]

omit hC hm in
theorem pick (t : Fin 288) (f : ℕ → ℕ) : ∑ q : Fin 32, (if ex C t.val = q.val then f q.val else 0) = f (ex C t.val) := by
  rw [Finset.sum_eq_single (⟨ex C t.val, ex_lt C t.val⟩ : Fin 32)]
  · exact if_pos rfl
  · intro b _ hb
    exact if_neg fun h => hb (Fin.ext h.symm)
  · intro h
    exact absurd (Finset.mem_univ _) h

theorem t50 (t : Fin 288) : (U13 m c (Proc.devRef .tc main_v50) : IVec S288 32) (ix1 t) = BitVec.ofNat 32 (rank C (ex C t.val) % 2) := by
  refine (congrFun (r12_v50 (U12 m c)) (ix1 t)).trans ((row_sum _ _ (by decide) _ t (fun q => if ex C t.val = q.val then rank C q.val % 2 else 0) fun q => ?_).trans
    (congrArg (BitVec.ofNat 32) (pick C t fun q => rank C q % 2)))
  refine (congrFun (r11_v49 (U11 m c)) (ix2 t q)).trans ?_
  have h8 : (U11 m c (Proc.devRef .tc main_c_11) : IVec S_ 32) = constantI S_ 32 0#32 := r10_c11 (U10 m c)
  rw [select_at, t46 m c C hC hm t q, bc0, h8, select_decide, constantI_at]
  refine Eq.trans ?_ (apply_ite (BitVec.ofNat 32) _ _ _).symm
  refine ite_congr rfl (fun _ => ?_) (fun _ => rfl)
  refine (broadcastInDim_apply _ _ _ _ (ix1 q) fun a => ?_).trans (t48 m c C hC hm q)
  match a with
  | ⟨0, _⟩ => rfl

theorem t52 (t : Fin 288) : (U15 m c (Proc.devRef .tc main_v52) : IVec S288 32) (ix1 t) = BitVec.ofNat 32 (follow C (ex C t.val)) := by
  refine (congrFun (r14_v52 (U14 m c)) (ix1 t)).trans ((row_sum _ _ (by decide) _ t (fun q => if ex C t.val = q.val then follow C q.val else 0) fun q => ?_).trans
    (congrArg (BitVec.ofNat 32) (pick C t fun q => follow C q)))
  refine (congrFun (r13_v51 (U13 m c)) (ix2 t q)).trans ?_
  have h8 : (U13 m c (Proc.devRef .tc main_c_13) : IVec S_ 32) = constantI S_ 32 0#32 := r12_c13 (U12 m c)
  rw [select_at, v46_13, t46 m c C hC hm t q, bc0, h8, select_decide, constantI_at]
  refine Eq.trans ?_ (apply_ite (BitVec.ofNat 32) _ _ _).symm
  refine ite_congr rfl (fun _ => ?_) (fun _ => rfl)
  refine (broadcastInDim_apply _ _ _ _ (ix1 q) fun a => ?_).trans ((congrFun (v41_13 m c) (ix1 q)).trans (t41 m c C hC hm q))
  match a with
  | ⟨0, _⟩ => rfl

/-! ## The launch's contents -/

theorem e19 (t : Fin 288) : (entry m c (Proc.devRef .tc main_v19) : IVec S288 32) (ix1 t) = BitVec.ofNat 32 (ex C t.val) := by
  rw [entry_eq]
  exact (congrFun (v19_15 m c) (ix1 t)).trans (t19 m c C hC hm t)

theorem e50 (t : Fin 288) : (entry m c (Proc.devRef .tc main_v50) : IVec S288 32) (ix1 t) = BitVec.ofNat 32 (rank C (ex C t.val) % 2) := by
  rw [entry_eq]
  exact (congrFun (v50_15 m c) (ix1 t)).trans (t50 m c C hC hm t)

theorem e52 (t : Fin 288) : (entry m c (Proc.devRef .tc main_v52) : IVec S288 32) (ix1 t) = BitVec.ofNat 32 (follow C (ex C t.val)) := by
  rw [entry_eq]
  exact t52 m c C hC hm t

theorem e23 : (entry m c (Proc.devRef .tc main_v23) : IVec S1 32) (ix1 (0 : Fin 1)) = BitVec.ofNat 32 (lo C 32) := by
  rw [entry_eq]
  exact (congrFun (v23_15 m c) (ix1 (0 : Fin 1))).trans (t23 m c C hC hm)

end

variable (V : Valuation τ sig (Elt F)) (h19 : ∀ t : Fin 288, (V (Proc.devRef .tc main_v19) : IVec S288 32) (ix1 t) = BitVec.ofNat 32 (ex C t.val))
  (h50 : ∀ t : Fin 288, (V (Proc.devRef .tc main_v50) : IVec S288 32) (ix1 t) = BitVec.ofNat 32 (rank C (ex C t.val) % 2))
  (h52 : ∀ t : Fin 288, (V (Proc.devRef .tc main_v52) : IVec S288 32) (ix1 t) = BitVec.ofNat 32 (follow C (ex C t.val)))
  (h23 : (V (Proc.devRef .tc main_v23) : IVec S1 32) (ix1 (0 : Fin 1)) = BitVec.ofNat 32 (lo C 32))

include h19 in
theorem env_E {t : ℕ} (ht : t < 288) : (envV V).E t = ex C t := by
  show (if h : t < 288 then ((V (Proc.devRef .tc main_v19) : IVec S288 32) (at1 288 t h)).toNat else 0) = _
  rw [dif_pos ht]
  have := ex_lt C t
  exact (congrArg BitVec.toNat (h19 ⟨t, ht⟩)).trans (w32_toNat (by show ex C t < _; omega))

include h50 in
theorem env_S {t : ℕ} (ht : t < 288) : (envV V).S t = rank C (ex C t) % 2 := by
  show (if h : t < 288 then ((V (Proc.devRef .tc main_v50) : IVec S288 32) (at1 288 t h)).toNat else 0) = _
  rw [dif_pos ht]
  exact (congrArg BitVec.toNat (h50 ⟨t, ht⟩)).trans (w32_toNat (by show rank C (ex C t) % 2 < _; omega))

include h52 in
theorem env_W {t : ℕ} (ht : t < 288) : (envV V).W t = follow C (ex C t) := by
  show (if h : t < 288 then ((V (Proc.devRef .tc main_v52) : IVec S288 32) (at1 288 t h)).toNat else 0) = _
  rw [dif_pos ht]
  have := follow_le C (ex C t)
  exact (congrArg BitVec.toNat (h52 ⟨t, ht⟩)).trans (w32_toNat (by show follow C (ex C t) < _; omega))

include hC h23 in
theorem env_n : (envV V).n = lo C 32 := by
  have := n_le C hC
  exact (congrArg BitVec.toNat h23).trans (w32_toNat (by omega))

include hC h19 h50 h52 h23 in
/-- The launch's contents are those the body was proved at. -/
theorem envV_ok : (envV V).OK := by
  have hn := env_n C hC V h23
  have h288 := n_le C hC
  have h1 := n_pos C hC
  refine { npos := ?_, nle := ?_, E_lt := ?_, S_lt := ?_, W_le := ?_, same := ?_, next := ?_, last := ?_, hE := ?_, hS := ?_, hW := ?_, hn := ?_ }
  · omega
  · omega
  · intro t
    by_cases ht : t < 288
    · rw [env_E C V h19 ht]; exact ex_lt C t
    · exact lt_of_eq_of_lt (dif_neg ht) (by decide)
  · intro t
    by_cases ht : t < 288
    · rw [env_S C V h50 ht]; omega
    · exact lt_of_eq_of_lt (dif_neg ht) (by decide)
  · intro t
    by_cases ht : t < 288
    · rw [env_W C V h52 ht]; exact follow_le C _
    · exact le_of_eq_of_le (dif_neg ht) (by decide)
  · intro t ht
    rw [hn] at ht
    rw [env_E C V h19 (show t < 288 by omega), env_E C V h19 (show t + 1 < 288 by omega), env_S C V h50 (show t < 288 by omega),
      env_S C V h50 (show t + 1 < 288 by omega), env_W C V h52 (show t < 288 by omega), env_W C V h52 (show t + 1 < 288 by omega)]
    intro h
    rw [h]
    exact ⟨rfl, rfl⟩
  · intro t ht
    rw [hn] at ht
    rw [env_E C V h19 (show t < 288 by omega), env_E C V h19 (show t + 1 < 288 by omega), env_S C V h50 (show t < 288 by omega),
      env_S C V h50 (show t + 1 < 288 by omega), env_W C V h52 (show t < 288 by omega)]
    intro h
    exact ⟨follow_next C ht h, rank_next C ht h⟩
  · rw [hn, env_W C V h52 (show lo C 32 - 1 < 288 by omega)]
    exact follow_last C hC
  · intro t ht
    rw [env_E C V h19 ht]
    exact h19 ⟨t, ht⟩
  · intro t ht
    rw [env_S C V h50 ht]
    exact h50 ⟨t, ht⟩
  · intro t ht
    rw [env_W C V h52 ht]
    exact h52 ⟨t, ht⟩
  · rw [hn]
    exact h23

include hC hm in
theorem env_ok : (envV (entry m c)).OK :=
  envV_ok C hC (entry m c) (e19 m c C hC hm) (e50 m c C hC hm) (e52 m c C hC hm) (e23 m c C hC hm)

end Cert.KernelIdeal.Own
-- ==== Proof.Pre.lean ====
/- What the claims' precondition says of the counts: numbers from 0 to 65536 that add up to 65536. -/
module

public import proofs.«01_k».proof.Pre_counts_in_range
public import proofs.«01_k».proof.Proof.Words
public import Idealize.ShloMosaic.Lib.Affine

@[expose] public section

noncomputable section

namespace Cert.Plan

open Idealize.ShloMosaic Idealize.ShloMosaic.ValueIdx Idealize.ShloMosaic.Routing Idealize.ShloMosaic.WordCmp

variable {F : FTy → Type} [FloatOps F] [Cert.Pre_counts_in_range.Facts]

/-- The counts the words hold. -/
def counts (x : IVec (shape1 32) 32) (e : ℕ) : ℕ := if h : e < 32 then (x (ix1 ⟨e, h⟩)).toNat else 0

theorem counts_word (x : IVec (shape1 32) 32) (e : Fin 32) : x (ix1 e) = BitVec.ofNat 32 (counts x e.val) := by
  unfold counts
  rw [dif_pos e.isLt]
  refine BitVec.eq_of_toNat_eq ?_
  rw [BitVec.toNat_ofNat]
  exact (Nat.mod_eq_of_lt (BitVec.isLt _)).symm

theorem le_of_signed {x : BitVec 32} (h0 : (0#32 : BitVec 32).toInt ≤ x.toInt) (h1 : x.toInt ≤ (65536#32 : BitVec 32).toInt) : x.toNat ≤ 65536 := by
  have a : (0#32 : BitVec 32).toInt = 0 := rfl
  have b : (65536#32 : BitVec 32).toInt = 65536 := rfl
  have c := BitVec.toInt_eq_toNat_cond x
  split at c <;> omega

theorem sum_le (C : ℕ → ℕ) (h : ∀ e, C e ≤ 65536) (n : ℕ) : ((List.range n).map C).sum ≤ 65536 * n := by
  induction n with
  | zero => exact le_rfl
  | succ n ih =>
    rw [List.range_succ, List.map_append, List.sum_append, List.map_singleton, List.sum_singleton]
    have := h n
    omega

open Cert.Pre_counts_in_range in
theorem counts_of_pre (x : IVec S32 32) (a1 : FVec F S73728x1x1024 .f32) (a2 : FVec F S32x1024x1024 .f32) (a3 : FVec F S32x1024 .f32)
    (a4 : FVec F S32x1024x1024 .f32) (a5 : FVec F S32x1024 .f32) (a6 : FVec F S32x1024x1024 .f32) (a7 : FVec F S32x1024 .f32)
    (h : fn x a1 a2 a3 a4 a5 a6 a7 = fun _ => 1#1) : Counts (counts x) := by
  have h1 : ∀ e : Fin 32, IntOp.andi (IntOp.andi (IntOp.cmpi .sge (x (ix1 e)) 0#32) (IntOp.cmpi .sle (x (ix1 e)) 65536#32))
      (IntOp.cmpi .eq (Host.reduce IntOp.addi x (constantI S_ 32 0#32) Facts.reducesTo_S32_S_d0 Facts.h_S_ ValueIdx.ix0) 65536#32) = 1#1 := by
    intro e
    have h2 := congrFun h (ix1 e)
    unfold fn at h2
    simp only [andi_at, cmpi_at, bc0, constantI_at] at h2
    exact h2
  have hle : ∀ e, counts x e ≤ 65536 := by
    intro e
    unfold counts
    split
    · rename_i he
      have h2 := (IntOp.andi_eq_one.1 (IntOp.andi_eq_one.1 (h1 ⟨e, he⟩)).1)
      exact le_of_signed (IntOp.cmpi_sge.1 h2.1) (IntOp.cmpi_sle.1 h2.2)
    · exact Nat.zero_le _
  refine ⟨hle, ?_⟩
  have h3 := IntOp.cmpi_eq.1 (IntOp.andi_eq_one.1 (h1 0)).2
  rw [reduce_sum x (counts x) (counts_word x)] at h3
  have h4 := congrArg BitVec.toNat h3
  rw [BitVec.toNat_ofNat] at h4
  have h5 := sum_le (counts x) hle 32
  rw [Nat.mod_eq_of_lt (by omega)] at h4
  exact h4

end Cert.Plan
-- ==== Proof.Same.lean ====
/- The two printed kernels are one text: part by part the same program. -/
module

public import proofs.«01_k».proof.Proof.Gen.Kernel
public import proofs.«01_k».proof.Proof.Gen.Kernel.Launch
public import proofs.«01_k».proof.Proof.Gen.KernelIdeal
public import proofs.«01_k».proof.Proof.Gen.KernelIdeal.Launch

@[expose] public section

set_option maxRecDepth 20000
set_option maxHeartbeats 1000000

namespace Cert.Same

open Idealize.ShloMosaic Idealize.SL.Sem

variable {F : FTy → Type} [FloatOps F]

theorem hostOps0_eq : Cert.Kernel.Gen.hostOps0 (F := F) = Cert.KernelIdeal.Gen.hostOps0 (F := F) := rfl
theorem hostOps0_1_eq : Cert.Kernel.Gen.hostOps0_1 (F := F) = Cert.KernelIdeal.Gen.hostOps0_1 (F := F) := rfl
theorem hostOps0_2_eq : Cert.Kernel.Gen.hostOps0_2 (F := F) = Cert.KernelIdeal.Gen.hostOps0_2 (F := F) := rfl
theorem hostOps0_3_eq : Cert.Kernel.Gen.hostOps0_3 (F := F) = Cert.KernelIdeal.Gen.hostOps0_3 (F := F) := rfl
theorem hostOps0_4_eq : Cert.Kernel.Gen.hostOps0_4 (F := F) = Cert.KernelIdeal.Gen.hostOps0_4 (F := F) := rfl
theorem hostOps0_5_eq : Cert.Kernel.Gen.hostOps0_5 (F := F) = Cert.KernelIdeal.Gen.hostOps0_5 (F := F) := rfl
theorem hostOps0_6_eq : Cert.Kernel.Gen.hostOps0_6 (F := F) = Cert.KernelIdeal.Gen.hostOps0_6 (F := F) := rfl
theorem hostOps0_7_eq : Cert.Kernel.Gen.hostOps0_7 (F := F) = Cert.KernelIdeal.Gen.hostOps0_7 (F := F) := rfl
theorem hostOps0_8_eq : Cert.Kernel.Gen.hostOps0_8 (F := F) = Cert.KernelIdeal.Gen.hostOps0_8 (F := F) := rfl
theorem hostOps0_9_eq : Cert.Kernel.Gen.hostOps0_9 (F := F) = Cert.KernelIdeal.Gen.hostOps0_9 (F := F) := rfl
theorem hostOps0_10_eq : Cert.Kernel.Gen.hostOps0_10 (F := F) = Cert.KernelIdeal.Gen.hostOps0_10 (F := F) := rfl
theorem hostOps0_11_eq : Cert.Kernel.Gen.hostOps0_11 (F := F) = Cert.KernelIdeal.Gen.hostOps0_11 (F := F) := rfl
theorem hostOps0_12_eq : Cert.Kernel.Gen.hostOps0_12 (F := F) = Cert.KernelIdeal.Gen.hostOps0_12 (F := F) := rfl
theorem hostOps0_13_eq : Cert.Kernel.Gen.hostOps0_13 (F := F) = Cert.KernelIdeal.Gen.hostOps0_13 (F := F) := rfl
theorem hostOps0_14_eq : Cert.Kernel.Gen.hostOps0_14 (F := F) = Cert.KernelIdeal.Gen.hostOps0_14 (F := F) := rfl

theorem main_eq : Cert.Kernel.main (F := F) = Cert.KernelIdeal.main (F := F) := by
  funext c
  refine (Cert.Kernel.Gen.main_chain c).trans (Eq.trans ?_ (Cert.KernelIdeal.Gen.main_chain c).symm)
  rw [hostOps0_eq, hostOps0_1_eq, hostOps0_2_eq, hostOps0_3_eq, hostOps0_4_eq, hostOps0_5_eq, hostOps0_6_eq, hostOps0_7_eq, hostOps0_8_eq, hostOps0_9_eq, hostOps0_10_eq, hostOps0_11_eq, hostOps0_12_eq, hostOps0_13_eq, hostOps0_14_eq]
  rfl

theorem defs0_eq : Cert.Kernel.defs₀ (F := F) = Cert.KernelIdeal.defs₀ (F := F) := by
  funext p l a
  cases p with
  | tc =>
    match l, a with
    | ⟨0, _⟩, (t, s) => rfl
    | ⟨n + 1, h⟩, _ => exact absurd h (Nat.not_lt.2 (Nat.le_add_left _ _))
  | scScalar _ => rfl
  | scVector _ _ => rfl

theorem defs_eq : Cert.Kernel.defs (F := F) = Cert.KernelIdeal.defs (F := F) :=
  congrArg (Pipeline.defs (Cert.Kernel.pcfgs (F := F))) defs0_eq

end Cert.Same
-- ==== Proof.Ffn.lean ====
/- One row of one expert over the reals: the clamped, gated pair of projections and the projection back. Both programs are
   read as this. -/
module

public import Idealize.ShloMosaic.Lib.ValueIdx
public import Idealize.ShloMosaic.Lib.Pointwise.ElementwiseCore

@[expose] public section

noncomputable section

namespace Cert.Ffn

open Idealize.ShloMosaic Idealize.ShloMosaic.ValueIdx

/-- The bound both projections are held to. -/
def seven : Ideal .f32 := Ideal.ofBits .f32 0x40E00000#32
def negSeven : Ideal .f32 := Ideal.ofBits .f32 0xC0E00000#32
def unit : Ideal .f32 := Ideal.ofBits .f32 0x3F800000#32
def slope : Ideal .f32 := Ideal.ofBits .f32 0x3FD9DB23#32

/-- A hidden entry, of the gate `G` and the other projection `U`. -/
def hid (G U : Ideal .f32) : Ideal .f32 :=
  FloatOps.mulf (FloatOps.addf (FloatOps.minimumf seven (FloatOps.maximumf negSeven U)) unit)
    (FloatOps.mulf (FloatOps.minimumf G seven)
      (FloatOps.divf unit (FloatOps.addf unit (FloatOps.exp (FloatOps.negf (FloatOps.mulf slope (FloatOps.minimumf G seven)))))))

/-- An affine map's entry. -/
def lin (x : Fin 1024 → EReal) (w : Fin 1024 → Fin 1024 → EReal) (b : Fin 1024 → EReal) (f : Fin 1024) : EReal := ∑ d, x d * w d f + b f

/-- A row of an expert's result. -/
def row (x : Fin 1024 → EReal) (wg wu wd : Fin 1024 → Fin 1024 → EReal) (bg bu bd : Fin 1024 → EReal) (k : Fin 1024) : EReal :=
  lin (fun f => hid (lin x wg bg f) (lin x wu bu f)) wd bd k

/-- The multiplier's negation is the literal of the other sign. -/
theorem neg_slope : (Ideal.ofBits .f32 0xBFD9DB23#32 : EReal) = -(Ideal.ofBits .f32 0x3FD9DB23#32 : EReal) := by
  simp [Ideal.ofBits, Ideal.ieee]

theorem neg_slope_mul (g : EReal) : (Ideal.ofBits .f32 0xBFD9DB23#32 : EReal) * g = -((Ideal.ofBits .f32 0x3FD9DB23#32 : EReal) * g) := by
  rw [neg_slope, EReal.neg_mul]

end Cert.Ffn
-- ==== Proof.KerVal.lean ====
/- The launch's result over the reals, read at an index: a row of an expert. -/
module

public import proofs.«01_k».proof.Proof.Tables
public import proofs.«01_k».proof.Proof.Ffn
public import Idealize.ShloMosaic.Lib.MatmulPlain

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Ffn

theorem casts_wb : S1x1024x1024.ShapeCasts S1024x1024 := by decide

/-- An expert's weights, element by element. -/
theorem read_wb_0 (x : ℕ) (hx : x < 32) (f : S32x1024x1024.Idx → Elt F .f32) (a b : Fin 1024) :
    (wb Wg x).view.read (Elt F) f (ix2 a b) = f (ix3 ⟨x, hx⟩ a b) := by
  have hm : x % 32 = x := Nat.mod_eq_of_lt hx
  refine (congrFun (Memref.read_squeeze_slice Wg (Rect.unit (s := S32x1024x1024) ![x % 32, 0, 0] S1x1024x1024.size (wblk_inb x)) (fun _ => rfl)
    squeezes_S1x1024x1024_S1024x1024 casts_wb f) (ix2 a b)).trans ?_
  refine (shapeCast_apply _ _ (ix2 a b) (ix3 (0 : Fin 1) a b) ?_).trans ?_
  · rw [Shape.rowMajor_val_three, Shape.rowMajor_val_two]
    show (0 * 1024 + a.val) * 1024 + b.val = a.val * 1024 + b.val
    omega
  · refine congrArg f ?_
    funext y; fin_cases y
    · exact Fin.ext (show x % 32 + 1 * 0 = x by omega)
    · exact Fin.ext (show 0 + 1 * a.val = a.val by omega)
    · exact Fin.ext (show 0 + 1 * b.val = b.val by omega)

theorem read_wb_1 (x : ℕ) (hx : x < 32) (f : S32x1024x1024.Idx → Elt F .f32) (a b : Fin 1024) :
    (wb Wu x).view.read (Elt F) f (ix2 a b) = f (ix3 ⟨x, hx⟩ a b) := read_wb_0 x hx f a b
theorem read_wb_2 (x : ℕ) (hx : x < 32) (f : S32x1024x1024.Idx → Elt F .f32) (a b : Fin 1024) :
    (wb Wd x).view.read (Elt F) f (ix2 a b) = f (ix3 ⟨x, hx⟩ a b) := read_wb_0 x hx f a b

/-- A product and a bias row, at an entry. -/
theorem lin_at (v : FVec Ideal S256x1024 .bf16) (w : FVec Ideal S1024x1024 .bf16) (f : S32x1024.Idx → Elt Ideal .f32) (e : ℕ) (he : e < 32)
    (r : Fin 256) (k : Fin 1024) :
    gate (F := Ideal) v w (brow f e he) (ix2 r k) = lin (fun d => v (ix2 r d)) (fun d q => w (ix2 d q)) (fun q => f (ix2 ⟨e, he⟩ q)) k := by
  have hb : broadcastTo S256x1024 (brow f e he) broadcasts_S1x1024_S256x1024 (ix2 r k) = f (ix2 ⟨e, he⟩ k) := by
    refine broadcastTo_apply _ _ _ (ix2 (0 : Fin 1) k) fun a => ?_
    match a with
    | ⟨0, _⟩ => rfl
    | ⟨1, _⟩ => rfl
  have hm : matmul (F := Ideal) dot_S256x1024_S1024x1024_S256x1024_1_0_0_1_n_n none v w (constant S256x1024 .f32 0x00000000#32) (ix2 r k)
      = ∑ d : Fin 1024, (v (ix2 r d) : EReal) * w (ix2 d k) := by
    refine (Ideal.matmul_plain_apply (M := 256) (K := 1024) (N := 1024) none v w _ r k).trans ?_
    rw [show (constant S256x1024 .f32 0x00000000#32 : FVec Ideal S256x1024 .f32) (ix2 r k) = (0 : EReal) from Ideal.ofBits_zero_f32, zero_add]
  show (_ : EReal) + _ = _
  exact congrArg₂ (fun p q : EReal => p + q) hm hb

/-- The clamped product of the two projections, at an entry. -/
theorem hidden_at (v : FVec Ideal S256x1024 .bf16) (g u : FVec Ideal S256x1024 .f32) (i : S256x1024.Idx) :
    mulf (addf (minimumf (broadcast S256x1024 (Scalar.ofBits .f32 0x40E00000#32)) (maximumf (broadcast S256x1024 (Scalar.ofBits .f32 0xC0E00000#32)) u))
        (broadcast S256x1024 (Scalar.ofBits .f32 0x3F800000#32)))
      (mulf (minimumf g (broadcast S256x1024 (Scalar.ofBits .f32 0x40E00000#32)))
        (divf (broadcast S256x1024 (Scalar.ofBits .f32 0x3F800000#32)) (addf (broadcast S256x1024 (Scalar.ofBits .f32 0x3F800000#32))
          (exp (mulf (broadcast S256x1024 (Scalar.ofBits .f32 0xBFD9DB23#32)) (minimumf g (broadcast S256x1024 (Scalar.ofBits .f32 0x40E00000#32)))))))) i
      = hid (g i) (u i) := by
  have h := neg_slope_mul (FloatOps.minimumf (g i : Ideal .f32) seven)
  exact congrArg (fun z : Ideal .f32 => FloatOps.mulf (FloatOps.addf (FloatOps.minimumf seven (FloatOps.maximumf negSeven (u i))) unit)
    (FloatOps.mulf (FloatOps.minimumf (g i) seven) (FloatOps.divf unit (FloatOps.addf unit (FloatOps.exp z))))) h

/-- The result's block, at an entry. -/
theorem pay_at (v : FVec Ideal S256x1024 .bf16) (wg wu wd : FVec Ideal S1024x1024 .bf16) (fg fu fd : S32x1024.Idx → Elt Ideal .f32) (e : ℕ) (he : e < 32)
    (r : Fin 256) (k : Fin 1024) :
    k0_pay7 (F := Ideal) v (gate v wg (brow fg e he)) wu (constant S256x1024 .f32 0x00000000#32) (brow fu e he) wd (brow fd e he) (ix2 r k)
      = row (fun d => v (ix2 r d)) (fun d q => wg (ix2 d q)) (fun d q => wu (ix2 d q)) (fun d q => wd (ix2 d q))
          (fun q => fg (ix2 ⟨e, he⟩ q)) (fun q => fu (ix2 ⟨e, he⟩ q)) (fun q => fd (ix2 ⟨e, he⟩ q)) k := by
  refine (lin_at (truncf .bf16 _ bitsLt_bf16_f32) wd fd e he r k).trans ?_
  refine congrArg (fun h : Fin 1024 → EReal => lin h (fun d q => wd (ix2 d q)) (fun q => fd (ix2 ⟨e, he⟩ q)) k) (funext fun f => ?_)
  refine (hidden_at v (gate v wg (brow fg e he)) (gate v wu (brow fu e he)) (ix2 r f)).trans ?_
  rw [lin_at, lin_at]

theorem out_at (E : Env Ideal) (h : E.OK) (t : ℕ) (ht : t < 288) (r : Fin 256) (k : Fin 1024) :
    out E h t (ix2 r k)
      = row (fun d => E.x (ix3 ⟨256 * t + r.val, by omega⟩ (0 : Fin 1) d)) (fun d q => E.wg (ix3 ⟨E.E t, h.E_lt t⟩ d q))
          (fun d q => E.wu (ix3 ⟨E.E t, h.E_lt t⟩ d q)) (fun d q => E.wd (ix3 ⟨E.E t, h.E_lt t⟩ d q))
          (fun q => E.bg (ix2 ⟨E.E t, h.E_lt t⟩ q)) (fun q => E.bu (ix2 ⟨E.E t, h.E_lt t⟩ q)) (fun q => E.bd (ix2 ⟨E.E t, h.E_lt t⟩ q)) k := by
  have hx : ∀ d, xv E t (ix2 r d) = E.x (ix3 ⟨256 * t + r.val, by omega⟩ (0 : Fin 1) d) := fun d => read_xb_main_arg1 t ht E.x r d
  have hg : ∀ d q, gv E (E.E t) (ix2 d q) = E.wg (ix3 ⟨E.E t, h.E_lt t⟩ d q) := fun d q => read_wb_0 _ (h.E_lt t) E.wg d q
  have hu : ∀ d q, uv E (E.E t) (ix2 d q) = E.wu (ix3 ⟨E.E t, h.E_lt t⟩ d q) := fun d q => read_wb_1 _ (h.E_lt t) E.wu d q
  have hd : ∀ d q, dv E (E.E t) (ix2 d q) = E.wd (ix3 ⟨E.E t, h.E_lt t⟩ d q) := fun d q => read_wb_2 _ (h.E_lt t) E.wd d q
  refine (pay_at (xv E t) (gv E (E.E t)) (uv E (E.E t)) (dv E (E.E t)) E.bg E.bu E.bd (E.E t) (h.E_lt t) r k).trans ?_
  simp only [hx, hg, hu, hd]

end Cert.KernelIdeal.Own
-- ==== Proof.RefVal.lean ====
/- The reference's result over the reals, read at an index: a row of an expert. -/
module

public import proofs.«01_k».proof.Proof.Gen.ReferenceIdeal.Run
public import proofs.«01_k».proof.Proof.Words
public import proofs.«01_k».proof.Proof.Ffn
public import Idealize.ShloMosaic.Lib.StackMember
public import Idealize.ShloMosaic.Lib.Routing.OpsPair

@[expose] public section

noncomputable section

namespace Cert.ReferenceIdeal.Own

open Cert.ReferenceIdeal Cert.ReferenceIdeal.Gen Idealize.ShloMosaic Idealize.ShloMosaic.TcCoe
open Idealize.ShloMosaic.StableHlo Idealize.ShloMosaic.Routing Idealize.ShloMosaic.ValueIdx Idealize.ShloMosaic.WordCmp Cert.Plan Cert.Ffn

/-! ## The reference's stages -/

/-- Where each block of rows starts. -/
abbrev starts : IVec S288 32 := muli (iotaInDim S288 32 0) (broadcastInDim S288 ![] bcast_S_S288 (constantI S_ 32 256#32))
/-- How many blocks each expert has. -/
def blocks (x : IVec S32 32) : IVec S32 32 :=
  pyDiv bcast_S_S32 (subi (addi x (broadcastInDim S32 ![] bcast_S_S32 (constantI S_ 32 256#32))) (broadcastInDim S32 ![] bcast_S_S32 (constantI S_ 32 1#32)))
    (id (constantI S_ 32 256#32))
/-- Where each expert's rows end. -/
def ends (x : IVec S32 32) : IVec S32 32 :=
  Host.reduceWindow IntOp.addi ![32] ![1] ![31] ![0] (muli (blocks x) (broadcastInDim S32 ![] bcast_S_S32 (constantI S_ 32 256#32)))
    (broadcastInDim S_ ![] bcast_S_S_ (constantI S_ 32 0#32)) reduceWindows_S32_S32_w32s1p31_0 h_S_
/-- The expert of each block. -/
def expert (x : IVec S32 32) : IVec S288 32 :=
  minsi (Host.reduce IntOp.addi (extui 32 (cmpi .sle (broadcastInDim S288x32 ![0, 1] bcast_S1x32_S288x32_0_1 (broadcastInDim S1x32 ![1] bcast_S32_S1x32_1 (ends x)))
    (broadcastInDim S288x32 ![0, 1] bcast_S288x1_S288x32_0_1 (broadcastInDim S288x1 ![0] bcast_S288_S288x1_0 starts))) natLt_1_32)
    (constantI S_ 32 0#32) reducesTo_S288x32_S288_d1 h_S_) (broadcastInDim S288 ![] bcast_S_S288 (constantI S_ 32 31#32))
/-- The expert of each block as an index. -/
def pick (x : IVec S32 32) : IVec S288x1 32 :=
  broadcastInDim S288x1 ![0] bcast_S288_S288x1_0 (select (cmpi .slt (expert x) (broadcastInDim S288 ![] bcast_S_S288 (constantI S_ 32 0#32)))
    (addi (expert x) (broadcastInDim S288 ![] bcast_S_S288 (constantI S_ 32 32#32))) (expert x))
/-- An affine map of the blocks. -/
def affine (a : FVec Ideal S288x256x1024 .f32) (w : FVec Ideal S32x1024x1024 .f32) (b : FVec Ideal S32x1024 .f32) (i : IVec S288x1 32) : FVec Ideal S288x256x1024 .f32 :=
  addf (Host.dotGeneral dot_S288x256x1024_S288x1024x1024_S288x256x1024_2_1_1_2_0_0 none a (Host.gather gather_S32x1024x1024_S288x1_S288x1024x1024_12_0_n_n_0_1_110241024 w i))
    (broadcastInDim S288x256x1024 ![0, 1, 2] bcast_S288x1x1024_S288x256x1024_0_1_2 (broadcastInDim S288x1x1024 ![0, 2] bcast_S288x1024_S288x1x1024_0_2
      (Host.gather gather_S32x1024_S288x1_S288x1024_1_0_n_n_0_1_11024 b i)))
/-- A literal in every place. -/
abbrev lit (b : BitVec 32) : FVec Ideal S288x256x1024 .f32 := broadcastInDim S288x256x1024 ![] bcast_S_S288x256x1024 (constant S_ .f32 b)
/-- The hidden rows. -/
def hidden (g u : FVec Ideal S288x256x1024 .f32) : FVec Ideal S288x256x1024 .f32 :=
  mulf (addf (minimumf (lit 0x40E00000#32) (maximumf (lit 0xC0E00000#32) u)) (lit 0x3F800000#32))
    (mulf (minimumf g (lit 0x40E00000#32)) (Host.divf (lit 0x3F800000#32) (addf (lit 0x3F800000#32)
      (Host.exp (Host.negf (mulf (lit 0x3FD9DB23#32) (minimumf g (lit 0x40E00000#32))))))))
/-- The blocks that hold rows. -/
def used (x : IVec S32 32) : IVec S288x256x1024 1 :=
  broadcastInDim S288x256x1024 ![0, 1, 2] bcast_S288x1x1_S288x256x1024_0_1_2 (broadcastInDim S288x1x1 ![0] bcast_S288_S288x1x1_0
    (cmpi .slt starts (broadcastInDim S288 ![] bcast_S_S288 (shapeCast S_ (extractStridedSlice S1 ![31] (ends x) slices_S32_S1_31) shapeCasts_S1_S_))))
/-- The result, of the arguments. -/
def result (x : IVec S32 32) (a : FVec Ideal S73728x1x1024 .f32) (wg : FVec Ideal S32x1024x1024 .f32) (bg : FVec Ideal S32x1024 .f32)
    (wu : FVec Ideal S32x1024x1024 .f32) (bu : FVec Ideal S32x1024 .f32) (wd : FVec Ideal S32x1024x1024 .f32) (bd : FVec Ideal S32x1024 .f32) :
    FVec Ideal S73728x1x1024 .f32 :=
  shapeCast S73728x1x1024 (select (used x)
    (affine (hidden (affine (shapeCast S288x256x1024 a shapeCasts_S73728x1x1024_S288x256x1024) wg bg (pick x))
      (affine (shapeCast S288x256x1024 a shapeCasts_S73728x1x1024_S288x256x1024) wu bu (pick x))) wd bd (pick x))
    (lit 0x00000000#32)) shapeCasts_S288x256x1024_S73728x1x1024

theorem result_eq (m : (ℓ : Loc nD τ sig) → Buf (Elt Ideal) ℓ) (c : Dev nD) :
    Value.res_main_v96 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v96 result used affine hidden pick expert ends blocks pyDiv
  rfl

/-! ## Their entries -/

section
variable {C : ℕ → ℕ} (hC : Counts C) (x : IVec S32 32) (hx : ∀ e : Fin 32, x (ix1 e) = BitVec.ofNat 32 (C e.val))

theorem starts_at (t : Fin 288) : starts (ix1 t) = BitVec.ofNat 32 (t.val * 256) := (BitVec.ofNat_mul _ _).symm

include hC hx

theorem blocks_at (e : Fin 32) : blocks x (ix1 e) = BitVec.ofNat 32 (nb C e.val) := by
  refine blocks_word hC _ _ _ rfl e ?_
  rw [subi_ap, addi_ap, bc0, bc0, constantI_at, constantI_at, hx e, show (256#32 : BitVec 32) = BitVec.ofNat 32 256 from rfl, ← BitVec.ofNat_add,
    show (1#32 : BitVec 32) = BitVec.ofNat 32 1 from rfl, ofNat32_sub (by omega)]
  rfl

theorem ends_at (e : Fin 32) : ends x (ix1 e) = BitVec.ofNat 32 (lo C (e.val + 1) * 256) :=
  ends_word hC _ (fun e => by rw [muli_ap, bc0, constantI_at, blocks_at hC x hx e, BitVec.ofNat_mul]) _ rfl _ _ e

theorem expert_at (t : Fin 288) : expert x (ix1 t) = BitVec.ofNat 32 (ex C t.val) :=
  ex_word hC _ (ends_at hC x hx) _ starts_at _ _ _ _ _ _ _ _ t

theorem pick_at (t : Fin 288) : pick x (ix2 t (0 : Fin 1)) = BitVec.ofNat 32 (ex C t.val) := by
  have h : (expert x (ix1 t)).toNat < 2 ^ 31 := by
    have := ex_lt C t.val
    rw [expert_at hC x hx t, BitVec.toNat_ofNat]
    exact lt_of_le_of_lt (Nat.mod_le _ _) (by omega)
  refine (bcCol _ _ t).trans ?_
  exact (wrap_of_lt (expert x (ix1 t)) _ h).trans (expert_at hC x hx t)

theorem last_at : shapeCast S_ (extractStridedSlice S1 ![31] (ends x) slices_S32_S1_31) shapeCasts_S1_S_ ValueIdx.ix0 = BitVec.ofNat 32 (lo C 32 * 256) := by
  refine (shapeCast_apply _ _ _ (ix1 (0 : Fin 1)) rfl).trans ?_
  exact (slice1 31 _ _ (0 : Fin 1) (by decide)).trans (ends_at hC x hx 31)

theorem live_at (t : Fin 288) (z : IVec S_ 32) (hz : z ValueIdx.ix0 = BitVec.ofNat 32 (lo C 32 * 256)) :
    cmpi .slt starts (broadcastInDim S288 ![] bcast_S_S288 z) (ix1 t) = BitVec.ofBool (decide (t.val < lo C 32)) := by
  have h31 : lo C 32 * 256 < 2 ^ 31 := lo_small C hC le_rfl
  have ht := t.isLt
  rw [cmpi_at, starts_at, bc0, hz, cmpi_slt_ofNat (by omega) h31]
  exact congrArg BitVec.ofBool (decide_eq_decide.2 (Nat.mul_lt_mul_right (by decide)))

theorem used_at (t : Fin 288) (r : Fin 256) (k : Fin 1024) : used x (ix3 t r k) = BitVec.ofBool (decide (t.val < lo C 32)) :=
  (bcSlab _ _ _ t r k).trans (live_at hC x hx t _ (last_at hC x hx))
end

/-- A gather of whole tables: the table the index word names. -/
theorem gather_table {α : Type} (w : S32x1024x1024.Idx → α) (i : IVec S288x1 32) (t : Fin 288) (p q : Fin 1024) (b : Fin 32)
    (hb : i (ix2 t (0 : Fin 1)) = BitVec.ofNat 32 b.val) :
    Host.gather gather_S32x1024x1024_S288x1_S288x1024x1024_12_0_n_n_0_1_110241024 w i (ix3 t p q) = w (ix3 b p q) := by
  have hs : gather_S32x1024x1024_S288x1_S288x1024x1024_12_0_n_n_0_1_110241024.siIdx (ix3 t p q) (0 : Fin 1) = ix2 t (0 : Fin 1) := by
    funext y
    match y with
    | ⟨0, _⟩ => rfl
    | ⟨1, _⟩ => rfl
  have hn : (i (ix2 t (0 : Fin 1))).toInt.toNat = b.val := by
    have := b.isLt
    rw [hb, BitVec.toInt_eq_toNat_of_lt (by rw [BitVec.toNat_ofNat]; omega), Int.toNat_natCast, BitVec.toNat_ofNat]
    omega
  unfold Host.gather
  refine congrArg w (funext fun a => Fin.ext ?_)
  match a with
  | ⟨0, _⟩ =>
    show min (i (gather_S32x1024x1024_S288x1_S288x1024x1024_12_0_n_n_0_1_110241024.siIdx (ix3 t p q) (0 : Fin 1))).toInt.toNat (32 - 1) + 0 + 0 = b.val
    have := b.isLt
    rw [hs, hn]
    omega
  | ⟨1, _⟩ => show 0 + 0 + p.val = p.val; omega
  | ⟨2, _⟩ => show 0 + 0 + q.val = q.val; omega

theorem affine_at (a : FVec Ideal S288x256x1024 .f32) (w : FVec Ideal S32x1024x1024 .f32) (b : FVec Ideal S32x1024 .f32) (i : IVec S288x1 32)
    (t : Fin 288) (r : Fin 256) (k : Fin 1024) (e : Fin 32) (he : i (ix2 t (0 : Fin 1)) = BitVec.ofNat 32 e.val) :
    affine a w b i (ix3 t r k) = lin (fun d => a (ix3 t r d)) (fun d q => w (ix3 e d q)) (fun q => b (ix2 e q)) k := by
  have hb : broadcastInDim S288x256x1024 ![0, 1, 2] bcast_S288x1x1024_S288x256x1024_0_1_2 (broadcastInDim S288x1x1024 ![0, 2] bcast_S288x1024_S288x1x1024_0_2
      (Host.gather gather_S32x1024_S288x1_S288x1024_1_0_n_n_0_1_11024 b i)) (ix3 t r k) = b (ix2 e k) := by
    refine (broadcastInDim_apply _ _ _ _ (ix3 t (0 : Fin 1) k) fun y => ?_).trans ((broadcastInDim_apply _ _ _ _ (ix2 t k) fun y => ?_).trans ?_)
    · match y with
      | ⟨0, _⟩ => rfl
      | ⟨1, _⟩ => rfl
      | ⟨2, _⟩ => rfl
    · match y with
      | ⟨0, _⟩ => rfl
      | ⟨1, _⟩ => rfl
    · exact gather_row _ rfl rfl rfl rfl rfl b i t k e he (by decide)
  have hm : Host.dotGeneral dot_S288x256x1024_S288x1024x1024_S288x256x1024_2_1_1_2_0_0 none a
      (Host.gather gather_S32x1024x1024_S288x1_S288x1024x1024_12_0_n_n_0_1_110241024 w i) (ix3 t r k) = ∑ d : Fin 1024, (a (ix3 t r d) : EReal) * w (ix3 e d k) := by
    refine (StackMember.dotGeneral_stack_apply _ none a _ t r k).trans (Finset.sum_congr rfl fun d _ => ?_)
    rw [gather_table w i t d k e he]
  exact congrArg₂ (fun p q : EReal => p + q) hm hb

theorem hidden_at (g u : FVec Ideal S288x256x1024 .f32) (i : S288x256x1024.Idx) : hidden g u i = hid (g i) (u i) := rfl

/-- The result at an index. -/
theorem result_at {C : ℕ → ℕ} (hC : Counts C) (x : IVec S32 32) (hx : ∀ e : Fin 32, x (ix1 e) = BitVec.ofNat 32 (C e.val)) (a : FVec Ideal S73728x1x1024 .f32)
    (wg : FVec Ideal S32x1024x1024 .f32) (bg : FVec Ideal S32x1024 .f32)
    (wu : FVec Ideal S32x1024x1024 .f32) (bu : FVec Ideal S32x1024 .f32) (wd : FVec Ideal S32x1024x1024 .f32) (bd : FVec Ideal S32x1024 .f32)
    (t : Fin 288) (r : Fin 256) (k : Fin 1024) (e : Fin 32) (he : ex C t.val = e.val) :
    result x a wg bg wu bu wd bd (ix3 ⟨256 * t.val + r.val, by omega⟩ (0 : Fin 1) k)
      = if t.val < lo C 32 then row (fun d => a (ix3 ⟨256 * t.val + r.val, by omega⟩ (0 : Fin 1) d)) (fun d q => wg (ix3 e d q)) (fun d q => wu (ix3 e d q))
          (fun d q => wd (ix3 e d q)) (fun q => bg (ix2 e q)) (fun q => bu (ix2 e q)) (fun q => bd (ix2 e q)) k
        else (0 : EReal) := by
  have hp : pick x (ix2 t (0 : Fin 1)) = BitVec.ofNat 32 e.val := by rw [pick_at hC x hx t, he]
  have ha : ∀ d : Fin 1024, shapeCast S288x256x1024 a shapeCasts_S73728x1x1024_S288x256x1024 (ix3 t r d)
      = a (ix3 ⟨256 * t.val + r.val, by omega⟩ (0 : Fin 1) d) := fun d => by
    refine shapeCast_apply _ _ _ _ ?_
    rw [Shape.rowMajor_val_three, Shape.rowMajor_val_three]
    show ((256 * t.val + r.val) * 1 + 0) * 1024 + d.val = (t.val * 256 + r.val) * 1024 + d.val
    omega
  refine (shapeCast_apply _ _ _ (ix3 t r k) ?_).trans ?_
  · rw [Shape.rowMajor_val_three, Shape.rowMajor_val_three]
    show (t.val * 256 + r.val) * 1024 + k.val = ((256 * t.val + r.val) * 1 + 0) * 1024 + k.val
    omega
  · rw [select_at, used_at hC x hx t r k, select_decide]
    refine if_congr Iff.rfl ?_ Ideal.ofBits_zero_f32
    rw [affine_at _ _ _ _ t r k e hp]
    refine congrArg (fun h : Fin 1024 → EReal => lin h (fun d q => wd (ix3 e d q)) (fun q => bd (ix2 e q)) k) (funext fun f => ?_)
    rw [hidden_at, affine_at _ _ _ _ t r f e hp, affine_at _ _ _ _ t r f e hp]
    simp only [ha]

end Cert.ReferenceIdeal.Own
-- ==== Proof.Val.lean ====
/- The launch's result is the reference's. -/
module

public import proofs.«01_k».proof.Proof.KerVal
public import proofs.«01_k».proof.Proof.RefVal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx Cert.Ffn Cert.Plan

/-- The launch's result, entry by entry. -/
theorem yfin_at (E : Env Ideal) (h : E.OK) (t : Fin 288) (r : Fin 256) (k : Fin 1024) (e : Fin 32) (he : E.E t.val = e.val) :
    yfin E h (ix3 ⟨256 * t.val + r.val, by omega⟩ (0 : Fin 1) k)
      = if t.val < E.n then row (fun d => E.x (ix3 ⟨256 * t.val + r.val, by omega⟩ (0 : Fin 1) d)) (fun d q => E.wg (ix3 e d q)) (fun d q => E.wu (ix3 e d q))
          (fun d q => E.wd (ix3 e d q)) (fun q => E.bg (ix2 e q)) (fun q => E.bu (ix2 e q)) (fun q => E.bd (ix2 e q)) k
        else (0 : EReal) := by
  have hr := r.isLt
  have hq : (256 * t.val + r.val) / 256 = t.val := by omega
  have hm : (256 * t.val + r.val) % 256 = r.val := by omega
  have hee : (⟨E.E t.val, h.E_lt t.val⟩ : Fin 32) = e := Fin.ext he
  have h1 : yfin E h (ix3 ⟨256 * t.val + r.val, by omega⟩ (0 : Fin 1) k) = yv E h t.val (ix2 r k) := by
    show yv E h ((256 * t.val + r.val) / 256) (ix2 ⟨(256 * t.val + r.val) % 256, _⟩ k) = _
    rw [hq]
    exact congrArg (fun z : Fin 256 => yv E h t.val (ix2 z k)) (Fin.ext hm)
  rw [h1, yv]
  split
  · rw [out_at E h t.val t.isLt r k, hee]
  · exact Ideal.ofBits_zero_f32

theorem value {C : ℕ → ℕ} (hC : Counts C) (V : Valuation τ sig (Elt Ideal)) (h : (envV V).OK) (hE : ∀ t, t < 288 → (envV V).E t = ex C t)
    (hn : (envV V).n = lo C 32) (x : IVec S32 32) (hx : ∀ e : Fin 32, x (ix1 e) = BitVec.ofNat 32 (C e.val)) (a : FVec Ideal S73728x1x1024 .f32)
    (wg : FVec Ideal S32x1024x1024 .f32) (bg : FVec Ideal S32x1024 .f32) (wu : FVec Ideal S32x1024x1024 .f32) (bu : FVec Ideal S32x1024 .f32)
    (wd : FVec Ideal S32x1024x1024 .f32) (bd : FVec Ideal S32x1024 .f32)
    (h1 : V (Proc.devRef .tc main_arg1) = a) (h2 : V (Proc.devRef .tc main_arg2) = wg) (h3 : V (Proc.devRef .tc main_arg3) = bg)
    (h4 : V (Proc.devRef .tc main_arg4) = wu) (h5 : V (Proc.devRef .tc main_arg5) = bu) (h6 : V (Proc.devRef .tc main_arg6) = wd)
    (h7 : V (Proc.devRef .tc main_arg7) = bd) :
    (Cert.ReferenceIdeal.Own.result x a wg bg wu bu wd bd : S73728x1x1024.Idx → EReal) = yfin (envV V) h := by
  subst h1 h2 h3 h4 h5 h6 h7
  funext j
  have h0 : (j 0).val < 73728 := (j 0).isLt
  have hj : j = ix3 ⟨256 * ((j 0).val / 256) + (j 0).val % 256, by omega⟩ (0 : Fin 1) (j 2) := by
    funext y
    match y with
    | ⟨0, _⟩ => exact Fin.ext (show (j 0).val = 256 * ((j 0).val / 256) + (j 0).val % 256 by omega)
    | ⟨1, _⟩ => exact Fin.ext (show (j 1).val = 0 from Nat.lt_one_iff.1 (j 1).isLt)
    | ⟨2, _⟩ => rfl
  have ht : (j 0).val / 256 < 288 := by omega
  rw [hj]
  refine (Cert.ReferenceIdeal.Own.result_at hC x hx _ _ _ _ _ _ _ ⟨(j 0).val / 256, ht⟩ ⟨(j 0).val % 256, Nat.mod_lt _ (by decide)⟩ (j 2)
    ⟨ex C ((j 0).val / 256), ex_lt C _⟩ rfl).trans ?_
  rw [← hn]
  exact (yfin_at (envV V) h ⟨(j 0).val / 256, ht⟩ ⟨(j 0).val % 256, Nat.mod_lt _ (by decide)⟩ (j 2) ⟨ex C ((j 0).val / 256), ex_lt C _⟩ (hE _ ht)).symm

end Cert.KernelIdeal.Own
-- ==== Proof.Proj.lean ====
/- One entry of the input projection over the reals: a row normalised by the root of its mean square and scaled, against
   a column of the weights; and the lanes of a block of 128 that belong to a head. -/
module

public import Idealize.ShloMosaic.Lib.ValueIdx
public import Idealize.ShloMosaic.Lib.Pointwise.ElementwiseCore

@[expose] public section

noncomputable section

namespace Cert.Proj

open Idealize.ShloMosaic

/-- The normalised row against the column. -/
def prj (x g w : Fin 1024 → Ideal .f32) : Ideal .f32 :=
  ∑ i, x i * Ideal.rsqrt (Ideal.div (∑ j, x j * x j) (Ideal.ofBits FTy.f32 1149239296#32) + Ideal.ofBits FTy.f32 925353388#32) * g i * w i

/-- The scale of the queries. -/
def scale : Ideal .f32 := Ideal.ofBits FTy.f32 1043900987#32

/-- Column `k` of the spread heads carries its head's lanes. -/
abbrev Own (k : ℕ) : Prop := k % 128 / 64 = k / 128 % 2

/-- The column of the packed heads that column `k` of the spread heads reads. -/
abbrev packed (k : ℕ) : ℕ := k / 256 * 128 + k % 128

theorem select_word {α : Type} (p : Prop) [Decidable p] (w : BitVec 1) (h : w = if p then 1#1 else 0#1) (a b : α) :
    Scalar.select w a b = if p then a else b := by
  subst h
  by_cases h : p <;> simp [h, Scalar.select]

end Cert.Proj
-- ==== Proof.ProjKer.lean ====
/- The input projection over the reals: what a grid point leaves in each block, and the four result arrays. -/
module

public import proofs.«01_k».proof.Proof.Gen.Kernel2Ideal.Frame
public import proofs.«01_k».proof.Proof.Proj
public import Idealize.ShloMosaic.Lib.Pipeline.ValueKit
public import Idealize.ShloMosaic.Lib.Pipeline.ReadBack

@[expose] public section

noncomputable section

namespace Cert.Kernel2Ideal.Own

open Idealize.ShloMosaic Idealize.ShloMosaic.TcCoe Idealize.ShloMosaic.Tactic Idealize.SL Idealize.SL.RA Idealize.SL.Sem
open Idealize.ShloMosaic.Pipeline Cert.Proj
open Cert.Kernel2Ideal Cert.Kernel2Ideal.Gen

/-! ## The payloads -/

/-- The lane numbers. -/
abbrev lanes : IVec S1x128 32 := iota Kind.tc S1x128 32 [1] iota_S1x128_d1_w32

theorem mask0 : ∀ l : Fin 128, k0_pay10 lanes 64#32 k0_pay8 k0_pay9 (ix2 0 l) = if l.val / 64 = 0 then 1#1 else 0#1 := by decide +kernel
theorem mask1 : ∀ l : Fin 128, k0_pay15 lanes 64#32 (k0_pay13 lanes) (k0_pay14 lanes) (ix2 0 l) = if l.val / 64 = 1 then 1#1 else 0#1 := by decide +kernel
theorem mask2 : ∀ l : Fin 128, k0_pay20 lanes 64#32 (k0_pay18 lanes) (k0_pay19 lanes) 1#32 0#32 (ix2 0 l) = if l.val / 64 = 0 then 1#1 else 0#1 := by decide +kernel
theorem mask3 : ∀ l : Fin 128, k0_pay26 (k0_pay23 lanes) (k0_pay24 lanes) (k0_pay25 lanes) 0#32 (ix2 0 l) = if l.val / 64 = 1 then 1#1 else 0#1 := by decide +kernel
theorem mask4 : ∀ l : Fin 128, k0_pay32 (k0_pay29 lanes) (k0_pay30 lanes) (k0_pay31 lanes) (ix2 0 l) = if l.val / 64 = 0 then 1#1 else 0#1 := by decide +kernel
theorem mask5 : ∀ l : Fin 128, k0_pay35 lanes (ix2 0 l) = if l.val / 64 = 1 then 1#1 else 0#1 := by decide +kernel
theorem mask6 : ∀ l : Fin 128, k0_pay39 lanes (ix2 0 l) = if l.val / 64 = 0 then 1#1 else 0#1 := by decide +kernel
theorem mask7 : ∀ l : Fin 128, k0_pay42 lanes (ix2 0 l) = if l.val / 64 = 1 then 1#1 else 0#1 := by decide +kernel

variable (v : FVec Ideal S512x512 .bf16) (r : Fin 512) (l : Fin 128)

theorem q0 : (k0_pay11 lanes v 64#32 k0_pay8 k0_pay9 : FVec Ideal S512x128 .bf16) (ix2 r l) = if l.val / 64 = 0 then v (ix2 r ⟨0 + l.val, by omega⟩) else 0 := by
  unfold k0_pay11
  pointwise
  exact select_word _ _ (mask0 l) _ _

theorem q1 : (k0_pay16 lanes v 64#32 (k0_pay13 lanes) (k0_pay14 lanes) : FVec Ideal S512x128 .bf16) (ix2 r l) = if l.val / 64 = 1 then v (ix2 r ⟨0 + l.val, by omega⟩) else 0 := by
  unfold k0_pay16
  pointwise
  exact select_word _ _ (mask1 l) _ _

theorem q2 : (k0_pay21 lanes v 64#32 (k0_pay18 lanes) (k0_pay19 lanes) 1#32 0#32 : FVec Ideal S512x128 .bf16) (ix2 r l) = if l.val / 64 = 0 then v (ix2 r ⟨128 + l.val, by omega⟩) else 0 := by
  unfold k0_pay21
  pointwise
  exact select_word _ _ (mask2 l) _ _

theorem q3 : (k0_pay27 v (k0_pay23 lanes) (k0_pay24 lanes) (k0_pay25 lanes) 0#32 : FVec Ideal S512x128 .bf16) (ix2 r l) = if l.val / 64 = 1 then v (ix2 r ⟨128 + l.val, by omega⟩) else 0 := by
  unfold k0_pay27
  pointwise
  exact select_word _ _ (mask3 l) _ _

theorem q4 : (k0_pay33 v (k0_pay29 lanes) (k0_pay30 lanes) (k0_pay31 lanes) : FVec Ideal S512x128 .bf16) (ix2 r l) = if l.val / 64 = 0 then v (ix2 r ⟨256 + l.val, by omega⟩) else 0 := by
  unfold k0_pay33
  pointwise
  exact select_word _ _ (mask4 l) _ _

theorem q5 : (k0_pay37 (k0_pay35 lanes) (k0_pay36 v) (FloatOps.ofBits FTy.bf16 0#16) : FVec Ideal S512x128 .bf16) (ix2 r l) = if l.val / 64 = 1 then v (ix2 r ⟨256 + l.val, by omega⟩) else 0 := by
  unfold k0_pay37 k0_pay36
  pointwise
  exact select_word _ _ (mask5 l) _ _

theorem q6 : (k0_pay40 lanes v : FVec Ideal S512x128 .bf16) (ix2 r l) = if l.val / 64 = 0 then v (ix2 r ⟨384 + l.val, by omega⟩) else 0 := by
  unfold k0_pay40
  pointwise
  exact select_word _ _ (mask6 l) _ _

theorem q7 : (k0_pay43 lanes v : FVec Ideal S512x128 .bf16) (ix2 r l) = if l.val / 64 = 1 then v (ix2 r ⟨384 + l.val, by omega⟩) else 0 := by
  unfold k0_pay43
  pointwise
  exact select_word _ _ (mask7 l) _ _

theorem v0 : (k0_pay12 lanes v 64#32 k0_pay8 k0_pay9 : FVec Ideal S512x128 .bf16) (ix2 r l) = if l.val / 64 = 0 then v (ix2 r ⟨0 + l.val, by omega⟩) else 0 := by
  unfold k0_pay12
  pointwise
  exact select_word _ _ (mask0 l) _ _

theorem v1 : (k0_pay17 lanes v 64#32 (k0_pay13 lanes) (k0_pay14 lanes) : FVec Ideal S512x128 .bf16) (ix2 r l) = if l.val / 64 = 1 then v (ix2 r ⟨0 + l.val, by omega⟩) else 0 := by
  unfold k0_pay17
  pointwise
  exact select_word _ _ (mask1 l) _ _

theorem v2 : (k0_pay22 lanes v 64#32 (k0_pay18 lanes) (k0_pay19 lanes) 1#32 0#32 : FVec Ideal S512x128 .bf16) (ix2 r l) = if l.val / 64 = 0 then v (ix2 r ⟨128 + l.val, by omega⟩) else 0 := by
  unfold k0_pay22
  pointwise
  exact select_word _ _ (mask2 l) _ _

theorem v3 : (k0_pay28 v (k0_pay23 lanes) (k0_pay24 lanes) (k0_pay25 lanes) 0#32 : FVec Ideal S512x128 .bf16) (ix2 r l) = if l.val / 64 = 1 then v (ix2 r ⟨128 + l.val, by omega⟩) else 0 := by
  unfold k0_pay28
  pointwise
  exact select_word _ _ (mask3 l) _ _

theorem v4 : (k0_pay34 v (k0_pay29 lanes) (k0_pay30 lanes) (k0_pay31 lanes) : FVec Ideal S512x128 .bf16) (ix2 r l) = if l.val / 64 = 0 then v (ix2 r ⟨256 + l.val, by omega⟩) else 0 := by
  unfold k0_pay34
  pointwise
  exact select_word _ _ (mask4 l) _ _

theorem v5 : (k0_pay38 v (k0_pay35 lanes) : FVec Ideal S512x128 .bf16) (ix2 r l) = if l.val / 64 = 1 then v (ix2 r ⟨256 + l.val, by omega⟩) else 0 := by
  unfold k0_pay38
  pointwise
  exact select_word _ _ (mask5 l) _ _

theorem v6 : (k0_pay41 v (k0_pay39 lanes) : FVec Ideal S512x128 .bf16) (ix2 r l) = if l.val / 64 = 0 then v (ix2 r ⟨384 + l.val, by omega⟩) else 0 := by
  unfold k0_pay41
  pointwise
  exact select_word _ _ (mask6 l) _ _

theorem v7 : (k0_pay1 (k0_pay44 v) (FloatOps.ofBits FTy.bf16 0#16) (k0_pay45 lanes) : FVec Ideal S512x128 .bf16) (ix2 r l) = if l.val / 64 = 1 then v (ix2 r ⟨384 + l.val, by omega⟩) else 0 := by
  unfold k0_pay1 k0_pay44 k0_pay45
  pointwise
  exact select_word _ _ (mask7 l) _ _

theorem proj_at (x : Vec Ideal S512x1024 .f32) (g : Vec Ideal S1x1024 .f32) (w : Vec Ideal S1024x2048 .f32) (k : Fin 2048) :
    k0_pay3 x g (k0_pay2 w) (ix2 r k) = prj (fun i => x (ix2 r i)) (fun i => g (ix2 0 i)) (fun i => w (ix2 i k)) := by
  unfold k0_pay3 k0_pay2 prj
  pointwise

theorem keys_at (x : Vec Ideal S512x1024 .f32) (g : Vec Ideal S1x1024 .f32) (w : Vec Ideal S1024x2048 .f32) (k : Fin 512) :
    k0_pay4 x g (k0_pay2 w) (ix2 r k) = prj (fun i => x (ix2 r i)) (fun i => g (ix2 0 i)) (fun i => w (ix2 i ⟨512 + k.val, by omega⟩)) := by
  rw [← proj_at]
  unfold k0_pay4
  pointwise

theorem inputs_at (x : Vec Ideal S512x1024 .f32) (g : Vec Ideal S1x1024 .f32) (w : Vec Ideal S1024x2048 .f32) (k : Fin 512) :
    k0_pay5 x g (k0_pay2 w) (ix2 r k) = prj (fun i => x (ix2 r i)) (fun i => g (ix2 0 i)) (fun i => w (ix2 i ⟨1536 + k.val, by omega⟩)) := by
  rw [← proj_at]
  unfold k0_pay5
  pointwise

theorem queries_at (x : Vec Ideal S512x1024 .f32) (g : Vec Ideal S1x1024 .f32) (w : Vec Ideal S1024x2048 .f32) (k : Fin 512) :
    k0_pay6 x g (k0_pay2 w) (ix2 r k) = prj (fun i => x (ix2 r i)) (fun i => g (ix2 0 i)) (fun i => w (ix2 i ⟨k.val, by omega⟩)) * scale := by
  rw [← proj_at]
  unfold k0_pay6 scale
  pointwise

theorem values_at (x : Vec Ideal S512x1024 .f32) (g : Vec Ideal S1x1024 .f32) (w : Vec Ideal S1024x2048 .f32) (k : Fin 512) :
    k0_pay7 x g (k0_pay2 w) (ix2 r k) = prj (fun i => x (ix2 r i)) (fun i => g (ix2 0 i)) (fun i => w (ix2 i ⟨1024 + k.val, by omega⟩)) := by
  rw [← proj_at]
  unfold k0_pay7
  pointwise

/-! ## A grid point -/

variable (m : (ℓ : Loc nD τ sig) → Buf (Elt Ideal) ℓ) (c : Dev nD)

/-- The kernel's arrays. -/
abbrev X : Vec Ideal S16384x1024 .f32 := m ((c.tc : Thread nD τ).loc main_arg0)
abbrev G : Vec Ideal S1024 .f32 := m ((c.tc : Thread nD τ).loc main_arg1)
abbrev W : Vec Ideal S1024x2048 .f32 := m ((c.tc : Thread nD τ).loc main_arg2)

theorem place : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] := by
  decide +kernel

theorem w_blk (t : Fin cfg0.N) : (iblk m c 2 t : Vec Ideal S1024x2048 .f32) = W m c := by
  funext y
  blk_ext [iblk, V_main_arg2, place t]

theorem g_blk (t : Fin cfg0.N) (i : Fin 1024) : (iblk m c 1 t : Vec Ideal S1x1024 .f32) (ix2 0 i) = G m c (ix1 i) := by
  blk_simp [iblk, place t]
  entry_read
  pointwise
  blk_ext [place t]

theorem x_blk (t : Fin cfg0.N) (r : Fin 512) (i : Fin 1024) :
    (iblk m c 0 t : Vec Ideal S512x1024 .f32) (ix2 r i) = X m c (ix2 ⟨t.val * 512 + r.val, by have := t.isLt; have e : cfg0.N = 32 := rfl; omega⟩ i) := by
  blk_ext [iblk, V_main_arg0, place t]

/-- Every point finds the weights the first one rounded. -/
theorem held : ∀ (n : ℕ) (h : n < cfg0.N), (outsAt0 m c n h).2.2.2.2 = k0_pay2 (W m c)
  | 0, h => by
    rw [outsAt0_A m c ⟨0, h⟩ rfl]
    frame_out
    rw [w_blk]
  | n + 1, h => by
    have e : ¬ (n + 1) % 32 = 0 := by have e : cfg0.N = 32 := rfl; omega
    rw [outsAt0_B m c ⟨n + 1, h⟩ e]
    exact held n (Nat.lt_of_succ_lt h)

theorem keys_pt (t : Fin cfg0.N) : (outsAt0 m c t.val t.isLt).2.1 = k0_pay4 (iblk m c 0 t) (iblk m c 1 t) (k0_pay2 (W m c)) := by
  by_cases h : t.val % 32 = 0
  · rw [outsAt0_A m c t h]
    frame_out
    rw [w_blk]
  · rw [outsAt0_B m c t h]
    frame_out
    simp only [read_unread_whole]
    rw [held]

theorem inputs_pt (t : Fin cfg0.N) : (outsAt0 m c t.val t.isLt).2.2.2.1 = k0_pay5 (iblk m c 0 t) (iblk m c 1 t) (k0_pay2 (W m c)) := by
  by_cases h : t.val % 32 = 0
  · rw [outsAt0_A m c t h]
    frame_out
    rw [w_blk]
  · rw [outsAt0_B m c t h]
    frame_out
    simp only [read_unread_whole]
    rw [held]

/-- The blocks of the spread heads, from the packed ones. -/
def spread (v : FVec Ideal S512x512 .bf16) (r : Fin 512) (k : Fin 1024) : Ideal .bf16 := if Own k.val then v (ix2 r ⟨packed k.val, by unfold packed; omega⟩) else 0

theorem piece (v : FVec Ideal S512x512 .bf16) (P : FVec Ideal S512x128 .bf16) (o h : ℕ) (ho : o + 128 ≤ 512)
    (hP : ∀ (r : Fin 512) (l : Fin 128), P (ix2 r l) = if l.val / 64 = h then v (ix2 r ⟨o + l.val, by omega⟩) else 0)
    (hh : h < 2) (hd : o % 128 = 0) (y : S512x1024.Idx) (x : S512x128.Idx)
    (h0 : (y 0).val = (x 0).val) (hx : (x 1).val < 128) (h1 : (y 1).val = 2 * o + 128 * h + (x 1).val) : P x = spread v (y 0) (y 1) := by
  have hx0 : (x 0).val < 512 := (x 0).isLt
  have ex : x = ix2 (⟨(x 0).val, hx0⟩ : Fin 512) (⟨(x 1).val, hx⟩ : Fin 128) := by funext a; match a with | ⟨0, _⟩ => rfl | ⟨1, _⟩ => rfl
  rw [ex, hP]
  unfold spread Own
  have e0 : (y 0 : Fin 512) = ⟨(x 0).val, hx0⟩ := Fin.ext h0
  have e1 : (y 1).val % 128 / 64 = (y 1).val / 128 % 2 ↔ (x 1).val / 64 = h := by omega
  have e2 : packed (y 1).val = o + (x 1).val := by unfold packed; omega
  refine (if_congr e1 ?_ rfl).symm
  congr 1
  exact congrArg₂ ix2 e0 (Fin.ext e2)

theorem queries_pt (t : Fin cfg0.N) (y : S512x1024.Idx) :
    (outsAt0 m c t.val t.isLt).1 y = spread (k0_pay6 (iblk m c 0 t) (iblk m c 1 t) (k0_pay2 (W m c))) (y 0) (y 1) := by
  by_cases h : t.val % 32 = 0
  · rw [outsAt0_A m c t h]
    frame_out
    rw [w_blk]
    generalize k0_pay6 (iblk m c 0 t) (iblk m c 1 t) (k0_pay2 (W m c)) = v
    canon_tiles x h
    · exact piece v _ 384 1 (by omega) (q7 v) (by omega) rfl y x h0 x1_lt (by omega)
    · exact piece v _ 384 0 (by omega) (q6 v) (by omega) rfl y x h0 x1_lt (by omega)
    · exact piece v _ 256 1 (by omega) (q5 v) (by omega) rfl y x h0 x1_lt (by omega)
    · exact piece v _ 256 0 (by omega) (q4 v) (by omega) rfl y x h0 x1_lt (by omega)
    · exact piece v _ 128 1 (by omega) (q3 v) (by omega) rfl y x h0 x1_lt (by omega)
    · exact piece v _ 128 0 (by omega) (q2 v) (by omega) rfl y x h0 x1_lt (by omega)
    · exact piece v _ 0 1 (by omega) (q1 v) (by omega) rfl y x h0 x1_lt (by omega)
    · exact piece v _ 0 0 (by omega) (q0 v) (by omega) rfl y x h0 x1_lt (by omega)
  · rw [outsAt0_B m c t h]
    frame_out
    simp only [read_unread_whole]
    rw [held]
    generalize k0_pay6 (iblk m c 0 t) (iblk m c 1 t) (k0_pay2 (W m c)) = v
    canon_tiles x h
    · exact piece v _ 384 1 (by omega) (q7 v) (by omega) rfl y x h0 x1_lt (by omega)
    · exact piece v _ 384 0 (by omega) (q6 v) (by omega) rfl y x h0 x1_lt (by omega)
    · exact piece v _ 256 1 (by omega) (q5 v) (by omega) rfl y x h0 x1_lt (by omega)
    · exact piece v _ 256 0 (by omega) (q4 v) (by omega) rfl y x h0 x1_lt (by omega)
    · exact piece v _ 128 1 (by omega) (q3 v) (by omega) rfl y x h0 x1_lt (by omega)
    · exact piece v _ 128 0 (by omega) (q2 v) (by omega) rfl y x h0 x1_lt (by omega)
    · exact piece v _ 0 1 (by omega) (q1 v) (by omega) rfl y x h0 x1_lt (by omega)
    · exact piece v _ 0 0 (by omega) (q0 v) (by omega) rfl y x h0 x1_lt (by omega)

theorem values_pt (t : Fin cfg0.N) (y : S512x1024.Idx) :
    (outsAt0 m c t.val t.isLt).2.2.1 y = spread (k0_pay7 (iblk m c 0 t) (iblk m c 1 t) (k0_pay2 (W m c))) (y 0) (y 1) := by
  by_cases h : t.val % 32 = 0
  · rw [outsAt0_A m c t h]
    frame_out
    rw [w_blk]
    generalize k0_pay7 (iblk m c 0 t) (iblk m c 1 t) (k0_pay2 (W m c)) = v
    canon_tiles x h
    · exact piece v _ 384 1 (by omega) (v7 v) (by omega) rfl y x h0 x1_lt (by omega)
    · exact piece v _ 384 0 (by omega) (v6 v) (by omega) rfl y x h0 x1_lt (by omega)
    · exact piece v _ 256 1 (by omega) (v5 v) (by omega) rfl y x h0 x1_lt (by omega)
    · exact piece v _ 256 0 (by omega) (v4 v) (by omega) rfl y x h0 x1_lt (by omega)
    · exact piece v _ 128 1 (by omega) (v3 v) (by omega) rfl y x h0 x1_lt (by omega)
    · exact piece v _ 128 0 (by omega) (v2 v) (by omega) rfl y x h0 x1_lt (by omega)
    · exact piece v _ 0 1 (by omega) (v1 v) (by omega) rfl y x h0 x1_lt (by omega)
    · exact piece v _ 0 0 (by omega) (v0 v) (by omega) rfl y x h0 x1_lt (by omega)
  · rw [outsAt0_B m c t h]
    frame_out
    simp only [read_unread_whole]
    rw [held]
    generalize k0_pay7 (iblk m c 0 t) (iblk m c 1 t) (k0_pay2 (W m c)) = v
    canon_tiles x h
    · exact piece v _ 384 1 (by omega) (v7 v) (by omega) rfl y x h0 x1_lt (by omega)
    · exact piece v _ 384 0 (by omega) (v6 v) (by omega) rfl y x h0 x1_lt (by omega)
    · exact piece v _ 256 1 (by omega) (v5 v) (by omega) rfl y x h0 x1_lt (by omega)
    · exact piece v _ 256 0 (by omega) (v4 v) (by omega) rfl y x h0 x1_lt (by omega)
    · exact piece v _ 128 1 (by omega) (v3 v) (by omega) rfl y x h0 x1_lt (by omega)
    · exact piece v _ 128 0 (by omega) (v2 v) (by omega) rfl y x h0 x1_lt (by omega)
    · exact piece v _ 0 1 (by omega) (v1 v) (by omega) rfl y x h0 x1_lt (by omega)
    · exact piece v _ 0 0 (by omega) (v0 v) (by omega) rfl y x h0 x1_lt (by omega)

/-! ## The result arrays -/

/-- The packed projection at a row and a column. -/
abbrev at' (r : Fin 16384) (k : Fin 2048) : Ideal .f32 := prj (fun i => X m c (ix2 r i)) (fun i => G m c (ix1 i)) (fun i => W m c (ix2 i k))

def Keys : Vec Ideal S16384x512 .bf16 := fun i => at' m c (i 0) ⟨512 + (i 1).val, by have h : (i 1).val < 512 := (i 1).isLt; omega⟩
def Inputs : Vec Ideal S16384x512 .f32 := fun i => at' m c (i 0) ⟨1536 + (i 1).val, by have h : (i 1).val < 512 := (i 1).isLt; omega⟩
def Queries : Vec Ideal S16384x1024 .bf16 := fun i =>
  if Own (i 1).val then at' m c (i 0) ⟨packed (i 1).val, by have h : (i 1).val < 1024 := (i 1).isLt; unfold packed; omega⟩ * scale else 0
def Values : Vec Ideal S16384x1024 .bf16 := fun i =>
  if Own (i 1).val then at' m c (i 0) ⟨1024 + packed (i 1).val, by have h : (i 1).val < 1024 := (i 1).isLt; unfold packed; omega⟩ else 0

theorem row (t : Fin cfg0.N) (r : Fin 512) : t.val * 512 + r.val < 16384 := by have := t.isLt; have e : cfg0.N = 32 := rfl; omega

theorem prj_blk (t : Fin cfg0.N) (r : Fin 512) (k : Fin 2048) :
    prj (fun i => (iblk m c 0 t : Vec Ideal S512x1024 .f32) (ix2 r i)) (fun i => (iblk m c 1 t : Vec Ideal S1x1024 .f32) (ix2 0 i)) (fun i => W m c (ix2 i k))
      = at' m c ⟨t.val * 512 + r.val, row t r⟩ k := by
  simp only [x_blk, g_blk]

theorem place_queries (t : Fin cfg0.N) (y : S512x1024.Idx) : ((win0_3.blk t).view.emb y : S16384x1024.Idx) = ix2 ⟨t.val * 512 + (y 0).val, row t (y 0)⟩ (y 1) := by
  blk_ext [place t]

theorem place_keys (t : Fin cfg0.N) (y : S512x512.Idx) : ((win0_4.blk t).view.emb y : S16384x512.Idx) = ix2 ⟨t.val * 512 + (y 0).val, row t (y 0)⟩ (y 1) := by
  blk_ext [place t]

theorem place_values (t : Fin cfg0.N) (y : S512x1024.Idx) : ((win0_5.blk t).view.emb y : S16384x1024.Idx) = ix2 ⟨t.val * 512 + (y 0).val, row t (y 0)⟩ (y 1) := by
  blk_ext [place t]

theorem place_inputs (t : Fin cfg0.N) (y : S512x512.Idx) : ((win0_6.blk t).view.emb y : S16384x512.Idx) = ix2 ⟨t.val * 512 + (y 0).val, row t (y 0)⟩ (y 1) := by
  blk_ext [place t]

theorem keys_end : (dats m 0 c).arrAt 4 cfg0.N = Keys m c := by
  refine (dats m 0 c).arrAt_eq_of_covers 4 (Keys m c) (by decide +kernel) (fun t hf y => ?_) (Memref.isWhole_whole main_v1_1)
  blk_simp
  rw [after0_4, keys_pt]
  have ey : y = (ix2 (y 0 : Fin 512) (y 1 : Fin 512) : S512x512.Idx) := by funext a; match a with | ⟨0, _⟩ => rfl | ⟨1, _⟩ => rfl
  refine (congrArg (k0_pay4 (iblk m c 0 t) (iblk m c 1 t) (k0_pay2 (W m c))) ey).trans ((keys_at (y 0 : Fin 512) (iblk m c 0 t) (iblk m c 1 t) (W m c) (y 1 : Fin 512)).trans ?_)
  refine (prj_blk m c t (y 0 : Fin 512) _).trans ?_
  exact (congrArg (Keys m c) (place_keys t y)).symm

theorem inputs_end : (dats m 0 c).arrAt 6 cfg0.N = Inputs m c := by
  refine (dats m 0 c).arrAt_eq_of_covers 6 (Inputs m c) (by decide +kernel) (fun t hf y => ?_) (Memref.isWhole_whole main_v1_3)
  blk_simp
  rw [after0_6, inputs_pt]
  have ey : y = (ix2 (y 0 : Fin 512) (y 1 : Fin 512) : S512x512.Idx) := by funext a; match a with | ⟨0, _⟩ => rfl | ⟨1, _⟩ => rfl
  refine (congrArg (k0_pay5 (iblk m c 0 t) (iblk m c 1 t) (k0_pay2 (W m c))) ey).trans ((inputs_at (y 0 : Fin 512) (iblk m c 0 t) (iblk m c 1 t) (W m c) (y 1 : Fin 512)).trans ?_)
  refine (prj_blk m c t (y 0 : Fin 512) _).trans ?_
  exact (congrArg (Inputs m c) (place_inputs t y)).symm

theorem queries_end : (dats m 0 c).arrAt 3 cfg0.N = Queries m c := by
  refine (dats m 0 c).arrAt_eq_of_covers 3 (Queries m c) (by decide +kernel) (fun t hf y => ?_) (Memref.isWhole_whole main_v1_0)
  blk_simp
  rw [after0_3, queries_pt]
  refine Eq.trans ?_ (congrArg (Queries m c) (place_queries t y)).symm
  unfold spread Queries
  refine if_congr Iff.rfl ?_ rfl
  refine (queries_at _ (iblk m c 0 t) (iblk m c 1 t) (W m c) _).trans ?_
  exact congrArg (· * scale) (prj_blk m c t (y 0 : Fin 512) _)

theorem values_end : (dats m 0 c).arrAt 5 cfg0.N = Values m c := by
  refine (dats m 0 c).arrAt_eq_of_covers 5 (Values m c) (by decide +kernel) (fun t hf y => ?_) (Memref.isWhole_whole main_v1_2)
  blk_simp
  rw [after0_5, values_pt]
  refine Eq.trans ?_ (congrArg (Values m c) (place_values t y)).symm
  unfold spread Values
  refine if_congr Iff.rfl ?_ rfl
  refine (values_at _ (iblk m c 0 t) (iblk m c 1 t) (W m c) _).trans ?_
  exact prj_blk m c t (y 0 : Fin 512) _

end Cert.Kernel2Ideal.Own
-- ==== Proof.ProjRef.lean ====
/- The input projection's reference over the reals, read at an index. -/
module

public import proofs.«01_k».proof.Proof.Gen.Reference2Ideal.Run
public import proofs.«01_k».proof.Proof.Proj
public import Idealize.ShloMosaic.Lib.Pipeline.ValueKit
public import Idealize.ShloMosaic.Lib.Pipeline.ReadBack

@[expose] public section

noncomputable section

namespace Cert.Reference2Ideal.Own

open Idealize.ShloMosaic Idealize.ShloMosaic.TcCoe Idealize.ShloMosaic.Tactic Idealize.SL.Sem
open Cert.Reference2Ideal Cert.Reference2Ideal.Gen Cert.Proj

/-- Which lanes belong to which head of a pair. -/
def heads : IVec S2x128 1 := (cmpi .eq (broadcastInDim S2x128 ![0, 1] bcast_S1x128_S2x128_0_1 (select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32)))))) (broadcastInDim S2x128 ![0, 1] bcast_S2x1_S2x128_0_1 (broadcastInDim S2x1 ![0] bcast_S2_S2x1_0 (iotaInDim S2 32 0))))

theorem heads_at : ∀ (h : Fin 2) (l : Fin 128), heads (ix2 h l) = if l.val / 64 = h.val then 1#1 else 0#1 := by decide +kernel

/-- A pair's lanes kept by the head they belong to. -/
def kept (v : FVec Ideal S16384x512 .f32) : FVec Ideal S16384x1024 .f32 := shapeCast _ (select (broadcastInDim S16384x4x2x128 ![0, 1, 2, 3] bcast_S1x1x2x128_S16384x4x2x128_0_1_2_3 (broadcastInDim S1x1x2x128 ![2, 3] bcast_S2x128_S1x1x2x128_2_3 heads)) (broadcastInDim S16384x4x2x128 ![0, 1, 2, 3] bcast_S16384x4x1x128_S16384x4x2x128_0_1_2_3 (shapeCast _ v shapeCasts_S16384x512_S16384x4x1x128)) (broadcastInDim S16384x4x2x128 ![] bcast_S_S16384x4x2x128 (id (constant S_ .f32 0x00000000#32)))) shapeCasts_S16384x4x2x128_S16384x1024

variable (x : FVec Ideal S16384x1024 .f32) (g : FVec Ideal S1024 .f32) (w : FVec Ideal S1024x2048 .f32)

/-- The projection. -/
def proj : FVec Ideal S16384x2048 .f32 := Host.dotGeneral dot_S16384x1024_S1024x2048_S16384x2048_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) w

theorem proj_at (r : Fin 16384) (k : Fin 2048) : proj x g w (ix2 r k) = prj (fun i => x (ix2 r i)) (fun i => g (ix1 i)) (fun i => w (ix2 i k)) := by
  unfold proj prj
  pointwise

theorem kept_at (v : FVec Ideal S16384x512 .f32) (r : Fin 16384) (k : Fin 1024) :
    kept v (ix2 r k) = if Own k.val then v (ix2 r ⟨packed k.val, by unfold packed; omega⟩) else 0 := by
  unfold kept
  pointwise
  exact (select_word _ _ (heads_at _ _) _ _).trans (if_congr ⟨fun h => h, fun h => h⟩ rfl Ideal.ofBits_zero_f32)

/-! ## The four results -/

def keys : FVec Ideal S16384x512 .bf16 := truncf .bf16 (extractStridedSlice S16384x512 ![0, 512] (proj x g w) slices_S16384x2048_S16384x512_0_512) bitsLt_bf16_f32
def inputs : FVec Ideal S16384x512 .f32 := extractStridedSlice S16384x512 ![0, 1536] (proj x g w) slices_S16384x2048_S16384x512_0_1536
def queries : FVec Ideal S16384x1024 .bf16 :=
  truncf .bf16 (kept (mulf (extractStridedSlice S16384x512 ![0, 0] (proj x g w) slices_S16384x2048_S16384x512_0_0)
    (broadcastInDim S16384x512 ![] bcast_S_S16384x512 (constant S_ .f32 0x3E38AA3B#32)))) bitsLt_bf16_f32
def values : FVec Ideal S16384x1024 .bf16 :=
  truncf .bf16 (kept (extractStridedSlice S16384x512 ![0, 1024] (proj x g w) slices_S16384x2048_S16384x512_0_1024)) bitsLt_bf16_f32

variable (r : Fin 16384)

theorem keys_at (k : Fin 512) : keys x g w (ix2 r k) = prj (fun i => x (ix2 r i)) (fun i => g (ix1 i)) (fun i => w (ix2 i ⟨512 + k.val, by omega⟩)) := by
  rw [← proj_at]
  unfold keys
  pointwise

theorem inputs_at (k : Fin 512) : inputs x g w (ix2 r k) = prj (fun i => x (ix2 r i)) (fun i => g (ix1 i)) (fun i => w (ix2 i ⟨1536 + k.val, by omega⟩)) := by
  rw [← proj_at]
  unfold inputs
  pointwise

theorem queries_at (k : Fin 1024) : queries x g w (ix2 r k) =
    if Own k.val then prj (fun i => x (ix2 r i)) (fun i => g (ix1 i)) (fun i => w (ix2 i ⟨packed k.val, by unfold packed; omega⟩)) * scale else 0 := by
  rw [← proj_at]
  refine (kept_at _ r k).trans (if_congr Iff.rfl ?_ rfl)
  unfold scale
  pointwise

theorem values_at (k : Fin 1024) : values x g w (ix2 r k) =
    if Own k.val then prj (fun i => x (ix2 r i)) (fun i => g (ix1 i)) (fun i => w (ix2 i ⟨1024 + packed k.val, by unfold packed; omega⟩)) else 0 := by
  rw [← proj_at]
  refine (kept_at _ r k).trans (if_congr Iff.rfl ?_ rfl)
  pointwise

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun s => ∀ c : Dev nD,
      s.2.mem ((c.tc : Thread nD τ).loc main_v33) = queries (m ((c.tc : Thread nD τ).loc main_arg0)) (m ((c.tc : Thread nD τ).loc main_arg1)) (m ((c.tc : Thread nD τ).loc main_arg2))
      ∧ s.2.mem ((c.tc : Thread nD τ).loc main_v35) = keys (m ((c.tc : Thread nD τ).loc main_arg0)) (m ((c.tc : Thread nD τ).loc main_arg1)) (m ((c.tc : Thread nD τ).loc main_arg2))
      ∧ s.2.mem ((c.tc : Thread nD τ).loc main_v36) = values (m ((c.tc : Thread nD τ).loc main_arg0)) (m ((c.tc : Thread nD τ).loc main_arg1)) (m ((c.tc : Thread nD τ).loc main_arg2))
      ∧ s.2.mem ((c.tc : Thread nD τ).loc main_v37) = inputs (m ((c.tc : Thread nD τ).loc main_arg0)) (m ((c.tc : Thread nD τ).loc main_arg1)) (m ((c.tc : Thread nD τ).loc main_arg2))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2) := Cert.Reference2Ideal.Value.run m ρ

end Cert.Reference2Ideal.Own
-- ==== Proof.ProjVal.lean ====
/- The input projection's kernel and reference compute the same arrays over the reals. -/
module

public import proofs.«01_k».proof.Proof.ProjKer
public import proofs.«01_k».proof.Proof.ProjRef

@[expose] public section

noncomputable section

namespace Cert.Proj

open Idealize.ShloMosaic Idealize.ShloMosaic.TcCoe

variable (m : (ℓ : Loc Cert.Kernel2Ideal.nD Cert.Kernel2Ideal.τ Cert.Kernel2Ideal.sig) → Buf (Elt Ideal) ℓ) (c : Dev Cert.Kernel2Ideal.nD)

open Cert.Kernel2Ideal.Own

theorem ext2 {n k : ℕ} {α : Type} {f g : (Shape.Idx ⟨2, ![n, k]⟩) → α} (h : ∀ (r : Fin n) (l : Fin k), f (ix2 r l) = g (ix2 r l)) : f = g := by
  funext i
  have e : i = ix2 (i 0) (i 1) := by funext a; match a with | ⟨0, _⟩ => rfl | ⟨1, _⟩ => rfl
  rw [e]
  exact h _ _

theorem queries_eq : Cert.Reference2Ideal.Own.queries (X m c) (G m c) (W m c) = Queries m c := ext2 fun r k => Cert.Reference2Ideal.Own.queries_at _ _ _ r k
theorem keys_eq : Cert.Reference2Ideal.Own.keys (X m c) (G m c) (W m c) = Keys m c := ext2 fun r k => Cert.Reference2Ideal.Own.keys_at _ _ _ r k
theorem values_eq : Cert.Reference2Ideal.Own.values (X m c) (G m c) (W m c) = Values m c := ext2 fun r k => Cert.Reference2Ideal.Own.values_at _ _ _ r k
theorem inputs_eq : Cert.Reference2Ideal.Own.inputs (X m c) (G m c) (W m c) = Inputs m c := ext2 fun r k => Cert.Reference2Ideal.Own.inputs_at _ _ _ r k

end Cert.Proj
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Tables
public import proofs.«01_k».proof.Proof.Pre
public import proofs.«01_k».proof.Proof.Same
public import proofs.«01_k».proof.Proof.Val
public import proofs.«01_k».proof.Proof.ProjVal

@[expose] public section

namespace Cert.Proof

open Idealize.ShloMosaic Idealize.ShloMosaic.TcCoe Idealize.SL.Sem

section
open Cert.KernelIdeal Cert.KernelIdeal.Own

variable {F : FTy → Type} [FloatOps F]

/-- The counts of a launch memory. -/
abbrev cnt (m : (ℓ : Loc nD τ sig) → Buf (Elt F) ℓ) (c : Dev nD) : ℕ → ℕ := Plan.counts (m ((c.tc : Thread nD τ).loc main_arg0))

theorem ok (m : (ℓ : Loc nD τ sig) → Buf (Elt F) ℓ) (h : ∀ c, Plan.Counts (cnt m c)) (c : Dev nD) : (envV (entry m c)).OK :=
  env_ok m c (cnt m c) (h c) (Plan.counts_word _)

/-- The run with the arguments read back to the launch memory. -/
theorem run_kernel (m : (ℓ : Loc nD τ sig) → Buf (Elt F) ℓ) (g : Dev nD → PrngReg) (h : ∀ c, Plan.Counts (cnt m c)) :
    θ_run (defs (F := F)) (onTc (τ := τ) (main (F := F))) ⟨m, fun _ => 0, g⟩ (fun r => (∀ c : Dev nD,
      r.2.mem ((c.tc : Thread nD τ).loc main_v53) = yfin (envV (entry m c)) (ok m h c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defs (F := F)) _ _).mono (fun _ hr => ⟨fun c => by
    obtain ⟨hy, h0, h1, h2, h3, h4, h5, h6, h7⟩ := hr.1 c
    exact ⟨hy, h0.trans (entry_arg0 m c), h1.trans (entry_arg1 m c), h2.trans (entry_arg2 m c), h3.trans (entry_arg3 m c),
      h4.trans (entry_arg4 m c), h5.trans (entry_arg5 m c), h6.trans (entry_arg6 m c), h7.trans (entry_arg7 m c)⟩, hr.2⟩)
    (run_main (F := F) m g (ok m h))

end

theorem frame_kernelIdeal : Cert.quiescent_KernelIdeal := fun m g h =>
  (θ_run Cert.KernelIdeal.defs _ _).mono (fun _ hr => ⟨fun c => (hr.1 c).2, hr.2⟩)
    (run_kernel (F := Ideal) m g fun c => Plan.counts_of_pre _ _ _ _ _ _ _ _ (h c))

theorem frame_kernel : Cert.quiescent_Kernel := by
  intro m g h
  rw [Cert.Same.defs_eq, Cert.Same.main_eq]
  exact (θ_run Cert.KernelIdeal.defs _ _).mono (fun _ hr => ⟨fun c => (hr.1 c).2, hr.2⟩)
    (run_kernel (F := Bits) m g fun c => Plan.counts_of_pre _ _ _ _ _ _ _ _ (h c))

theorem frame_reference : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

theorem algebraic : Cert.algebraic_KernelIdeal_ReferenceIdeal := by
  intro m g m' g' hpre hagree
  have hC : ∀ c, Plan.Counts (cnt (F := Ideal) m c) := fun c => Plan.counts_of_pre _ _ _ _ _ _ _ _ (hpre c)
  refine ⟨fun c => Cert.KernelIdeal.Own.yfin (Cert.KernelIdeal.Own.envV (Cert.KernelIdeal.Own.entry m c)) (ok m hC c), ?_, ?_⟩
  · exact (θ_run Cert.KernelIdeal.defs _ _).mono (fun _ hr => hr.1) (run_kernel (F := Ideal) m g hC)
  · refine (θ_run Cert.ReferenceIdeal.defs _ _).mono (fun r hr c => ⟨(hr c).1.trans ?_, (hr c).2⟩) (Cert.ReferenceIdeal.Value.run (F := Ideal) m' g')
    obtain ⟨h0, h1, h2, h3, h4, h5, h6, h7⟩ := hagree c
    rw [Cert.ReferenceIdeal.Own.result_eq, h0, h1, h2, h3, h4, h5, h6, h7]
    exact Cert.KernelIdeal.Own.value (hC c) (Cert.KernelIdeal.Own.entry m c) (ok m hC c)
      (fun _ ht => Cert.KernelIdeal.Own.env_E (cnt (F := Ideal) m c) _ (Cert.KernelIdeal.Own.e19 m c _ (hC c) (Plan.counts_word _)) ht)
      (Cert.KernelIdeal.Own.env_n (cnt (F := Ideal) m c) (hC c) _ (Cert.KernelIdeal.Own.e23 m c _ (hC c) (Plan.counts_word _)))
      _ (Plan.counts_word _) _ _ _ _ _ _ _
      (Cert.KernelIdeal.Own.entry_arg1 m c) (Cert.KernelIdeal.Own.entry_arg2 m c) (Cert.KernelIdeal.Own.entry_arg3 m c) (Cert.KernelIdeal.Own.entry_arg4 m c)
      (Cert.KernelIdeal.Own.entry_arg5 m c) (Cert.KernelIdeal.Own.entry_arg6 m c) (Cert.KernelIdeal.Own.entry_arg7 m c)

/-! ## The input projection -/

theorem frame_kernel2 : Cert.quiescent_Kernel2 := fun m g _ => Cert.Kernel2.Gen.frame m g

theorem frame_kernel2Ideal : Cert.quiescent_Kernel2Ideal := fun m g _ => Cert.Kernel2Ideal.Gen.frame m g

theorem frame_reference2 : Cert.quiescent_Reference2Ideal := fun m g _ =>
  (θ_run Cert.Reference2Ideal.defs _ _).mono (fun r hr => ⟨fun c => (hr c).2.2.2.2, sem_eq_zero_of_no_sems (by decide) r.2⟩)
    (Cert.Reference2Ideal.Own.run m g)

theorem algebraic2 : Cert.algebraic_Kernel2Ideal_Reference2Ideal := by
  intro m g m' g' _ hagree
  refine ⟨Cert.Kernel2Ideal.Own.Queries m, Cert.Kernel2Ideal.Own.Keys m, Cert.Kernel2Ideal.Own.Values m, Cert.Kernel2Ideal.Own.Inputs m, ?_, ?_⟩
  · run_from Cert.Kernel2Ideal.Gen.run_main m g
    · exact Cert.Kernel2Ideal.Own.queries_end m c
    · exact Cert.Kernel2Ideal.Own.keys_end m c
    · exact Cert.Kernel2Ideal.Own.values_end m c
    · exact Cert.Kernel2Ideal.Own.inputs_end m c
  · refine (θ_run Cert.Reference2Ideal.defs _ _).mono (fun r hr c => ?_) (Cert.Reference2Ideal.Own.run m' g')
    obtain ⟨h0, h1, h2⟩ := hagree c
    obtain ⟨hq, hk, hv, hu, ha⟩ := hr c
    rw [h0, h1, h2] at hq hk hv hu
    exact ⟨hq.trans (Cert.Proj.queries_eq m c), hk.trans (Cert.Proj.keys_eq m c), hv.trans (Cert.Proj.values_eq m c), hu.trans (Cert.Proj.inputs_eq m c), ha⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_counts_in_range.Gen.facts,
    frame_kernel, frame_kernelIdeal, frame_reference, frame_kernel2, frame_kernel2Ideal, frame_reference2, trivial, algebraic, trivial, algebraic2⟩

end Cert.Proof
